-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S16x2x64x256 : Shape := ⟨4, ![16, 2, 64, 256]⟩
abbrev S128x256 : Shape := ⟨2, ![128, 256]⟩
abbrev S15x2x64x256 : Shape := ⟨4, ![15, 2, 64, 256]⟩
abbrev S15x2 : Shape := ⟨2, ![15, 2]⟩
abbrev S_ : Shape := ⟨0, ![]⟩
abbrev S2x64x256 : Shape := ⟨3, ![2, 64, 256]⟩
abbrev S1x2x64x256 : Shape := ⟨4, ![1, 2, 64, 256]⟩
abbrev S1x1 : Shape := ⟨2, ![1, 1]⟩
abbrev S1x1x64x256 : Shape := ⟨4, ![1, 1, 64, 256]⟩
abbrev S64x256 : Shape := ⟨2, ![64, 256]⟩
abbrev S128x512 : Shape := ⟨2, ![128, 512]⟩

abbrev nBuf : Space → Nat
  | .hbm => 8
  | .vmem => 18
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S16x2x64x256, .bf16⟩
  | .local _ .vmem, ⟨9, _⟩ => ⟨S16x2x64x256, .bf16⟩
  | .local _ .vmem, ⟨10, _⟩ => ⟨S128x256, .f32⟩
  | .local _ .vmem, ⟨11, _⟩ => ⟨S128x256, .f32⟩
  | .local _ .vmem, ⟨12, _⟩ => ⟨S15x2x64x256, .f32⟩
  | .local _ .vmem, ⟨13, _⟩ => ⟨S15x2x64x256, .f32⟩
  | .local _ .vmem, ⟨14, _⟩ => ⟨S15x2x64x256, .f32⟩
  | .local _ .vmem, ⟨15, _⟩ => ⟨S15x2x64x256, .f32⟩
  | .local _ .vmem, ⟨16, _⟩ => ⟨S256x512, .bf16⟩
  | .local _ .vmem, ⟨17, _⟩ => ⟨S512x256, .bf16⟩
  | _, _ => ⟨S256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 248 → Bool
  | ⟨i, _⟩ => dmaSemScopedAt i

abbrev sig : RefSig :=
  (ofTc nBuf bufTy 1 248 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v104 : Index := Scalar.indexCast v34
  let c0_85 : Index := 0#32
  let c0_86 : Index := 0#32
  let c0_87 : Index := 0#32
  ![v104.toNat, 0, 0, 0]
def k0_dev1 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_101 : BitVec 32 := 1#32
  let v128 : BitVec 32 := Scalar.muli v98 c1_i32_101
  let v129 : BitVec 32 := Scalar.addi c0_i32_102 v128
  v129.toNat
def k0_dev2 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_104 : BitVec 32 := 1#32
  let v130 : BitVec 32 := Scalar.muli v96 c1_i32_104
  let v131 : BitVec 32 := Scalar.addi c0_i32_105 v130
  v131.toNat
def k0_off2 (d0 : Dev nD) (c0_i32_107 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v132 : BitVec 32 := Scalar.subi v34 c0_i32_107
  let c32_i32 : BitVec 32 := 32#32
  let v133 : BitVec 32 := Scalar.addi v132 c32_i32
  let c16_i32_108 : BitVec 32 := 16#32
  let v134 : BitVec 32 := Scalar.remsi v133 c16_i32_108
  let c0_i32_113 : BitVec 32 := 0#32
  let c0_i32_120 : BitVec 32 := 0#32
  let c0_i32_121 : BitVec 32 := 0#32
  ![v134.toNat, 0, 0, 0]
def k0_dev3 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_118 : BitVec 32 := 1#32
  let v138 : BitVec 32 := Scalar.muli v96 c1_i32_118
  let v139 : BitVec 32 := Scalar.addi c0_i32_119 v138
  v139.toNat
def k0_off3 (d0 : Dev nD) (c0_i32_107 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v132 : BitVec 32 := Scalar.subi v34 c0_i32_107
  let c32_i32 : BitVec 32 := 32#32
  let v133 : BitVec 32 := Scalar.addi v132 c32_i32
  let c16_i32_108 : BitVec 32 := 16#32
  let v134 : BitVec 32 := Scalar.remsi v133 c16_i32_108
  let c1_i32_125 : BitVec 32 := 1#32
  let c0_i32_132 : BitVec 32 := 0#32
  let c0_i32_133 : BitVec 32 := 0#32
  ![v134.toNat, 1, 0, 0]
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_130 : BitVec 32 := 1#32
  let v148 : BitVec 32 := Scalar.muli v96 c1_i32_130
  let v149 : BitVec 32 := Scalar.addi c0_i32_131 v148
  v149.toNat
def k0_off4 (d0 : Dev nD) (c0_i32_109 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v135 : BitVec 32 := Scalar.addi v34 c0_i32_109
  let c32_i32_110 : BitVec 32 := 32#32
  let v136 : BitVec 32 := Scalar.addi v135 c32_i32_110
  let c16_i32_111 : BitVec 32 := 16#32
  let v137 : BitVec 32 := Scalar.remsi v136 c16_i32_111
  let c0_i32_137 : BitVec 32 := 0#32
  let c0_i32_144 : BitVec 32 := 0#32
  let c0_i32_145 : BitVec 32 := 0#32
  ![v137.toNat, 0, 0, 0]
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_142 : BitVec 32 := 1#32
  let v158 : BitVec 32 := Scalar.muli v98 c1_i32_142
  let v159 : BitVec 32 := Scalar.addi c0_i32_143 v158
  v159.toNat
def k0_off5 (d0 : Dev nD) (c0_i32_109 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v135 : BitVec 32 := Scalar.addi v34 c0_i32_109
  let c32_i32_110 : BitVec 32 := 32#32
  let v136 : BitVec 32 := Scalar.addi v135 c32_i32_110
  let c16_i32_111 : BitVec 32 := 16#32
  let v137 : BitVec 32 := Scalar.remsi v136 c16_i32_111
  let c1_i32_149 : BitVec 32 := 1#32
  let c0_i32_156 : BitVec 32 := 0#32
  let c0_i32_157 : BitVec 32 := 0#32
  ![v137.toNat, 1, 0, 0]
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_154 : BitVec 32 := 1#32
  let v168 : BitVec 32 := Scalar.muli v98 c1_i32_154
  let v169 : BitVec 32 := Scalar.addi c0_i32_155 v168
  v169.toNat
def k0_off6 (d0 : Dev nD) (c0_i32_107 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v132 : BitVec 32 := Scalar.subi v34 c0_i32_107
  let c32_i32 : BitVec 32 := 32#32
  let v133 : BitVec 32 := Scalar.addi v132 c32_i32
  let c16_i32_108 : BitVec 32 := 16#32
  let v134 : BitVec 32 := Scalar.remsi v133 c16_i32_108
  let v178 : Index := Scalar.indexCast v134
  let c0_160 : Index := 0#32
  let c0_161 : Index := 0#32
  let c0_162 : Index := 0#32
  ![v178.toNat, 0, 0, 0]
def k0_off7 (d0 : Dev nD) (c0_i32_109 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let v135 : BitVec 32 := Scalar.addi v34 c0_i32_109
  let c32_i32_110 : BitVec 32 := 32#32
  let v136 : BitVec 32 := Scalar.addi v135 c32_i32_110
  let c16_i32_111 : BitVec 32 := 16#32
  let v137 : BitVec 32 := Scalar.remsi v136 c16_i32_111
  let v189 : Index := Scalar.indexCast v137
  let c0_169 : Index := 0#32
  let c0_170 : Index := 0#32
  let c0_171 : Index := 0#32
  ![v189.toNat, 0, 0, 0]
def k0_dev7 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_207 : BitVec 32 := 1#32
  let v220 : BitVec 32 := Scalar.muli v96 c1_i32_207
  let v221 : BitVec 32 := Scalar.addi c0_i32_208 v220
  v221.toNat
def k0_dev8 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_231 : BitVec 32 := 1#32
  let v238 : BitVec 32 := Scalar.muli v96 c1_i32_231
  let v239 : BitVec 32 := Scalar.addi c0_i32_232 v238
  v239.toNat
def k0_dev9 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_255 : BitVec 32 := 1#32
  let v256 : BitVec 32 := Scalar.muli v98 c1_i32_255
  let v257 : BitVec 32 := Scalar.addi c0_i32_256 v256
  v257.toNat
def k0_dev10 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_279 : BitVec 32 := 1#32
  let v274 : BitVec 32 := Scalar.muli v98 c1_i32_279
  let v275 : BitVec 32 := Scalar.addi c0_i32_280 v274
  v275.toNat
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_317 : BitVec 32 := 1#32
  let v310 : BitVec 32 := Scalar.muli v96 c1_i32_317
  let v311 : BitVec 32 := Scalar.addi c0_i32_318 v310
  v311.toNat
def k0_dev12 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_334 : BitVec 32 := 1#32
  let v324 : BitVec 32 := Scalar.muli v96 c1_i32_334
  let v325 : BitVec 32 := Scalar.addi c0_i32_335 v324
  v325.toNat
def k0_dev13 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_352 : BitVec 32 := 1#32
  let v338 : BitVec 32 := Scalar.muli v98 c1_i32_352
  let v339 : BitVec 32 := Scalar.addi c0_i32_353 v338
  v339.toNat
def k0_dev14 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_370 : BitVec 32 := 1#32
  let v352 : BitVec 32 := Scalar.muli v98 c1_i32_370
  let v353 : BitVec 32 := Scalar.addi c0_i32_371 v352
  v353.toNat
def k0_dev15 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_400 : BitVec 32 := 1#32
  let v376 : BitVec 32 := Scalar.muli v96 c1_i32_400
  let v377 : BitVec 32 := Scalar.addi c0_i32_401 v376
  v377.toNat
def k0_dev16 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_424 : BitVec 32 := 1#32
  let v394 : BitVec 32 := Scalar.muli v96 c1_i32_424
  let v395 : BitVec 32 := Scalar.addi c0_i32_425 v394
  v395.toNat
def k0_dev17 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_448 : BitVec 32 := 1#32
  let v412 : BitVec 32 := Scalar.muli v98 c1_i32_448
  let v413 : BitVec 32 := Scalar.addi c0_i32_449 v412
  v413.toNat
def k0_dev18 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_472 : BitVec 32 := 1#32
  let v430 : BitVec 32 := Scalar.muli v98 c1_i32_472
  let v431 : BitVec 32 := Scalar.addi c0_i32_473 v430
  v431.toNat
def k0_dev19 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_528 : BitVec 32 := 1#32
  let v477 : BitVec 32 := Scalar.muli v96 c1_i32_528
  let v478 : BitVec 32 := Scalar.addi c0_i32_529 v477
  v478.toNat
def k0_dev20 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_564 : BitVec 32 := 1#32
  let v502 : BitVec 32 := Scalar.muli v96 c1_i32_564
  let v503 : BitVec 32 := Scalar.addi c0_i32_565 v502
  v503.toNat
def k0_dev21 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_600 : BitVec 32 := 1#32
  let v527 : BitVec 32 := Scalar.muli v98 c1_i32_600
  let v528 : BitVec 32 := Scalar.addi c0_i32_601 v527
  v528.toNat
def k0_dev22 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_636 : BitVec 32 := 1#32
  let v552 : BitVec 32 := Scalar.muli v98 c1_i32_636
  let v553 : BitVec 32 := Scalar.addi c0_i32_637 v552
  v553.toNat
def k0_dev23 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_666 : BitVec 32 := 1#32
  let v576 : BitVec 32 := Scalar.muli v96 c1_i32_666
  let v577 : BitVec 32 := Scalar.addi c0_i32_667 v576
  v577.toNat
def k0_dev24 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_690 : BitVec 32 := 1#32
  let v594 : BitVec 32 := Scalar.muli v96 c1_i32_690
  let v595 : BitVec 32 := Scalar.addi c0_i32_691 v594
  v595.toNat
def k0_dev25 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_714 : BitVec 32 := 1#32
  let v612 : BitVec 32 := Scalar.muli v98 c1_i32_714
  let v613 : BitVec 32 := Scalar.addi c0_i32_715 v612
  v613.toNat
def k0_dev26 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_738 : BitVec 32 := 1#32
  let v630 : BitVec 32 := Scalar.muli v98 c1_i32_738
  let v631 : BitVec 32 := Scalar.addi c0_i32_739 v630
  v631.toNat
def k0_dev27 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_793 : BitVec 32 := 1#32
  let v677 : BitVec 32 := Scalar.muli v96 c1_i32_793
  let v678 : BitVec 32 := Scalar.addi c0_i32_794 v677
  v678.toNat
def k0_dev28 (d0 : Dev nD) : Nat :=
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_829 : BitVec 32 := 1#32
  let v702 : BitVec 32 := Scalar.muli v96 c1_i32_829
  let v703 : BitVec 32 := Scalar.addi c0_i32_830 v702
  v703.toNat
def k0_dev29 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_865 : BitVec 32 := 1#32
  let v727 : BitVec 32 := Scalar.muli v98 c1_i32_865
  let v728 : BitVec 32 := Scalar.addi c0_i32_866 v727
  v728.toNat
def k0_dev30 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_901 : BitVec 32 := 1#32
  let v752 : BitVec 32 := Scalar.muli v98 c1_i32_901
  let v753 : BitVec 32 := Scalar.addi c0_i32_902 v752
  v753.toNat
def k0_dev31 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_931 : BitVec 32 := 1#32
  let v776 : BitVec 32 := Scalar.muli v96 c1_i32_931
  let v777 : BitVec 32 := Scalar.addi c0_i32_932 v776
  v777.toNat
def k0_dev32 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_955 : BitVec 32 := 1#32
  let v794 : BitVec 32 := Scalar.muli v96 c1_i32_955
  let v795 : BitVec 32 := Scalar.addi c0_i32_956 v794
  v795.toNat
def k0_dev33 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_979 : BitVec 32 := 1#32
  let v812 : BitVec 32 := Scalar.muli v98 c1_i32_979
  let v813 : BitVec 32 := Scalar.addi c0_i32_980 v812
  v813.toNat
def k0_dev34 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1003 : BitVec 32 := 1#32
  let v830 : BitVec 32 := Scalar.muli v98 c1_i32_1003
  let v831 : BitVec 32 := Scalar.addi c0_i32_1004 v830
  v831.toNat
def k0_dev35 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1058 : BitVec 32 := 1#32
  let v877 : BitVec 32 := Scalar.muli v96 c1_i32_1058
  let v878 : BitVec 32 := Scalar.addi c0_i32_1059 v877
  v878.toNat
def k0_dev36 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1094 : BitVec 32 := 1#32
  let v902 : BitVec 32 := Scalar.muli v96 c1_i32_1094
  let v903 : BitVec 32 := Scalar.addi c0_i32_1095 v902
  v903.toNat
def k0_dev37 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1130 : BitVec 32 := 1#32
  let v927 : BitVec 32 := Scalar.muli v98 c1_i32_1130
  let v928 : BitVec 32 := Scalar.addi c0_i32_1131 v927
  v928.toNat
def k0_dev38 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1166 : BitVec 32 := 1#32
  let v952 : BitVec 32 := Scalar.muli v98 c1_i32_1166
  let v953 : BitVec 32 := Scalar.addi c0_i32_1167 v952
  v953.toNat
def k0_dev39 (d0 : Dev nD) : Nat :=
  let c0_i32_1197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1196 : BitVec 32 := 1#32
  let v976 : BitVec 32 := Scalar.muli v96 c1_i32_1196
  let v977 : BitVec 32 := Scalar.addi c0_i32_1197 v976
  v977.toNat
def k0_dev40 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1220 : BitVec 32 := 1#32
  let v994 : BitVec 32 := Scalar.muli v96 c1_i32_1220
  let v995 : BitVec 32 := Scalar.addi c0_i32_1221 v994
  v995.toNat
def k0_dev41 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1244 : BitVec 32 := 1#32
  let v1012 : BitVec 32 := Scalar.muli v98 c1_i32_1244
  let v1013 : BitVec 32 := Scalar.addi c0_i32_1245 v1012
  v1013.toNat
def k0_dev42 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1268 : BitVec 32 := 1#32
  let v1030 : BitVec 32 := Scalar.muli v98 c1_i32_1268
  let v1031 : BitVec 32 := Scalar.addi c0_i32_1269 v1030
  v1031.toNat
def k0_dev43 (d0 : Dev nD) : Nat :=
  let c0_i32_1324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1323 : BitVec 32 := 1#32
  let v1077 : BitVec 32 := Scalar.muli v96 c1_i32_1323
  let v1078 : BitVec 32 := Scalar.addi c0_i32_1324 v1077
  v1078.toNat
def k0_dev44 (d0 : Dev nD) : Nat :=
  let c0_i32_1360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1359 : BitVec 32 := 1#32
  let v1102 : BitVec 32 := Scalar.muli v96 c1_i32_1359
  let v1103 : BitVec 32 := Scalar.addi c0_i32_1360 v1102
  v1103.toNat
def k0_dev45 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1395 : BitVec 32 := 1#32
  let v1127 : BitVec 32 := Scalar.muli v98 c1_i32_1395
  let v1128 : BitVec 32 := Scalar.addi c0_i32_1396 v1127
  v1128.toNat
def k0_dev46 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1431 : BitVec 32 := 1#32
  let v1152 : BitVec 32 := Scalar.muli v98 c1_i32_1431
  let v1153 : BitVec 32 := Scalar.addi c0_i32_1432 v1152
  v1153.toNat
def k0_dev47 (d0 : Dev nD) : Nat :=
  let c0_i32_1462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1461 : BitVec 32 := 1#32
  let v1176 : BitVec 32 := Scalar.muli v96 c1_i32_1461
  let v1177 : BitVec 32 := Scalar.addi c0_i32_1462 v1176
  v1177.toNat
def k0_dev48 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1485 : BitVec 32 := 1#32
  let v1194 : BitVec 32 := Scalar.muli v96 c1_i32_1485
  let v1195 : BitVec 32 := Scalar.addi c0_i32_1486 v1194
  v1195.toNat
def k0_dev49 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1509 : BitVec 32 := 1#32
  let v1212 : BitVec 32 := Scalar.muli v98 c1_i32_1509
  let v1213 : BitVec 32 := Scalar.addi c0_i32_1510 v1212
  v1213.toNat
def k0_dev50 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1533 : BitVec 32 := 1#32
  let v1230 : BitVec 32 := Scalar.muli v98 c1_i32_1533
  let v1231 : BitVec 32 := Scalar.addi c0_i32_1534 v1230
  v1231.toNat
def k0_dev51 (d0 : Dev nD) : Nat :=
  let c0_i32_1589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1588 : BitVec 32 := 1#32
  let v1277 : BitVec 32 := Scalar.muli v96 c1_i32_1588
  let v1278 : BitVec 32 := Scalar.addi c0_i32_1589 v1277
  v1278.toNat
def k0_dev52 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1624 : BitVec 32 := 1#32
  let v1302 : BitVec 32 := Scalar.muli v96 c1_i32_1624
  let v1303 : BitVec 32 := Scalar.addi c0_i32_1625 v1302
  v1303.toNat
def k0_dev53 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1660 : BitVec 32 := 1#32
  let v1327 : BitVec 32 := Scalar.muli v98 c1_i32_1660
  let v1328 : BitVec 32 := Scalar.addi c0_i32_1661 v1327
  v1328.toNat
def k0_dev54 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1696 : BitVec 32 := 1#32
  let v1352 : BitVec 32 := Scalar.muli v98 c1_i32_1696
  let v1353 : BitVec 32 := Scalar.addi c0_i32_1697 v1352
  v1353.toNat
def k0_dev55 (d0 : Dev nD) : Nat :=
  let c0_i32_1727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1726 : BitVec 32 := 1#32
  let v1376 : BitVec 32 := Scalar.muli v96 c1_i32_1726
  let v1377 : BitVec 32 := Scalar.addi c0_i32_1727 v1376
  v1377.toNat
def k0_dev56 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1750 : BitVec 32 := 1#32
  let v1394 : BitVec 32 := Scalar.muli v96 c1_i32_1750
  let v1395 : BitVec 32 := Scalar.addi c0_i32_1751 v1394
  v1395.toNat
def k0_dev57 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1774 : BitVec 32 := 1#32
  let v1412 : BitVec 32 := Scalar.muli v98 c1_i32_1774
  let v1413 : BitVec 32 := Scalar.addi c0_i32_1775 v1412
  v1413.toNat
def k0_dev58 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1798 : BitVec 32 := 1#32
  let v1430 : BitVec 32 := Scalar.muli v98 c1_i32_1798
  let v1431 : BitVec 32 := Scalar.addi c0_i32_1799 v1430
  v1431.toNat
def k0_dev59 (d0 : Dev nD) : Nat :=
  let c0_i32_1854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1853 : BitVec 32 := 1#32
  let v1477 : BitVec 32 := Scalar.muli v96 c1_i32_1853
  let v1478 : BitVec 32 := Scalar.addi c0_i32_1854 v1477
  v1478.toNat
def k0_dev60 (d0 : Dev nD) : Nat :=
  let c0_i32_1890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1889 : BitVec 32 := 1#32
  let v1502 : BitVec 32 := Scalar.muli v96 c1_i32_1889
  let v1503 : BitVec 32 := Scalar.addi c0_i32_1890 v1502
  v1503.toNat
def k0_dev61 (d0 : Dev nD) : Nat :=
  let c0_i32_1926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1925 : BitVec 32 := 1#32
  let v1527 : BitVec 32 := Scalar.muli v98 c1_i32_1925
  let v1528 : BitVec 32 := Scalar.addi c0_i32_1926 v1527
  v1528.toNat
def k0_dev62 (d0 : Dev nD) : Nat :=
  let c0_i32_1962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_1961 : BitVec 32 := 1#32
  let v1552 : BitVec 32 := Scalar.muli v98 c1_i32_1961
  let v1553 : BitVec 32 := Scalar.addi c0_i32_1962 v1552
  v1553.toNat
def k0_dev63 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_1991 : BitVec 32 := 1#32
  let v1576 : BitVec 32 := Scalar.muli v96 c1_i32_1991
  let v1577 : BitVec 32 := Scalar.addi c0_i32_1992 v1576
  v1577.toNat
def k0_dev64 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2015 : BitVec 32 := 1#32
  let v1594 : BitVec 32 := Scalar.muli v96 c1_i32_2015
  let v1595 : BitVec 32 := Scalar.addi c0_i32_2016 v1594
  v1595.toNat
def k0_dev65 (d0 : Dev nD) : Nat :=
  let c0_i32_2040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2039 : BitVec 32 := 1#32
  let v1612 : BitVec 32 := Scalar.muli v98 c1_i32_2039
  let v1613 : BitVec 32 := Scalar.addi c0_i32_2040 v1612
  v1613.toNat
def k0_dev66 (d0 : Dev nD) : Nat :=
  let c0_i32_2064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2063 : BitVec 32 := 1#32
  let v1630 : BitVec 32 := Scalar.muli v98 c1_i32_2063
  let v1631 : BitVec 32 := Scalar.addi c0_i32_2064 v1630
  v1631.toNat
def k0_dev67 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2118 : BitVec 32 := 1#32
  let v1677 : BitVec 32 := Scalar.muli v96 c1_i32_2118
  let v1678 : BitVec 32 := Scalar.addi c0_i32_2119 v1677
  v1678.toNat
def k0_dev68 (d0 : Dev nD) : Nat :=
  let c0_i32_2155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2154 : BitVec 32 := 1#32
  let v1702 : BitVec 32 := Scalar.muli v96 c1_i32_2154
  let v1703 : BitVec 32 := Scalar.addi c0_i32_2155 v1702
  v1703.toNat
def k0_dev69 (d0 : Dev nD) : Nat :=
  let c0_i32_2191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2190 : BitVec 32 := 1#32
  let v1727 : BitVec 32 := Scalar.muli v98 c1_i32_2190
  let v1728 : BitVec 32 := Scalar.addi c0_i32_2191 v1727
  v1728.toNat
def k0_dev70 (d0 : Dev nD) : Nat :=
  let c0_i32_2227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2226 : BitVec 32 := 1#32
  let v1752 : BitVec 32 := Scalar.muli v98 c1_i32_2226
  let v1753 : BitVec 32 := Scalar.addi c0_i32_2227 v1752
  v1753.toNat
def k0_dev71 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2256 : BitVec 32 := 1#32
  let v1776 : BitVec 32 := Scalar.muli v96 c1_i32_2256
  let v1777 : BitVec 32 := Scalar.addi c0_i32_2257 v1776
  v1777.toNat
def k0_dev72 (d0 : Dev nD) : Nat :=
  let c0_i32_2281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2280 : BitVec 32 := 1#32
  let v1794 : BitVec 32 := Scalar.muli v96 c1_i32_2280
  let v1795 : BitVec 32 := Scalar.addi c0_i32_2281 v1794
  v1795.toNat
def k0_dev73 (d0 : Dev nD) : Nat :=
  let c0_i32_2305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2304 : BitVec 32 := 1#32
  let v1812 : BitVec 32 := Scalar.muli v98 c1_i32_2304
  let v1813 : BitVec 32 := Scalar.addi c0_i32_2305 v1812
  v1813.toNat
def k0_dev74 (d0 : Dev nD) : Nat :=
  let c0_i32_2329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2328 : BitVec 32 := 1#32
  let v1830 : BitVec 32 := Scalar.muli v98 c1_i32_2328
  let v1831 : BitVec 32 := Scalar.addi c0_i32_2329 v1830
  v1831.toNat
def k0_dev75 (d0 : Dev nD) : Nat :=
  let c0_i32_2384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2383 : BitVec 32 := 1#32
  let v1877 : BitVec 32 := Scalar.muli v96 c1_i32_2383
  let v1878 : BitVec 32 := Scalar.addi c0_i32_2384 v1877
  v1878.toNat
def k0_dev76 (d0 : Dev nD) : Nat :=
  let c0_i32_2420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2419 : BitVec 32 := 1#32
  let v1902 : BitVec 32 := Scalar.muli v96 c1_i32_2419
  let v1903 : BitVec 32 := Scalar.addi c0_i32_2420 v1902
  v1903.toNat
def k0_dev77 (d0 : Dev nD) : Nat :=
  let c0_i32_2456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2455 : BitVec 32 := 1#32
  let v1927 : BitVec 32 := Scalar.muli v98 c1_i32_2455
  let v1928 : BitVec 32 := Scalar.addi c0_i32_2456 v1927
  v1928.toNat
def k0_dev78 (d0 : Dev nD) : Nat :=
  let c0_i32_2492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2491 : BitVec 32 := 1#32
  let v1952 : BitVec 32 := Scalar.muli v98 c1_i32_2491
  let v1953 : BitVec 32 := Scalar.addi c0_i32_2492 v1952
  v1953.toNat
def k0_dev79 (d0 : Dev nD) : Nat :=
  let c0_i32_2522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2521 : BitVec 32 := 1#32
  let v1976 : BitVec 32 := Scalar.muli v96 c1_i32_2521
  let v1977 : BitVec 32 := Scalar.addi c0_i32_2522 v1976
  v1977.toNat
def k0_dev80 (d0 : Dev nD) : Nat :=
  let c0_i32_2546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2545 : BitVec 32 := 1#32
  let v1994 : BitVec 32 := Scalar.muli v96 c1_i32_2545
  let v1995 : BitVec 32 := Scalar.addi c0_i32_2546 v1994
  v1995.toNat
def k0_dev81 (d0 : Dev nD) : Nat :=
  let c0_i32_2570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2569 : BitVec 32 := 1#32
  let v2012 : BitVec 32 := Scalar.muli v98 c1_i32_2569
  let v2013 : BitVec 32 := Scalar.addi c0_i32_2570 v2012
  v2013.toNat
def k0_dev82 (d0 : Dev nD) : Nat :=
  let c0_i32_2594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2593 : BitVec 32 := 1#32
  let v2030 : BitVec 32 := Scalar.muli v98 c1_i32_2593
  let v2031 : BitVec 32 := Scalar.addi c0_i32_2594 v2030
  v2031.toNat
def k0_dev83 (d0 : Dev nD) : Nat :=
  let c0_i32_2649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2648 : BitVec 32 := 1#32
  let v2077 : BitVec 32 := Scalar.muli v96 c1_i32_2648
  let v2078 : BitVec 32 := Scalar.addi c0_i32_2649 v2077
  v2078.toNat
def k0_dev84 (d0 : Dev nD) : Nat :=
  let c0_i32_2685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2684 : BitVec 32 := 1#32
  let v2102 : BitVec 32 := Scalar.muli v96 c1_i32_2684
  let v2103 : BitVec 32 := Scalar.addi c0_i32_2685 v2102
  v2103.toNat
def k0_dev85 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2720 : BitVec 32 := 1#32
  let v2127 : BitVec 32 := Scalar.muli v98 c1_i32_2720
  let v2128 : BitVec 32 := Scalar.addi c0_i32_2721 v2127
  v2128.toNat
def k0_dev86 (d0 : Dev nD) : Nat :=
  let c0_i32_2757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2756 : BitVec 32 := 1#32
  let v2152 : BitVec 32 := Scalar.muli v98 c1_i32_2756
  let v2153 : BitVec 32 := Scalar.addi c0_i32_2757 v2152
  v2153.toNat
def k0_dev87 (d0 : Dev nD) : Nat :=
  let c0_i32_2787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2786 : BitVec 32 := 1#32
  let v2176 : BitVec 32 := Scalar.muli v96 c1_i32_2786
  let v2177 : BitVec 32 := Scalar.addi c0_i32_2787 v2176
  v2177.toNat
def k0_dev88 (d0 : Dev nD) : Nat :=
  let c0_i32_2811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2810 : BitVec 32 := 1#32
  let v2194 : BitVec 32 := Scalar.muli v96 c1_i32_2810
  let v2195 : BitVec 32 := Scalar.addi c0_i32_2811 v2194
  v2195.toNat
def k0_dev89 (d0 : Dev nD) : Nat :=
  let c0_i32_2835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2834 : BitVec 32 := 1#32
  let v2212 : BitVec 32 := Scalar.muli v98 c1_i32_2834
  let v2213 : BitVec 32 := Scalar.addi c0_i32_2835 v2212
  v2213.toNat
def k0_dev90 (d0 : Dev nD) : Nat :=
  let c0_i32_2859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2858 : BitVec 32 := 1#32
  let v2230 : BitVec 32 := Scalar.muli v98 c1_i32_2858
  let v2231 : BitVec 32 := Scalar.addi c0_i32_2859 v2230
  v2231.toNat
def k0_dev91 (d0 : Dev nD) : Nat :=
  let c0_i32_2914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2913 : BitVec 32 := 1#32
  let v2277 : BitVec 32 := Scalar.muli v96 c1_i32_2913
  let v2278 : BitVec 32 := Scalar.addi c0_i32_2914 v2277
  v2278.toNat
def k0_dev92 (d0 : Dev nD) : Nat :=
  let c0_i32_2950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_2949 : BitVec 32 := 1#32
  let v2302 : BitVec 32 := Scalar.muli v96 c1_i32_2949
  let v2303 : BitVec 32 := Scalar.addi c0_i32_2950 v2302
  v2303.toNat
def k0_dev93 (d0 : Dev nD) : Nat :=
  let c0_i32_2986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_2985 : BitVec 32 := 1#32
  let v2327 : BitVec 32 := Scalar.muli v98 c1_i32_2985
  let v2328 : BitVec 32 := Scalar.addi c0_i32_2986 v2327
  v2328.toNat
def k0_dev94 (d0 : Dev nD) : Nat :=
  let c0_i32_3022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3021 : BitVec 32 := 1#32
  let v2352 : BitVec 32 := Scalar.muli v98 c1_i32_3021
  let v2353 : BitVec 32 := Scalar.addi c0_i32_3022 v2352
  v2353.toNat
def k0_dev95 (d0 : Dev nD) : Nat :=
  let c0_i32_3052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3051 : BitVec 32 := 1#32
  let v2376 : BitVec 32 := Scalar.muli v96 c1_i32_3051
  let v2377 : BitVec 32 := Scalar.addi c0_i32_3052 v2376
  v2377.toNat
def k0_dev96 (d0 : Dev nD) : Nat :=
  let c0_i32_3076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3075 : BitVec 32 := 1#32
  let v2394 : BitVec 32 := Scalar.muli v96 c1_i32_3075
  let v2395 : BitVec 32 := Scalar.addi c0_i32_3076 v2394
  v2395.toNat
def k0_dev97 (d0 : Dev nD) : Nat :=
  let c0_i32_3100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3099 : BitVec 32 := 1#32
  let v2412 : BitVec 32 := Scalar.muli v98 c1_i32_3099
  let v2413 : BitVec 32 := Scalar.addi c0_i32_3100 v2412
  v2413.toNat
def k0_dev98 (d0 : Dev nD) : Nat :=
  let c0_i32_3124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3123 : BitVec 32 := 1#32
  let v2430 : BitVec 32 := Scalar.muli v98 c1_i32_3123
  let v2431 : BitVec 32 := Scalar.addi c0_i32_3124 v2430
  v2431.toNat
def k0_dev99 (d0 : Dev nD) : Nat :=
  let c0_i32_3179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3178 : BitVec 32 := 1#32
  let v2477 : BitVec 32 := Scalar.muli v96 c1_i32_3178
  let v2478 : BitVec 32 := Scalar.addi c0_i32_3179 v2477
  v2478.toNat
def k0_dev100 (d0 : Dev nD) : Nat :=
  let c0_i32_3215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3214 : BitVec 32 := 1#32
  let v2502 : BitVec 32 := Scalar.muli v96 c1_i32_3214
  let v2503 : BitVec 32 := Scalar.addi c0_i32_3215 v2502
  v2503.toNat
def k0_dev101 (d0 : Dev nD) : Nat :=
  let c0_i32_3251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3250 : BitVec 32 := 1#32
  let v2527 : BitVec 32 := Scalar.muli v98 c1_i32_3250
  let v2528 : BitVec 32 := Scalar.addi c0_i32_3251 v2527
  v2528.toNat
def k0_dev102 (d0 : Dev nD) : Nat :=
  let c0_i32_3287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3286 : BitVec 32 := 1#32
  let v2552 : BitVec 32 := Scalar.muli v98 c1_i32_3286
  let v2553 : BitVec 32 := Scalar.addi c0_i32_3287 v2552
  v2553.toNat
def k0_dev103 (d0 : Dev nD) : Nat :=
  let c0_i32_3317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3316 : BitVec 32 := 1#32
  let v2576 : BitVec 32 := Scalar.muli v96 c1_i32_3316
  let v2577 : BitVec 32 := Scalar.addi c0_i32_3317 v2576
  v2577.toNat
def k0_dev104 (d0 : Dev nD) : Nat :=
  let c0_i32_3341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3340 : BitVec 32 := 1#32
  let v2594 : BitVec 32 := Scalar.muli v96 c1_i32_3340
  let v2595 : BitVec 32 := Scalar.addi c0_i32_3341 v2594
  v2595.toNat
def k0_dev105 (d0 : Dev nD) : Nat :=
  let c0_i32_3365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3364 : BitVec 32 := 1#32
  let v2612 : BitVec 32 := Scalar.muli v98 c1_i32_3364
  let v2613 : BitVec 32 := Scalar.addi c0_i32_3365 v2612
  v2613.toNat
def k0_dev106 (d0 : Dev nD) : Nat :=
  let c0_i32_3389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3388 : BitVec 32 := 1#32
  let v2630 : BitVec 32 := Scalar.muli v98 c1_i32_3388
  let v2631 : BitVec 32 := Scalar.addi c0_i32_3389 v2630
  v2631.toNat
def k0_dev107 (d0 : Dev nD) : Nat :=
  let c0_i32_3444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3443 : BitVec 32 := 1#32
  let v2677 : BitVec 32 := Scalar.muli v96 c1_i32_3443
  let v2678 : BitVec 32 := Scalar.addi c0_i32_3444 v2677
  v2678.toNat
def k0_dev108 (d0 : Dev nD) : Nat :=
  let c0_i32_3480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3479 : BitVec 32 := 1#32
  let v2702 : BitVec 32 := Scalar.muli v96 c1_i32_3479
  let v2703 : BitVec 32 := Scalar.addi c0_i32_3480 v2702
  v2703.toNat
def k0_dev109 (d0 : Dev nD) : Nat :=
  let c0_i32_3516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3515 : BitVec 32 := 1#32
  let v2727 : BitVec 32 := Scalar.muli v98 c1_i32_3515
  let v2728 : BitVec 32 := Scalar.addi c0_i32_3516 v2727
  v2728.toNat
def k0_dev110 (d0 : Dev nD) : Nat :=
  let c0_i32_3552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3551 : BitVec 32 := 1#32
  let v2752 : BitVec 32 := Scalar.muli v98 c1_i32_3551
  let v2753 : BitVec 32 := Scalar.addi c0_i32_3552 v2752
  v2753.toNat
def k0_dev111 (d0 : Dev nD) : Nat :=
  let c0_i32_3582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3581 : BitVec 32 := 1#32
  let v2776 : BitVec 32 := Scalar.muli v96 c1_i32_3581
  let v2777 : BitVec 32 := Scalar.addi c0_i32_3582 v2776
  v2777.toNat
def k0_dev112 (d0 : Dev nD) : Nat :=
  let c0_i32_3606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3605 : BitVec 32 := 1#32
  let v2794 : BitVec 32 := Scalar.muli v96 c1_i32_3605
  let v2795 : BitVec 32 := Scalar.addi c0_i32_3606 v2794
  v2795.toNat
def k0_dev113 (d0 : Dev nD) : Nat :=
  let c0_i32_3630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3629 : BitVec 32 := 1#32
  let v2812 : BitVec 32 := Scalar.muli v98 c1_i32_3629
  let v2813 : BitVec 32 := Scalar.addi c0_i32_3630 v2812
  v2813.toNat
def k0_dev114 (d0 : Dev nD) : Nat :=
  let c0_i32_3654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3653 : BitVec 32 := 1#32
  let v2830 : BitVec 32 := Scalar.muli v98 c1_i32_3653
  let v2831 : BitVec 32 := Scalar.addi c0_i32_3654 v2830
  v2831.toNat
def k0_dev115 (d0 : Dev nD) : Nat :=
  let c0_i32_3709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3708 : BitVec 32 := 1#32
  let v2877 : BitVec 32 := Scalar.muli v96 c1_i32_3708
  let v2878 : BitVec 32 := Scalar.addi c0_i32_3709 v2877
  v2878.toNat
def k0_dev116 (d0 : Dev nD) : Nat :=
  let c0_i32_3745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3744 : BitVec 32 := 1#32
  let v2902 : BitVec 32 := Scalar.muli v96 c1_i32_3744
  let v2903 : BitVec 32 := Scalar.addi c0_i32_3745 v2902
  v2903.toNat
def k0_dev117 (d0 : Dev nD) : Nat :=
  let c0_i32_3781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3780 : BitVec 32 := 1#32
  let v2927 : BitVec 32 := Scalar.muli v98 c1_i32_3780
  let v2928 : BitVec 32 := Scalar.addi c0_i32_3781 v2927
  v2928.toNat
def k0_dev118 (d0 : Dev nD) : Nat :=
  let c0_i32_3817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3816 : BitVec 32 := 1#32
  let v2952 : BitVec 32 := Scalar.muli v98 c1_i32_3816
  let v2953 : BitVec 32 := Scalar.addi c0_i32_3817 v2952
  v2953.toNat
def k0_dev119 (d0 : Dev nD) : Nat :=
  let c0_i32_3926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3925 : BitVec 32 := 1#32
  let v3037 : BitVec 32 := Scalar.muli v96 c1_i32_3925
  let v3038 : BitVec 32 := Scalar.addi c0_i32_3926 v3037
  v3038.toNat
def k0_dev120 (d0 : Dev nD) : Nat :=
  let c0_i32_3962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_3961 : BitVec 32 := 1#32
  let v3062 : BitVec 32 := Scalar.muli v96 c1_i32_3961
  let v3063 : BitVec 32 := Scalar.addi c0_i32_3962 v3062
  v3063.toNat
def k0_dev121 (d0 : Dev nD) : Nat :=
  let c0_i32_3998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_3997 : BitVec 32 := 1#32
  let v3087 : BitVec 32 := Scalar.muli v98 c1_i32_3997
  let v3088 : BitVec 32 := Scalar.addi c0_i32_3998 v3087
  v3088.toNat
def k0_dev122 (d0 : Dev nD) : Nat :=
  let c0_i32_4034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_4033 : BitVec 32 := 1#32
  let v3112 : BitVec 32 := Scalar.muli v98 c1_i32_4033
  let v3113 : BitVec 32 := Scalar.addi c0_i32_4034 v3112
  v3113.toNat
def k0_dev123 (d0 : Dev nD) : Nat :=
  let c0_i32_5563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5562 : BitVec 32 := 1#32
  let v3908 : BitVec 32 := Scalar.muli v98 c1_i32_5562
  let v3909 : BitVec 32 := Scalar.addi c0_i32_5563 v3908
  v3909.toNat
def k0_dev124 (d0 : Dev nD) : Nat :=
  let c0_i32_5566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5565 : BitVec 32 := 1#32
  let v3910 : BitVec 32 := Scalar.muli v96 c1_i32_5565
  let v3911 : BitVec 32 := Scalar.addi c0_i32_5566 v3910
  v3911.toNat
def k0_dev125 (d0 : Dev nD) : Nat :=
  let c0_i32_5582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5581 : BitVec 32 := 1#32
  let v3918 : BitVec 32 := Scalar.muli v96 c1_i32_5581
  let v3919 : BitVec 32 := Scalar.addi c0_i32_5582 v3918
  v3919.toNat
def k0_dev126 (d0 : Dev nD) : Nat :=
  let c0_i32_5594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5593 : BitVec 32 := 1#32
  let v3928 : BitVec 32 := Scalar.muli v96 c1_i32_5593
  let v3929 : BitVec 32 := Scalar.addi c0_i32_5594 v3928
  v3929.toNat
def k0_dev127 (d0 : Dev nD) : Nat :=
  let c0_i32_5606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5605 : BitVec 32 := 1#32
  let v3938 : BitVec 32 := Scalar.muli v98 c1_i32_5605
  let v3939 : BitVec 32 := Scalar.addi c0_i32_5606 v3938
  v3939.toNat
def k0_dev128 (d0 : Dev nD) : Nat :=
  let c0_i32_5618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5617 : BitVec 32 := 1#32
  let v3948 : BitVec 32 := Scalar.muli v98 c1_i32_5617
  let v3949 : BitVec 32 := Scalar.addi c0_i32_5618 v3948
  v3949.toNat
def k0_dev129 (d0 : Dev nD) : Nat :=
  let c0_i32_5672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5671 : BitVec 32 := 1#32
  let v4000 : BitVec 32 := Scalar.muli v96 c1_i32_5671
  let v4001 : BitVec 32 := Scalar.addi c0_i32_5672 v4000
  v4001.toNat
def k0_dev130 (d0 : Dev nD) : Nat :=
  let c0_i32_5696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5695 : BitVec 32 := 1#32
  let v4018 : BitVec 32 := Scalar.muli v96 c1_i32_5695
  let v4019 : BitVec 32 := Scalar.addi c0_i32_5696 v4018
  v4019.toNat
def k0_dev131 (d0 : Dev nD) : Nat :=
  let c0_i32_5720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5719 : BitVec 32 := 1#32
  let v4036 : BitVec 32 := Scalar.muli v98 c1_i32_5719
  let v4037 : BitVec 32 := Scalar.addi c0_i32_5720 v4036
  v4037.toNat
def k0_dev132 (d0 : Dev nD) : Nat :=
  let c0_i32_5744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5743 : BitVec 32 := 1#32
  let v4054 : BitVec 32 := Scalar.muli v98 c1_i32_5743
  let v4055 : BitVec 32 := Scalar.addi c0_i32_5744 v4054
  v4055.toNat
def k0_dev133 (d0 : Dev nD) : Nat :=
  let c0_i32_5782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5781 : BitVec 32 := 1#32
  let v4090 : BitVec 32 := Scalar.muli v96 c1_i32_5781
  let v4091 : BitVec 32 := Scalar.addi c0_i32_5782 v4090
  v4091.toNat
def k0_dev134 (d0 : Dev nD) : Nat :=
  let c0_i32_5800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5799 : BitVec 32 := 1#32
  let v4104 : BitVec 32 := Scalar.muli v96 c1_i32_5799
  let v4105 : BitVec 32 := Scalar.addi c0_i32_5800 v4104
  v4105.toNat
def k0_dev135 (d0 : Dev nD) : Nat :=
  let c0_i32_5818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5817 : BitVec 32 := 1#32
  let v4118 : BitVec 32 := Scalar.muli v98 c1_i32_5817
  let v4119 : BitVec 32 := Scalar.addi c0_i32_5818 v4118
  v4119.toNat
def k0_dev136 (d0 : Dev nD) : Nat :=
  let c0_i32_5836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5835 : BitVec 32 := 1#32
  let v4132 : BitVec 32 := Scalar.muli v98 c1_i32_5835
  let v4133 : BitVec 32 := Scalar.addi c0_i32_5836 v4132
  v4133.toNat
def k0_dev137 (d0 : Dev nD) : Nat :=
  let c0_i32_5866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5865 : BitVec 32 := 1#32
  let v4156 : BitVec 32 := Scalar.muli v96 c1_i32_5865
  let v4157 : BitVec 32 := Scalar.addi c0_i32_5866 v4156
  v4157.toNat
def k0_dev138 (d0 : Dev nD) : Nat :=
  let c0_i32_5890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5889 : BitVec 32 := 1#32
  let v4174 : BitVec 32 := Scalar.muli v96 c1_i32_5889
  let v4175 : BitVec 32 := Scalar.addi c0_i32_5890 v4174
  v4175.toNat
def k0_dev139 (d0 : Dev nD) : Nat :=
  let c0_i32_5914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5913 : BitVec 32 := 1#32
  let v4192 : BitVec 32 := Scalar.muli v98 c1_i32_5913
  let v4193 : BitVec 32 := Scalar.addi c0_i32_5914 v4192
  v4193.toNat
def k0_dev140 (d0 : Dev nD) : Nat :=
  let c0_i32_5938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_5937 : BitVec 32 := 1#32
  let v4210 : BitVec 32 := Scalar.muli v98 c1_i32_5937
  let v4211 : BitVec 32 := Scalar.addi c0_i32_5938 v4210
  v4211.toNat
def k0_dev141 (d0 : Dev nD) : Nat :=
  let c0_i32_5994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_5993 : BitVec 32 := 1#32
  let v4257 : BitVec 32 := Scalar.muli v96 c1_i32_5993
  let v4258 : BitVec 32 := Scalar.addi c0_i32_5994 v4257
  v4258.toNat
def k0_dev142 (d0 : Dev nD) : Nat :=
  let c0_i32_6030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6029 : BitVec 32 := 1#32
  let v4282 : BitVec 32 := Scalar.muli v96 c1_i32_6029
  let v4283 : BitVec 32 := Scalar.addi c0_i32_6030 v4282
  v4283.toNat
def k0_dev143 (d0 : Dev nD) : Nat :=
  let c0_i32_6066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6065 : BitVec 32 := 1#32
  let v4307 : BitVec 32 := Scalar.muli v98 c1_i32_6065
  let v4308 : BitVec 32 := Scalar.addi c0_i32_6066 v4307
  v4308.toNat
def k0_dev144 (d0 : Dev nD) : Nat :=
  let c0_i32_6102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6101 : BitVec 32 := 1#32
  let v4332 : BitVec 32 := Scalar.muli v98 c1_i32_6101
  let v4333 : BitVec 32 := Scalar.addi c0_i32_6102 v4332
  v4333.toNat
def k0_dev145 (d0 : Dev nD) : Nat :=
  let c0_i32_6132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6131 : BitVec 32 := 1#32
  let v4356 : BitVec 32 := Scalar.muli v96 c1_i32_6131
  let v4357 : BitVec 32 := Scalar.addi c0_i32_6132 v4356
  v4357.toNat
def k0_dev146 (d0 : Dev nD) : Nat :=
  let c0_i32_6156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6155 : BitVec 32 := 1#32
  let v4374 : BitVec 32 := Scalar.muli v96 c1_i32_6155
  let v4375 : BitVec 32 := Scalar.addi c0_i32_6156 v4374
  v4375.toNat
def k0_dev147 (d0 : Dev nD) : Nat :=
  let c0_i32_6180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6179 : BitVec 32 := 1#32
  let v4392 : BitVec 32 := Scalar.muli v98 c1_i32_6179
  let v4393 : BitVec 32 := Scalar.addi c0_i32_6180 v4392
  v4393.toNat
def k0_dev148 (d0 : Dev nD) : Nat :=
  let c0_i32_6204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6203 : BitVec 32 := 1#32
  let v4410 : BitVec 32 := Scalar.muli v98 c1_i32_6203
  let v4411 : BitVec 32 := Scalar.addi c0_i32_6204 v4410
  v4411.toNat
def k0_dev149 (d0 : Dev nD) : Nat :=
  let c0_i32_6260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6259 : BitVec 32 := 1#32
  let v4457 : BitVec 32 := Scalar.muli v96 c1_i32_6259
  let v4458 : BitVec 32 := Scalar.addi c0_i32_6260 v4457
  v4458.toNat
def k0_dev150 (d0 : Dev nD) : Nat :=
  let c0_i32_6296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6295 : BitVec 32 := 1#32
  let v4482 : BitVec 32 := Scalar.muli v96 c1_i32_6295
  let v4483 : BitVec 32 := Scalar.addi c0_i32_6296 v4482
  v4483.toNat
def k0_dev151 (d0 : Dev nD) : Nat :=
  let c0_i32_6332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6331 : BitVec 32 := 1#32
  let v4507 : BitVec 32 := Scalar.muli v98 c1_i32_6331
  let v4508 : BitVec 32 := Scalar.addi c0_i32_6332 v4507
  v4508.toNat
def k0_dev152 (d0 : Dev nD) : Nat :=
  let c0_i32_6368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6367 : BitVec 32 := 1#32
  let v4532 : BitVec 32 := Scalar.muli v98 c1_i32_6367
  let v4533 : BitVec 32 := Scalar.addi c0_i32_6368 v4532
  v4533.toNat
def k0_dev153 (d0 : Dev nD) : Nat :=
  let c0_i32_6398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6397 : BitVec 32 := 1#32
  let v4556 : BitVec 32 := Scalar.muli v96 c1_i32_6397
  let v4557 : BitVec 32 := Scalar.addi c0_i32_6398 v4556
  v4557.toNat
def k0_dev154 (d0 : Dev nD) : Nat :=
  let c0_i32_6422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6421 : BitVec 32 := 1#32
  let v4574 : BitVec 32 := Scalar.muli v96 c1_i32_6421
  let v4575 : BitVec 32 := Scalar.addi c0_i32_6422 v4574
  v4575.toNat
def k0_dev155 (d0 : Dev nD) : Nat :=
  let c0_i32_6446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6445 : BitVec 32 := 1#32
  let v4592 : BitVec 32 := Scalar.muli v98 c1_i32_6445
  let v4593 : BitVec 32 := Scalar.addi c0_i32_6446 v4592
  v4593.toNat
def k0_dev156 (d0 : Dev nD) : Nat :=
  let c0_i32_6470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6469 : BitVec 32 := 1#32
  let v4610 : BitVec 32 := Scalar.muli v98 c1_i32_6469
  let v4611 : BitVec 32 := Scalar.addi c0_i32_6470 v4610
  v4611.toNat
def k0_dev157 (d0 : Dev nD) : Nat :=
  let c0_i32_6526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6525 : BitVec 32 := 1#32
  let v4657 : BitVec 32 := Scalar.muli v96 c1_i32_6525
  let v4658 : BitVec 32 := Scalar.addi c0_i32_6526 v4657
  v4658.toNat
def k0_dev158 (d0 : Dev nD) : Nat :=
  let c0_i32_6562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6561 : BitVec 32 := 1#32
  let v4682 : BitVec 32 := Scalar.muli v96 c1_i32_6561
  let v4683 : BitVec 32 := Scalar.addi c0_i32_6562 v4682
  v4683.toNat
def k0_dev159 (d0 : Dev nD) : Nat :=
  let c0_i32_6598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6597 : BitVec 32 := 1#32
  let v4707 : BitVec 32 := Scalar.muli v98 c1_i32_6597
  let v4708 : BitVec 32 := Scalar.addi c0_i32_6598 v4707
  v4708.toNat
def k0_dev160 (d0 : Dev nD) : Nat :=
  let c0_i32_6634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6633 : BitVec 32 := 1#32
  let v4732 : BitVec 32 := Scalar.muli v98 c1_i32_6633
  let v4733 : BitVec 32 := Scalar.addi c0_i32_6634 v4732
  v4733.toNat
def k0_dev161 (d0 : Dev nD) : Nat :=
  let c0_i32_6664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6663 : BitVec 32 := 1#32
  let v4756 : BitVec 32 := Scalar.muli v96 c1_i32_6663
  let v4757 : BitVec 32 := Scalar.addi c0_i32_6664 v4756
  v4757.toNat
def k0_dev162 (d0 : Dev nD) : Nat :=
  let c0_i32_6688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6687 : BitVec 32 := 1#32
  let v4774 : BitVec 32 := Scalar.muli v96 c1_i32_6687
  let v4775 : BitVec 32 := Scalar.addi c0_i32_6688 v4774
  v4775.toNat
def k0_dev163 (d0 : Dev nD) : Nat :=
  let c0_i32_6712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6711 : BitVec 32 := 1#32
  let v4792 : BitVec 32 := Scalar.muli v98 c1_i32_6711
  let v4793 : BitVec 32 := Scalar.addi c0_i32_6712 v4792
  v4793.toNat
def k0_dev164 (d0 : Dev nD) : Nat :=
  let c0_i32_6736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6735 : BitVec 32 := 1#32
  let v4810 : BitVec 32 := Scalar.muli v98 c1_i32_6735
  let v4811 : BitVec 32 := Scalar.addi c0_i32_6736 v4810
  v4811.toNat
def k0_dev165 (d0 : Dev nD) : Nat :=
  let c0_i32_6792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6791 : BitVec 32 := 1#32
  let v4857 : BitVec 32 := Scalar.muli v96 c1_i32_6791
  let v4858 : BitVec 32 := Scalar.addi c0_i32_6792 v4857
  v4858.toNat
def k0_dev166 (d0 : Dev nD) : Nat :=
  let c0_i32_6828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6827 : BitVec 32 := 1#32
  let v4882 : BitVec 32 := Scalar.muli v96 c1_i32_6827
  let v4883 : BitVec 32 := Scalar.addi c0_i32_6828 v4882
  v4883.toNat
def k0_dev167 (d0 : Dev nD) : Nat :=
  let c0_i32_6864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6863 : BitVec 32 := 1#32
  let v4907 : BitVec 32 := Scalar.muli v98 c1_i32_6863
  let v4908 : BitVec 32 := Scalar.addi c0_i32_6864 v4907
  v4908.toNat
def k0_dev168 (d0 : Dev nD) : Nat :=
  let c0_i32_6900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6899 : BitVec 32 := 1#32
  let v4932 : BitVec 32 := Scalar.muli v98 c1_i32_6899
  let v4933 : BitVec 32 := Scalar.addi c0_i32_6900 v4932
  v4933.toNat
def k0_dev169 (d0 : Dev nD) : Nat :=
  let c0_i32_6930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6929 : BitVec 32 := 1#32
  let v4956 : BitVec 32 := Scalar.muli v96 c1_i32_6929
  let v4957 : BitVec 32 := Scalar.addi c0_i32_6930 v4956
  v4957.toNat
def k0_dev170 (d0 : Dev nD) : Nat :=
  let c0_i32_6954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_6953 : BitVec 32 := 1#32
  let v4974 : BitVec 32 := Scalar.muli v96 c1_i32_6953
  let v4975 : BitVec 32 := Scalar.addi c0_i32_6954 v4974
  v4975.toNat
def k0_dev171 (d0 : Dev nD) : Nat :=
  let c0_i32_6978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_6977 : BitVec 32 := 1#32
  let v4992 : BitVec 32 := Scalar.muli v98 c1_i32_6977
  let v4993 : BitVec 32 := Scalar.addi c0_i32_6978 v4992
  v4993.toNat
def k0_dev172 (d0 : Dev nD) : Nat :=
  let c0_i32_7002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7001 : BitVec 32 := 1#32
  let v5010 : BitVec 32 := Scalar.muli v98 c1_i32_7001
  let v5011 : BitVec 32 := Scalar.addi c0_i32_7002 v5010
  v5011.toNat
def k0_dev173 (d0 : Dev nD) : Nat :=
  let c0_i32_7058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7057 : BitVec 32 := 1#32
  let v5057 : BitVec 32 := Scalar.muli v96 c1_i32_7057
  let v5058 : BitVec 32 := Scalar.addi c0_i32_7058 v5057
  v5058.toNat
def k0_dev174 (d0 : Dev nD) : Nat :=
  let c0_i32_7094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7093 : BitVec 32 := 1#32
  let v5082 : BitVec 32 := Scalar.muli v96 c1_i32_7093
  let v5083 : BitVec 32 := Scalar.addi c0_i32_7094 v5082
  v5083.toNat
def k0_dev175 (d0 : Dev nD) : Nat :=
  let c0_i32_7130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7129 : BitVec 32 := 1#32
  let v5107 : BitVec 32 := Scalar.muli v98 c1_i32_7129
  let v5108 : BitVec 32 := Scalar.addi c0_i32_7130 v5107
  v5108.toNat
def k0_dev176 (d0 : Dev nD) : Nat :=
  let c0_i32_7166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7165 : BitVec 32 := 1#32
  let v5132 : BitVec 32 := Scalar.muli v98 c1_i32_7165
  let v5133 : BitVec 32 := Scalar.addi c0_i32_7166 v5132
  v5133.toNat
def k0_dev177 (d0 : Dev nD) : Nat :=
  let c0_i32_7196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7195 : BitVec 32 := 1#32
  let v5156 : BitVec 32 := Scalar.muli v96 c1_i32_7195
  let v5157 : BitVec 32 := Scalar.addi c0_i32_7196 v5156
  v5157.toNat
def k0_dev178 (d0 : Dev nD) : Nat :=
  let c0_i32_7220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7219 : BitVec 32 := 1#32
  let v5174 : BitVec 32 := Scalar.muli v96 c1_i32_7219
  let v5175 : BitVec 32 := Scalar.addi c0_i32_7220 v5174
  v5175.toNat
def k0_dev179 (d0 : Dev nD) : Nat :=
  let c0_i32_7244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7243 : BitVec 32 := 1#32
  let v5192 : BitVec 32 := Scalar.muli v98 c1_i32_7243
  let v5193 : BitVec 32 := Scalar.addi c0_i32_7244 v5192
  v5193.toNat
def k0_dev180 (d0 : Dev nD) : Nat :=
  let c0_i32_7268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7267 : BitVec 32 := 1#32
  let v5210 : BitVec 32 := Scalar.muli v98 c1_i32_7267
  let v5211 : BitVec 32 := Scalar.addi c0_i32_7268 v5210
  v5211.toNat
def k0_dev181 (d0 : Dev nD) : Nat :=
  let c0_i32_7324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7323 : BitVec 32 := 1#32
  let v5257 : BitVec 32 := Scalar.muli v96 c1_i32_7323
  let v5258 : BitVec 32 := Scalar.addi c0_i32_7324 v5257
  v5258.toNat
def k0_dev182 (d0 : Dev nD) : Nat :=
  let c0_i32_7360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7359 : BitVec 32 := 1#32
  let v5282 : BitVec 32 := Scalar.muli v96 c1_i32_7359
  let v5283 : BitVec 32 := Scalar.addi c0_i32_7360 v5282
  v5283.toNat
def k0_dev183 (d0 : Dev nD) : Nat :=
  let c0_i32_7396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7395 : BitVec 32 := 1#32
  let v5307 : BitVec 32 := Scalar.muli v98 c1_i32_7395
  let v5308 : BitVec 32 := Scalar.addi c0_i32_7396 v5307
  v5308.toNat
def k0_dev184 (d0 : Dev nD) : Nat :=
  let c0_i32_7432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7431 : BitVec 32 := 1#32
  let v5332 : BitVec 32 := Scalar.muli v98 c1_i32_7431
  let v5333 : BitVec 32 := Scalar.addi c0_i32_7432 v5332
  v5333.toNat
def k0_dev185 (d0 : Dev nD) : Nat :=
  let c0_i32_7462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7461 : BitVec 32 := 1#32
  let v5356 : BitVec 32 := Scalar.muli v96 c1_i32_7461
  let v5357 : BitVec 32 := Scalar.addi c0_i32_7462 v5356
  v5357.toNat
def k0_dev186 (d0 : Dev nD) : Nat :=
  let c0_i32_7486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7485 : BitVec 32 := 1#32
  let v5374 : BitVec 32 := Scalar.muli v96 c1_i32_7485
  let v5375 : BitVec 32 := Scalar.addi c0_i32_7486 v5374
  v5375.toNat
def k0_dev187 (d0 : Dev nD) : Nat :=
  let c0_i32_7510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7509 : BitVec 32 := 1#32
  let v5392 : BitVec 32 := Scalar.muli v98 c1_i32_7509
  let v5393 : BitVec 32 := Scalar.addi c0_i32_7510 v5392
  v5393.toNat
def k0_dev188 (d0 : Dev nD) : Nat :=
  let c0_i32_7534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7533 : BitVec 32 := 1#32
  let v5410 : BitVec 32 := Scalar.muli v98 c1_i32_7533
  let v5411 : BitVec 32 := Scalar.addi c0_i32_7534 v5410
  v5411.toNat
def k0_dev189 (d0 : Dev nD) : Nat :=
  let c0_i32_7590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7589 : BitVec 32 := 1#32
  let v5457 : BitVec 32 := Scalar.muli v96 c1_i32_7589
  let v5458 : BitVec 32 := Scalar.addi c0_i32_7590 v5457
  v5458.toNat
def k0_dev190 (d0 : Dev nD) : Nat :=
  let c0_i32_7626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7625 : BitVec 32 := 1#32
  let v5482 : BitVec 32 := Scalar.muli v96 c1_i32_7625
  let v5483 : BitVec 32 := Scalar.addi c0_i32_7626 v5482
  v5483.toNat
def k0_dev191 (d0 : Dev nD) : Nat :=
  let c0_i32_7662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7661 : BitVec 32 := 1#32
  let v5507 : BitVec 32 := Scalar.muli v98 c1_i32_7661
  let v5508 : BitVec 32 := Scalar.addi c0_i32_7662 v5507
  v5508.toNat
def k0_dev192 (d0 : Dev nD) : Nat :=
  let c0_i32_7698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7697 : BitVec 32 := 1#32
  let v5532 : BitVec 32 := Scalar.muli v98 c1_i32_7697
  let v5533 : BitVec 32 := Scalar.addi c0_i32_7698 v5532
  v5533.toNat
def k0_dev193 (d0 : Dev nD) : Nat :=
  let c0_i32_7728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7727 : BitVec 32 := 1#32
  let v5556 : BitVec 32 := Scalar.muli v96 c1_i32_7727
  let v5557 : BitVec 32 := Scalar.addi c0_i32_7728 v5556
  v5557.toNat
def k0_dev194 (d0 : Dev nD) : Nat :=
  let c0_i32_7752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7751 : BitVec 32 := 1#32
  let v5574 : BitVec 32 := Scalar.muli v96 c1_i32_7751
  let v5575 : BitVec 32 := Scalar.addi c0_i32_7752 v5574
  v5575.toNat
def k0_dev195 (d0 : Dev nD) : Nat :=
  let c0_i32_7776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7775 : BitVec 32 := 1#32
  let v5592 : BitVec 32 := Scalar.muli v98 c1_i32_7775
  let v5593 : BitVec 32 := Scalar.addi c0_i32_7776 v5592
  v5593.toNat
def k0_dev196 (d0 : Dev nD) : Nat :=
  let c0_i32_7800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7799 : BitVec 32 := 1#32
  let v5610 : BitVec 32 := Scalar.muli v98 c1_i32_7799
  let v5611 : BitVec 32 := Scalar.addi c0_i32_7800 v5610
  v5611.toNat
def k0_dev197 (d0 : Dev nD) : Nat :=
  let c0_i32_7856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7855 : BitVec 32 := 1#32
  let v5657 : BitVec 32 := Scalar.muli v96 c1_i32_7855
  let v5658 : BitVec 32 := Scalar.addi c0_i32_7856 v5657
  v5658.toNat
def k0_dev198 (d0 : Dev nD) : Nat :=
  let c0_i32_7892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7891 : BitVec 32 := 1#32
  let v5682 : BitVec 32 := Scalar.muli v96 c1_i32_7891
  let v5683 : BitVec 32 := Scalar.addi c0_i32_7892 v5682
  v5683.toNat
def k0_dev199 (d0 : Dev nD) : Nat :=
  let c0_i32_7928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7927 : BitVec 32 := 1#32
  let v5707 : BitVec 32 := Scalar.muli v98 c1_i32_7927
  let v5708 : BitVec 32 := Scalar.addi c0_i32_7928 v5707
  v5708.toNat
def k0_dev200 (d0 : Dev nD) : Nat :=
  let c0_i32_7964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_7963 : BitVec 32 := 1#32
  let v5732 : BitVec 32 := Scalar.muli v98 c1_i32_7963
  let v5733 : BitVec 32 := Scalar.addi c0_i32_7964 v5732
  v5733.toNat
def k0_dev201 (d0 : Dev nD) : Nat :=
  let c0_i32_7994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_7993 : BitVec 32 := 1#32
  let v5756 : BitVec 32 := Scalar.muli v96 c1_i32_7993
  let v5757 : BitVec 32 := Scalar.addi c0_i32_7994 v5756
  v5757.toNat
def k0_dev202 (d0 : Dev nD) : Nat :=
  let c0_i32_8018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8017 : BitVec 32 := 1#32
  let v5774 : BitVec 32 := Scalar.muli v96 c1_i32_8017
  let v5775 : BitVec 32 := Scalar.addi c0_i32_8018 v5774
  v5775.toNat
def k0_dev203 (d0 : Dev nD) : Nat :=
  let c0_i32_8042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8041 : BitVec 32 := 1#32
  let v5792 : BitVec 32 := Scalar.muli v98 c1_i32_8041
  let v5793 : BitVec 32 := Scalar.addi c0_i32_8042 v5792
  v5793.toNat
def k0_dev204 (d0 : Dev nD) : Nat :=
  let c0_i32_8066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8065 : BitVec 32 := 1#32
  let v5810 : BitVec 32 := Scalar.muli v98 c1_i32_8065
  let v5811 : BitVec 32 := Scalar.addi c0_i32_8066 v5810
  v5811.toNat
def k0_dev205 (d0 : Dev nD) : Nat :=
  let c0_i32_8122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8121 : BitVec 32 := 1#32
  let v5857 : BitVec 32 := Scalar.muli v96 c1_i32_8121
  let v5858 : BitVec 32 := Scalar.addi c0_i32_8122 v5857
  v5858.toNat
def k0_dev206 (d0 : Dev nD) : Nat :=
  let c0_i32_8158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8157 : BitVec 32 := 1#32
  let v5882 : BitVec 32 := Scalar.muli v96 c1_i32_8157
  let v5883 : BitVec 32 := Scalar.addi c0_i32_8158 v5882
  v5883.toNat
def k0_dev207 (d0 : Dev nD) : Nat :=
  let c0_i32_8194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8193 : BitVec 32 := 1#32
  let v5907 : BitVec 32 := Scalar.muli v98 c1_i32_8193
  let v5908 : BitVec 32 := Scalar.addi c0_i32_8194 v5907
  v5908.toNat
def k0_dev208 (d0 : Dev nD) : Nat :=
  let c0_i32_8230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8229 : BitVec 32 := 1#32
  let v5932 : BitVec 32 := Scalar.muli v98 c1_i32_8229
  let v5933 : BitVec 32 := Scalar.addi c0_i32_8230 v5932
  v5933.toNat
def k0_dev209 (d0 : Dev nD) : Nat :=
  let c0_i32_8260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8259 : BitVec 32 := 1#32
  let v5956 : BitVec 32 := Scalar.muli v96 c1_i32_8259
  let v5957 : BitVec 32 := Scalar.addi c0_i32_8260 v5956
  v5957.toNat
def k0_dev210 (d0 : Dev nD) : Nat :=
  let c0_i32_8284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8283 : BitVec 32 := 1#32
  let v5974 : BitVec 32 := Scalar.muli v96 c1_i32_8283
  let v5975 : BitVec 32 := Scalar.addi c0_i32_8284 v5974
  v5975.toNat
def k0_dev211 (d0 : Dev nD) : Nat :=
  let c0_i32_8308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8307 : BitVec 32 := 1#32
  let v5992 : BitVec 32 := Scalar.muli v98 c1_i32_8307
  let v5993 : BitVec 32 := Scalar.addi c0_i32_8308 v5992
  v5993.toNat
def k0_dev212 (d0 : Dev nD) : Nat :=
  let c0_i32_8332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8331 : BitVec 32 := 1#32
  let v6010 : BitVec 32 := Scalar.muli v98 c1_i32_8331
  let v6011 : BitVec 32 := Scalar.addi c0_i32_8332 v6010
  v6011.toNat
def k0_dev213 (d0 : Dev nD) : Nat :=
  let c0_i32_8388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8387 : BitVec 32 := 1#32
  let v6057 : BitVec 32 := Scalar.muli v96 c1_i32_8387
  let v6058 : BitVec 32 := Scalar.addi c0_i32_8388 v6057
  v6058.toNat
def k0_dev214 (d0 : Dev nD) : Nat :=
  let c0_i32_8424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8423 : BitVec 32 := 1#32
  let v6082 : BitVec 32 := Scalar.muli v96 c1_i32_8423
  let v6083 : BitVec 32 := Scalar.addi c0_i32_8424 v6082
  v6083.toNat
def k0_dev215 (d0 : Dev nD) : Nat :=
  let c0_i32_8460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8459 : BitVec 32 := 1#32
  let v6107 : BitVec 32 := Scalar.muli v98 c1_i32_8459
  let v6108 : BitVec 32 := Scalar.addi c0_i32_8460 v6107
  v6108.toNat
def k0_dev216 (d0 : Dev nD) : Nat :=
  let c0_i32_8496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8495 : BitVec 32 := 1#32
  let v6132 : BitVec 32 := Scalar.muli v98 c1_i32_8495
  let v6133 : BitVec 32 := Scalar.addi c0_i32_8496 v6132
  v6133.toNat
def k0_dev217 (d0 : Dev nD) : Nat :=
  let c0_i32_8526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8525 : BitVec 32 := 1#32
  let v6156 : BitVec 32 := Scalar.muli v96 c1_i32_8525
  let v6157 : BitVec 32 := Scalar.addi c0_i32_8526 v6156
  v6157.toNat
def k0_dev218 (d0 : Dev nD) : Nat :=
  let c0_i32_8550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8549 : BitVec 32 := 1#32
  let v6174 : BitVec 32 := Scalar.muli v96 c1_i32_8549
  let v6175 : BitVec 32 := Scalar.addi c0_i32_8550 v6174
  v6175.toNat
def k0_dev219 (d0 : Dev nD) : Nat :=
  let c0_i32_8574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8573 : BitVec 32 := 1#32
  let v6192 : BitVec 32 := Scalar.muli v98 c1_i32_8573
  let v6193 : BitVec 32 := Scalar.addi c0_i32_8574 v6192
  v6193.toNat
def k0_dev220 (d0 : Dev nD) : Nat :=
  let c0_i32_8598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8597 : BitVec 32 := 1#32
  let v6210 : BitVec 32 := Scalar.muli v98 c1_i32_8597
  let v6211 : BitVec 32 := Scalar.addi c0_i32_8598 v6210
  v6211.toNat
def k0_dev221 (d0 : Dev nD) : Nat :=
  let c0_i32_8654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8653 : BitVec 32 := 1#32
  let v6257 : BitVec 32 := Scalar.muli v96 c1_i32_8653
  let v6258 : BitVec 32 := Scalar.addi c0_i32_8654 v6257
  v6258.toNat
def k0_dev222 (d0 : Dev nD) : Nat :=
  let c0_i32_8690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8689 : BitVec 32 := 1#32
  let v6282 : BitVec 32 := Scalar.muli v96 c1_i32_8689
  let v6283 : BitVec 32 := Scalar.addi c0_i32_8690 v6282
  v6283.toNat
def k0_dev223 (d0 : Dev nD) : Nat :=
  let c0_i32_8726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8725 : BitVec 32 := 1#32
  let v6307 : BitVec 32 := Scalar.muli v98 c1_i32_8725
  let v6308 : BitVec 32 := Scalar.addi c0_i32_8726 v6307
  v6308.toNat
def k0_dev224 (d0 : Dev nD) : Nat :=
  let c0_i32_8762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8761 : BitVec 32 := 1#32
  let v6332 : BitVec 32 := Scalar.muli v98 c1_i32_8761
  let v6333 : BitVec 32 := Scalar.addi c0_i32_8762 v6332
  v6333.toNat
def k0_dev225 (d0 : Dev nD) : Nat :=
  let c0_i32_8792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8791 : BitVec 32 := 1#32
  let v6356 : BitVec 32 := Scalar.muli v96 c1_i32_8791
  let v6357 : BitVec 32 := Scalar.addi c0_i32_8792 v6356
  v6357.toNat
def k0_dev226 (d0 : Dev nD) : Nat :=
  let c0_i32_8816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8815 : BitVec 32 := 1#32
  let v6374 : BitVec 32 := Scalar.muli v96 c1_i32_8815
  let v6375 : BitVec 32 := Scalar.addi c0_i32_8816 v6374
  v6375.toNat
def k0_dev227 (d0 : Dev nD) : Nat :=
  let c0_i32_8840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8839 : BitVec 32 := 1#32
  let v6392 : BitVec 32 := Scalar.muli v98 c1_i32_8839
  let v6393 : BitVec 32 := Scalar.addi c0_i32_8840 v6392
  v6393.toNat
def k0_dev228 (d0 : Dev nD) : Nat :=
  let c0_i32_8864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8863 : BitVec 32 := 1#32
  let v6410 : BitVec 32 := Scalar.muli v98 c1_i32_8863
  let v6411 : BitVec 32 := Scalar.addi c0_i32_8864 v6410
  v6411.toNat
def k0_dev229 (d0 : Dev nD) : Nat :=
  let c0_i32_8920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8919 : BitVec 32 := 1#32
  let v6457 : BitVec 32 := Scalar.muli v96 c1_i32_8919
  let v6458 : BitVec 32 := Scalar.addi c0_i32_8920 v6457
  v6458.toNat
def k0_dev230 (d0 : Dev nD) : Nat :=
  let c0_i32_8956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_8955 : BitVec 32 := 1#32
  let v6482 : BitVec 32 := Scalar.muli v96 c1_i32_8955
  let v6483 : BitVec 32 := Scalar.addi c0_i32_8956 v6482
  v6483.toNat
def k0_dev231 (d0 : Dev nD) : Nat :=
  let c0_i32_8992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_8991 : BitVec 32 := 1#32
  let v6507 : BitVec 32 := Scalar.muli v98 c1_i32_8991
  let v6508 : BitVec 32 := Scalar.addi c0_i32_8992 v6507
  v6508.toNat
def k0_dev232 (d0 : Dev nD) : Nat :=
  let c0_i32_9028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9027 : BitVec 32 := 1#32
  let v6532 : BitVec 32 := Scalar.muli v98 c1_i32_9027
  let v6533 : BitVec 32 := Scalar.addi c0_i32_9028 v6532
  v6533.toNat
def k0_dev233 (d0 : Dev nD) : Nat :=
  let c0_i32_9058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_9057 : BitVec 32 := 1#32
  let v6556 : BitVec 32 := Scalar.muli v96 c1_i32_9057
  let v6557 : BitVec 32 := Scalar.addi c0_i32_9058 v6556
  v6557.toNat
def k0_dev234 (d0 : Dev nD) : Nat :=
  let c0_i32_9082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_9081 : BitVec 32 := 1#32
  let v6574 : BitVec 32 := Scalar.muli v96 c1_i32_9081
  let v6575 : BitVec 32 := Scalar.addi c0_i32_9082 v6574
  v6575.toNat
def k0_dev235 (d0 : Dev nD) : Nat :=
  let c0_i32_9106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9105 : BitVec 32 := 1#32
  let v6592 : BitVec 32 := Scalar.muli v98 c1_i32_9105
  let v6593 : BitVec 32 := Scalar.addi c0_i32_9106 v6592
  v6593.toNat
def k0_dev236 (d0 : Dev nD) : Nat :=
  let c0_i32_9130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9129 : BitVec 32 := 1#32
  let v6610 : BitVec 32 := Scalar.muli v98 c1_i32_9129
  let v6611 : BitVec 32 := Scalar.addi c0_i32_9130 v6610
  v6611.toNat
def k0_dev237 (d0 : Dev nD) : Nat :=
  let c0_i32_9186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_9185 : BitVec 32 := 1#32
  let v6657 : BitVec 32 := Scalar.muli v96 c1_i32_9185
  let v6658 : BitVec 32 := Scalar.addi c0_i32_9186 v6657
  v6658.toNat
def k0_dev238 (d0 : Dev nD) : Nat :=
  let c0_i32_9222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_9221 : BitVec 32 := 1#32
  let v6682 : BitVec 32 := Scalar.muli v96 c1_i32_9221
  let v6683 : BitVec 32 := Scalar.addi c0_i32_9222 v6682
  v6683.toNat
def k0_dev239 (d0 : Dev nD) : Nat :=
  let c0_i32_9258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9257 : BitVec 32 := 1#32
  let v6707 : BitVec 32 := Scalar.muli v98 c1_i32_9257
  let v6708 : BitVec 32 := Scalar.addi c0_i32_9258 v6707
  v6708.toNat
def k0_dev240 (d0 : Dev nD) : Nat :=
  let c0_i32_9294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9293 : BitVec 32 := 1#32
  let v6732 : BitVec 32 := Scalar.muli v98 c1_i32_9293
  let v6733 : BitVec 32 := Scalar.addi c0_i32_9294 v6732
  v6733.toNat
def k0_dev241 (d0 : Dev nD) : Nat :=
  let c0_i32_9404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_9403 : BitVec 32 := 1#32
  let v6817 : BitVec 32 := Scalar.muli v96 c1_i32_9403
  let v6818 : BitVec 32 := Scalar.addi c0_i32_9404 v6817
  v6818.toNat
def k0_dev242 (d0 : Dev nD) : Nat :=
  let c0_i32_9440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_9439 : BitVec 32 := 1#32
  let v6842 : BitVec 32 := Scalar.muli v96 c1_i32_9439
  let v6843 : BitVec 32 := Scalar.addi c0_i32_9440 v6842
  v6843.toNat
def k0_dev243 (d0 : Dev nD) : Nat :=
  let c0_i32_9476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9475 : BitVec 32 := 1#32
  let v6867 : BitVec 32 := Scalar.muli v98 c1_i32_9475
  let v6868 : BitVec 32 := Scalar.addi c0_i32_9476 v6867
  v6868.toNat
def k0_dev244 (d0 : Dev nD) : Nat :=
  let c0_i32_9512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_9511 : BitVec 32 := 1#32
  let v6892 : BitVec 32 := Scalar.muli v98 c1_i32_9511
  let v6893 : BitVec 32 := Scalar.addi c0_i32_9512 v6892
  v6893.toNat
def k0_dev245 (d0 : Dev nD) : Nat :=
  let c0_i32_11041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11040 : BitVec 32 := 1#32
  let v7688 : BitVec 32 := Scalar.muli v98 c1_i32_11040
  let v7689 : BitVec 32 := Scalar.addi c0_i32_11041 v7688
  v7689.toNat
def k0_dev246 (d0 : Dev nD) : Nat :=
  let c0_i32_11044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11043 : BitVec 32 := 1#32
  let v7690 : BitVec 32 := Scalar.muli v96 c1_i32_11043
  let v7691 : BitVec 32 := Scalar.addi c0_i32_11044 v7690
  v7691.toNat
def k0_dev247 (d0 : Dev nD) : Nat :=
  let c0_i32_11060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11059 : BitVec 32 := 1#32
  let v7698 : BitVec 32 := Scalar.muli v96 c1_i32_11059
  let v7699 : BitVec 32 := Scalar.addi c0_i32_11060 v7698
  v7699.toNat
def k0_dev248 (d0 : Dev nD) : Nat :=
  let c0_i32_11072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11071 : BitVec 32 := 1#32
  let v7708 : BitVec 32 := Scalar.muli v96 c1_i32_11071
  let v7709 : BitVec 32 := Scalar.addi c0_i32_11072 v7708
  v7709.toNat
def k0_dev249 (d0 : Dev nD) : Nat :=
  let c0_i32_11084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11083 : BitVec 32 := 1#32
  let v7718 : BitVec 32 := Scalar.muli v98 c1_i32_11083
  let v7719 : BitVec 32 := Scalar.addi c0_i32_11084 v7718
  v7719.toNat
def k0_dev250 (d0 : Dev nD) : Nat :=
  let c0_i32_11096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11095 : BitVec 32 := 1#32
  let v7728 : BitVec 32 := Scalar.muli v98 c1_i32_11095
  let v7729 : BitVec 32 := Scalar.addi c0_i32_11096 v7728
  v7729.toNat
def k0_dev251 (d0 : Dev nD) : Nat :=
  let c0_i32_11150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11149 : BitVec 32 := 1#32
  let v7780 : BitVec 32 := Scalar.muli v96 c1_i32_11149
  let v7781 : BitVec 32 := Scalar.addi c0_i32_11150 v7780
  v7781.toNat
def k0_dev252 (d0 : Dev nD) : Nat :=
  let c0_i32_11174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11173 : BitVec 32 := 1#32
  let v7798 : BitVec 32 := Scalar.muli v96 c1_i32_11173
  let v7799 : BitVec 32 := Scalar.addi c0_i32_11174 v7798
  v7799.toNat
def k0_dev253 (d0 : Dev nD) : Nat :=
  let c0_i32_11198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11197 : BitVec 32 := 1#32
  let v7816 : BitVec 32 := Scalar.muli v98 c1_i32_11197
  let v7817 : BitVec 32 := Scalar.addi c0_i32_11198 v7816
  v7817.toNat
def k0_dev254 (d0 : Dev nD) : Nat :=
  let c0_i32_11222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11221 : BitVec 32 := 1#32
  let v7834 : BitVec 32 := Scalar.muli v98 c1_i32_11221
  let v7835 : BitVec 32 := Scalar.addi c0_i32_11222 v7834
  v7835.toNat
def k0_dev255 (d0 : Dev nD) : Nat :=
  let c0_i32_11260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11259 : BitVec 32 := 1#32
  let v7870 : BitVec 32 := Scalar.muli v96 c1_i32_11259
  let v7871 : BitVec 32 := Scalar.addi c0_i32_11260 v7870
  v7871.toNat
def k0_dev256 (d0 : Dev nD) : Nat :=
  let c0_i32_11278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11277 : BitVec 32 := 1#32
  let v7884 : BitVec 32 := Scalar.muli v96 c1_i32_11277
  let v7885 : BitVec 32 := Scalar.addi c0_i32_11278 v7884
  v7885.toNat
def k0_dev257 (d0 : Dev nD) : Nat :=
  let c0_i32_11296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11295 : BitVec 32 := 1#32
  let v7898 : BitVec 32 := Scalar.muli v98 c1_i32_11295
  let v7899 : BitVec 32 := Scalar.addi c0_i32_11296 v7898
  v7899.toNat
def k0_dev258 (d0 : Dev nD) : Nat :=
  let c0_i32_11314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11313 : BitVec 32 := 1#32
  let v7912 : BitVec 32 := Scalar.muli v98 c1_i32_11313
  let v7913 : BitVec 32 := Scalar.addi c0_i32_11314 v7912
  v7913.toNat
def k0_dev259 (d0 : Dev nD) : Nat :=
  let c0_i32_11344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11343 : BitVec 32 := 1#32
  let v7936 : BitVec 32 := Scalar.muli v96 c1_i32_11343
  let v7937 : BitVec 32 := Scalar.addi c0_i32_11344 v7936
  v7937.toNat
def k0_dev260 (d0 : Dev nD) : Nat :=
  let c0_i32_11368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11367 : BitVec 32 := 1#32
  let v7954 : BitVec 32 := Scalar.muli v96 c1_i32_11367
  let v7955 : BitVec 32 := Scalar.addi c0_i32_11368 v7954
  v7955.toNat
def k0_dev261 (d0 : Dev nD) : Nat :=
  let c0_i32_11392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11391 : BitVec 32 := 1#32
  let v7972 : BitVec 32 := Scalar.muli v98 c1_i32_11391
  let v7973 : BitVec 32 := Scalar.addi c0_i32_11392 v7972
  v7973.toNat
def k0_dev262 (d0 : Dev nD) : Nat :=
  let c0_i32_11416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11415 : BitVec 32 := 1#32
  let v7990 : BitVec 32 := Scalar.muli v98 c1_i32_11415
  let v7991 : BitVec 32 := Scalar.addi c0_i32_11416 v7990
  v7991.toNat
def k0_dev263 (d0 : Dev nD) : Nat :=
  let c0_i32_11472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11471 : BitVec 32 := 1#32
  let v8037 : BitVec 32 := Scalar.muli v96 c1_i32_11471
  let v8038 : BitVec 32 := Scalar.addi c0_i32_11472 v8037
  v8038.toNat
def k0_dev264 (d0 : Dev nD) : Nat :=
  let c0_i32_11508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11507 : BitVec 32 := 1#32
  let v8062 : BitVec 32 := Scalar.muli v96 c1_i32_11507
  let v8063 : BitVec 32 := Scalar.addi c0_i32_11508 v8062
  v8063.toNat
def k0_dev265 (d0 : Dev nD) : Nat :=
  let c0_i32_11544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11543 : BitVec 32 := 1#32
  let v8087 : BitVec 32 := Scalar.muli v98 c1_i32_11543
  let v8088 : BitVec 32 := Scalar.addi c0_i32_11544 v8087
  v8088.toNat
def k0_dev266 (d0 : Dev nD) : Nat :=
  let c0_i32_11580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11579 : BitVec 32 := 1#32
  let v8112 : BitVec 32 := Scalar.muli v98 c1_i32_11579
  let v8113 : BitVec 32 := Scalar.addi c0_i32_11580 v8112
  v8113.toNat
def k0_dev267 (d0 : Dev nD) : Nat :=
  let c0_i32_11610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11609 : BitVec 32 := 1#32
  let v8136 : BitVec 32 := Scalar.muli v96 c1_i32_11609
  let v8137 : BitVec 32 := Scalar.addi c0_i32_11610 v8136
  v8137.toNat
def k0_dev268 (d0 : Dev nD) : Nat :=
  let c0_i32_11634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11633 : BitVec 32 := 1#32
  let v8154 : BitVec 32 := Scalar.muli v96 c1_i32_11633
  let v8155 : BitVec 32 := Scalar.addi c0_i32_11634 v8154
  v8155.toNat
def k0_dev269 (d0 : Dev nD) : Nat :=
  let c0_i32_11658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11657 : BitVec 32 := 1#32
  let v8172 : BitVec 32 := Scalar.muli v98 c1_i32_11657
  let v8173 : BitVec 32 := Scalar.addi c0_i32_11658 v8172
  v8173.toNat
def k0_dev270 (d0 : Dev nD) : Nat :=
  let c0_i32_11682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11681 : BitVec 32 := 1#32
  let v8190 : BitVec 32 := Scalar.muli v98 c1_i32_11681
  let v8191 : BitVec 32 := Scalar.addi c0_i32_11682 v8190
  v8191.toNat
def k0_dev271 (d0 : Dev nD) : Nat :=
  let c0_i32_11738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11737 : BitVec 32 := 1#32
  let v8237 : BitVec 32 := Scalar.muli v96 c1_i32_11737
  let v8238 : BitVec 32 := Scalar.addi c0_i32_11738 v8237
  v8238.toNat
def k0_dev272 (d0 : Dev nD) : Nat :=
  let c0_i32_11774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11773 : BitVec 32 := 1#32
  let v8262 : BitVec 32 := Scalar.muli v96 c1_i32_11773
  let v8263 : BitVec 32 := Scalar.addi c0_i32_11774 v8262
  v8263.toNat
def k0_dev273 (d0 : Dev nD) : Nat :=
  let c0_i32_11810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11809 : BitVec 32 := 1#32
  let v8287 : BitVec 32 := Scalar.muli v98 c1_i32_11809
  let v8288 : BitVec 32 := Scalar.addi c0_i32_11810 v8287
  v8288.toNat
def k0_dev274 (d0 : Dev nD) : Nat :=
  let c0_i32_11846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11845 : BitVec 32 := 1#32
  let v8312 : BitVec 32 := Scalar.muli v98 c1_i32_11845
  let v8313 : BitVec 32 := Scalar.addi c0_i32_11846 v8312
  v8313.toNat
def k0_dev275 (d0 : Dev nD) : Nat :=
  let c0_i32_11876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11875 : BitVec 32 := 1#32
  let v8336 : BitVec 32 := Scalar.muli v96 c1_i32_11875
  let v8337 : BitVec 32 := Scalar.addi c0_i32_11876 v8336
  v8337.toNat
def k0_dev276 (d0 : Dev nD) : Nat :=
  let c0_i32_11900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_11899 : BitVec 32 := 1#32
  let v8354 : BitVec 32 := Scalar.muli v96 c1_i32_11899
  let v8355 : BitVec 32 := Scalar.addi c0_i32_11900 v8354
  v8355.toNat
def k0_dev277 (d0 : Dev nD) : Nat :=
  let c0_i32_11924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11923 : BitVec 32 := 1#32
  let v8372 : BitVec 32 := Scalar.muli v98 c1_i32_11923
  let v8373 : BitVec 32 := Scalar.addi c0_i32_11924 v8372
  v8373.toNat
def k0_dev278 (d0 : Dev nD) : Nat :=
  let c0_i32_11948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_11947 : BitVec 32 := 1#32
  let v8390 : BitVec 32 := Scalar.muli v98 c1_i32_11947
  let v8391 : BitVec 32 := Scalar.addi c0_i32_11948 v8390
  v8391.toNat
def k0_dev279 (d0 : Dev nD) : Nat :=
  let c0_i32_12004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12003 : BitVec 32 := 1#32
  let v8437 : BitVec 32 := Scalar.muli v96 c1_i32_12003
  let v8438 : BitVec 32 := Scalar.addi c0_i32_12004 v8437
  v8438.toNat
def k0_dev280 (d0 : Dev nD) : Nat :=
  let c0_i32_12040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12039 : BitVec 32 := 1#32
  let v8462 : BitVec 32 := Scalar.muli v96 c1_i32_12039
  let v8463 : BitVec 32 := Scalar.addi c0_i32_12040 v8462
  v8463.toNat
def k0_dev281 (d0 : Dev nD) : Nat :=
  let c0_i32_12076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12075 : BitVec 32 := 1#32
  let v8487 : BitVec 32 := Scalar.muli v98 c1_i32_12075
  let v8488 : BitVec 32 := Scalar.addi c0_i32_12076 v8487
  v8488.toNat
def k0_dev282 (d0 : Dev nD) : Nat :=
  let c0_i32_12112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12111 : BitVec 32 := 1#32
  let v8512 : BitVec 32 := Scalar.muli v98 c1_i32_12111
  let v8513 : BitVec 32 := Scalar.addi c0_i32_12112 v8512
  v8513.toNat

variable {F : FTy → Type} [FloatOps F]

def k0_dev283 (d0 : Dev nD) : Nat :=
  let c0_i32_12142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12141 : BitVec 32 := 1#32
  let v8536 : BitVec 32 := Scalar.muli v96 c1_i32_12141
  let v8537 : BitVec 32 := Scalar.addi c0_i32_12142 v8536
  v8537.toNat
def k0_dev284 (d0 : Dev nD) : Nat :=
  let c0_i32_12166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12165 : BitVec 32 := 1#32
  let v8554 : BitVec 32 := Scalar.muli v96 c1_i32_12165
  let v8555 : BitVec 32 := Scalar.addi c0_i32_12166 v8554
  v8555.toNat
def k0_dev285 (d0 : Dev nD) : Nat :=
  let c0_i32_12190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12189 : BitVec 32 := 1#32
  let v8572 : BitVec 32 := Scalar.muli v98 c1_i32_12189
  let v8573 : BitVec 32 := Scalar.addi c0_i32_12190 v8572
  v8573.toNat
def k0_dev286 (d0 : Dev nD) : Nat :=
  let c0_i32_12214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12213 : BitVec 32 := 1#32
  let v8590 : BitVec 32 := Scalar.muli v98 c1_i32_12213
  let v8591 : BitVec 32 := Scalar.addi c0_i32_12214 v8590
  v8591.toNat
def k0_dev287 (d0 : Dev nD) : Nat :=
  let c0_i32_12270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12269 : BitVec 32 := 1#32
  let v8637 : BitVec 32 := Scalar.muli v96 c1_i32_12269
  let v8638 : BitVec 32 := Scalar.addi c0_i32_12270 v8637
  v8638.toNat
def k0_dev288 (d0 : Dev nD) : Nat :=
  let c0_i32_12306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12305 : BitVec 32 := 1#32
  let v8662 : BitVec 32 := Scalar.muli v96 c1_i32_12305
  let v8663 : BitVec 32 := Scalar.addi c0_i32_12306 v8662
  v8663.toNat
def k0_dev289 (d0 : Dev nD) : Nat :=
  let c0_i32_12342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12341 : BitVec 32 := 1#32
  let v8687 : BitVec 32 := Scalar.muli v98 c1_i32_12341
  let v8688 : BitVec 32 := Scalar.addi c0_i32_12342 v8687
  v8688.toNat
def k0_dev290 (d0 : Dev nD) : Nat :=
  let c0_i32_12378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12377 : BitVec 32 := 1#32
  let v8712 : BitVec 32 := Scalar.muli v98 c1_i32_12377
  let v8713 : BitVec 32 := Scalar.addi c0_i32_12378 v8712
  v8713.toNat
def k0_dev291 (d0 : Dev nD) : Nat :=
  let c0_i32_12408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12407 : BitVec 32 := 1#32
  let v8736 : BitVec 32 := Scalar.muli v96 c1_i32_12407
  let v8737 : BitVec 32 := Scalar.addi c0_i32_12408 v8736
  v8737.toNat
def k0_dev292 (d0 : Dev nD) : Nat :=
  let c0_i32_12432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12431 : BitVec 32 := 1#32
  let v8754 : BitVec 32 := Scalar.muli v96 c1_i32_12431
  let v8755 : BitVec 32 := Scalar.addi c0_i32_12432 v8754
  v8755.toNat
def k0_dev293 (d0 : Dev nD) : Nat :=
  let c0_i32_12456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12455 : BitVec 32 := 1#32
  let v8772 : BitVec 32 := Scalar.muli v98 c1_i32_12455
  let v8773 : BitVec 32 := Scalar.addi c0_i32_12456 v8772
  v8773.toNat
def k0_dev294 (d0 : Dev nD) : Nat :=
  let c0_i32_12480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12479 : BitVec 32 := 1#32
  let v8790 : BitVec 32 := Scalar.muli v98 c1_i32_12479
  let v8791 : BitVec 32 := Scalar.addi c0_i32_12480 v8790
  v8791.toNat
def k0_dev295 (d0 : Dev nD) : Nat :=
  let c0_i32_12536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12535 : BitVec 32 := 1#32
  let v8837 : BitVec 32 := Scalar.muli v96 c1_i32_12535
  let v8838 : BitVec 32 := Scalar.addi c0_i32_12536 v8837
  v8838.toNat
def k0_dev296 (d0 : Dev nD) : Nat :=
  let c0_i32_12572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12571 : BitVec 32 := 1#32
  let v8862 : BitVec 32 := Scalar.muli v96 c1_i32_12571
  let v8863 : BitVec 32 := Scalar.addi c0_i32_12572 v8862
  v8863.toNat
def k0_dev297 (d0 : Dev nD) : Nat :=
  let c0_i32_12608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12607 : BitVec 32 := 1#32
  let v8887 : BitVec 32 := Scalar.muli v98 c1_i32_12607
  let v8888 : BitVec 32 := Scalar.addi c0_i32_12608 v8887
  v8888.toNat
def k0_dev298 (d0 : Dev nD) : Nat :=
  let c0_i32_12644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12643 : BitVec 32 := 1#32
  let v8912 : BitVec 32 := Scalar.muli v98 c1_i32_12643
  let v8913 : BitVec 32 := Scalar.addi c0_i32_12644 v8912
  v8913.toNat
def k0_dev299 (d0 : Dev nD) : Nat :=
  let c0_i32_12674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12673 : BitVec 32 := 1#32
  let v8936 : BitVec 32 := Scalar.muli v96 c1_i32_12673
  let v8937 : BitVec 32 := Scalar.addi c0_i32_12674 v8936
  v8937.toNat
def k0_dev300 (d0 : Dev nD) : Nat :=
  let c0_i32_12698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12697 : BitVec 32 := 1#32
  let v8954 : BitVec 32 := Scalar.muli v96 c1_i32_12697
  let v8955 : BitVec 32 := Scalar.addi c0_i32_12698 v8954
  v8955.toNat
def k0_dev301 (d0 : Dev nD) : Nat :=
  let c0_i32_12722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12721 : BitVec 32 := 1#32
  let v8972 : BitVec 32 := Scalar.muli v98 c1_i32_12721
  let v8973 : BitVec 32 := Scalar.addi c0_i32_12722 v8972
  v8973.toNat
def k0_dev302 (d0 : Dev nD) : Nat :=
  let c0_i32_12746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12745 : BitVec 32 := 1#32
  let v8990 : BitVec 32 := Scalar.muli v98 c1_i32_12745
  let v8991 : BitVec 32 := Scalar.addi c0_i32_12746 v8990
  v8991.toNat
def k0_dev303 (d0 : Dev nD) : Nat :=
  let c0_i32_12802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12801 : BitVec 32 := 1#32
  let v9037 : BitVec 32 := Scalar.muli v96 c1_i32_12801
  let v9038 : BitVec 32 := Scalar.addi c0_i32_12802 v9037
  v9038.toNat
def k0_dev304 (d0 : Dev nD) : Nat :=
  let c0_i32_12838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12837 : BitVec 32 := 1#32
  let v9062 : BitVec 32 := Scalar.muli v96 c1_i32_12837
  let v9063 : BitVec 32 := Scalar.addi c0_i32_12838 v9062
  v9063.toNat
def k0_dev305 (d0 : Dev nD) : Nat :=
  let c0_i32_12874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12873 : BitVec 32 := 1#32
  let v9087 : BitVec 32 := Scalar.muli v98 c1_i32_12873
  let v9088 : BitVec 32 := Scalar.addi c0_i32_12874 v9087
  v9088.toNat
def k0_dev306 (d0 : Dev nD) : Nat :=
  let c0_i32_12910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12909 : BitVec 32 := 1#32
  let v9112 : BitVec 32 := Scalar.muli v98 c1_i32_12909
  let v9113 : BitVec 32 := Scalar.addi c0_i32_12910 v9112
  v9113.toNat
def k0_dev307 (d0 : Dev nD) : Nat :=
  let c0_i32_12940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12939 : BitVec 32 := 1#32
  let v9136 : BitVec 32 := Scalar.muli v96 c1_i32_12939
  let v9137 : BitVec 32 := Scalar.addi c0_i32_12940 v9136
  v9137.toNat
def k0_dev308 (d0 : Dev nD) : Nat :=
  let c0_i32_12964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_12963 : BitVec 32 := 1#32
  let v9154 : BitVec 32 := Scalar.muli v96 c1_i32_12963
  let v9155 : BitVec 32 := Scalar.addi c0_i32_12964 v9154
  v9155.toNat
def k0_dev309 (d0 : Dev nD) : Nat :=
  let c0_i32_12988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_12987 : BitVec 32 := 1#32
  let v9172 : BitVec 32 := Scalar.muli v98 c1_i32_12987
  let v9173 : BitVec 32 := Scalar.addi c0_i32_12988 v9172
  v9173.toNat
def k0_dev310 (d0 : Dev nD) : Nat :=
  let c0_i32_13012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13011 : BitVec 32 := 1#32
  let v9190 : BitVec 32 := Scalar.muli v98 c1_i32_13011
  let v9191 : BitVec 32 := Scalar.addi c0_i32_13012 v9190
  v9191.toNat
def k0_dev311 (d0 : Dev nD) : Nat :=
  let c0_i32_13068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13067 : BitVec 32 := 1#32
  let v9237 : BitVec 32 := Scalar.muli v96 c1_i32_13067
  let v9238 : BitVec 32 := Scalar.addi c0_i32_13068 v9237
  v9238.toNat
def k0_dev312 (d0 : Dev nD) : Nat :=
  let c0_i32_13104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13103 : BitVec 32 := 1#32
  let v9262 : BitVec 32 := Scalar.muli v96 c1_i32_13103
  let v9263 : BitVec 32 := Scalar.addi c0_i32_13104 v9262
  v9263.toNat
def k0_dev313 (d0 : Dev nD) : Nat :=
  let c0_i32_13140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13139 : BitVec 32 := 1#32
  let v9287 : BitVec 32 := Scalar.muli v98 c1_i32_13139
  let v9288 : BitVec 32 := Scalar.addi c0_i32_13140 v9287
  v9288.toNat
def k0_dev314 (d0 : Dev nD) : Nat :=
  let c0_i32_13176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13175 : BitVec 32 := 1#32
  let v9312 : BitVec 32 := Scalar.muli v98 c1_i32_13175
  let v9313 : BitVec 32 := Scalar.addi c0_i32_13176 v9312
  v9313.toNat
def k0_dev315 (d0 : Dev nD) : Nat :=
  let c0_i32_13206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13205 : BitVec 32 := 1#32
  let v9336 : BitVec 32 := Scalar.muli v96 c1_i32_13205
  let v9337 : BitVec 32 := Scalar.addi c0_i32_13206 v9336
  v9337.toNat
def k0_dev316 (d0 : Dev nD) : Nat :=
  let c0_i32_13230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13229 : BitVec 32 := 1#32
  let v9354 : BitVec 32 := Scalar.muli v96 c1_i32_13229
  let v9355 : BitVec 32 := Scalar.addi c0_i32_13230 v9354
  v9355.toNat
def k0_dev317 (d0 : Dev nD) : Nat :=
  let c0_i32_13254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13253 : BitVec 32 := 1#32
  let v9372 : BitVec 32 := Scalar.muli v98 c1_i32_13253
  let v9373 : BitVec 32 := Scalar.addi c0_i32_13254 v9372
  v9373.toNat
def k0_dev318 (d0 : Dev nD) : Nat :=
  let c0_i32_13278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13277 : BitVec 32 := 1#32
  let v9390 : BitVec 32 := Scalar.muli v98 c1_i32_13277
  let v9391 : BitVec 32 := Scalar.addi c0_i32_13278 v9390
  v9391.toNat
def k0_dev319 (d0 : Dev nD) : Nat :=
  let c0_i32_13334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13333 : BitVec 32 := 1#32
  let v9437 : BitVec 32 := Scalar.muli v96 c1_i32_13333
  let v9438 : BitVec 32 := Scalar.addi c0_i32_13334 v9437
  v9438.toNat
def k0_dev320 (d0 : Dev nD) : Nat :=
  let c0_i32_13370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13369 : BitVec 32 := 1#32
  let v9462 : BitVec 32 := Scalar.muli v96 c1_i32_13369
  let v9463 : BitVec 32 := Scalar.addi c0_i32_13370 v9462
  v9463.toNat
def k0_dev321 (d0 : Dev nD) : Nat :=
  let c0_i32_13406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13405 : BitVec 32 := 1#32
  let v9487 : BitVec 32 := Scalar.muli v98 c1_i32_13405
  let v9488 : BitVec 32 := Scalar.addi c0_i32_13406 v9487
  v9488.toNat
def k0_dev322 (d0 : Dev nD) : Nat :=
  let c0_i32_13442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13441 : BitVec 32 := 1#32
  let v9512 : BitVec 32 := Scalar.muli v98 c1_i32_13441
  let v9513 : BitVec 32 := Scalar.addi c0_i32_13442 v9512
  v9513.toNat
def k0_dev323 (d0 : Dev nD) : Nat :=
  let c0_i32_13472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13471 : BitVec 32 := 1#32
  let v9536 : BitVec 32 := Scalar.muli v96 c1_i32_13471
  let v9537 : BitVec 32 := Scalar.addi c0_i32_13472 v9536
  v9537.toNat
def k0_dev324 (d0 : Dev nD) : Nat :=
  let c0_i32_13496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13495 : BitVec 32 := 1#32
  let v9554 : BitVec 32 := Scalar.muli v96 c1_i32_13495
  let v9555 : BitVec 32 := Scalar.addi c0_i32_13496 v9554
  v9555.toNat
def k0_dev325 (d0 : Dev nD) : Nat :=
  let c0_i32_13520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13519 : BitVec 32 := 1#32
  let v9572 : BitVec 32 := Scalar.muli v98 c1_i32_13519
  let v9573 : BitVec 32 := Scalar.addi c0_i32_13520 v9572
  v9573.toNat
def k0_dev326 (d0 : Dev nD) : Nat :=
  let c0_i32_13544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13543 : BitVec 32 := 1#32
  let v9590 : BitVec 32 := Scalar.muli v98 c1_i32_13543
  let v9591 : BitVec 32 := Scalar.addi c0_i32_13544 v9590
  v9591.toNat
def k0_dev327 (d0 : Dev nD) : Nat :=
  let c0_i32_13600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13599 : BitVec 32 := 1#32
  let v9637 : BitVec 32 := Scalar.muli v96 c1_i32_13599
  let v9638 : BitVec 32 := Scalar.addi c0_i32_13600 v9637
  v9638.toNat
def k0_dev328 (d0 : Dev nD) : Nat :=
  let c0_i32_13636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13635 : BitVec 32 := 1#32
  let v9662 : BitVec 32 := Scalar.muli v96 c1_i32_13635
  let v9663 : BitVec 32 := Scalar.addi c0_i32_13636 v9662
  v9663.toNat
def k0_dev329 (d0 : Dev nD) : Nat :=
  let c0_i32_13672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13671 : BitVec 32 := 1#32
  let v9687 : BitVec 32 := Scalar.muli v98 c1_i32_13671
  let v9688 : BitVec 32 := Scalar.addi c0_i32_13672 v9687
  v9688.toNat
def k0_dev330 (d0 : Dev nD) : Nat :=
  let c0_i32_13708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13707 : BitVec 32 := 1#32
  let v9712 : BitVec 32 := Scalar.muli v98 c1_i32_13707
  let v9713 : BitVec 32 := Scalar.addi c0_i32_13708 v9712
  v9713.toNat
def k0_dev331 (d0 : Dev nD) : Nat :=
  let c0_i32_13738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13737 : BitVec 32 := 1#32
  let v9736 : BitVec 32 := Scalar.muli v96 c1_i32_13737
  let v9737 : BitVec 32 := Scalar.addi c0_i32_13738 v9736
  v9737.toNat
def k0_dev332 (d0 : Dev nD) : Nat :=
  let c0_i32_13762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13761 : BitVec 32 := 1#32
  let v9754 : BitVec 32 := Scalar.muli v96 c1_i32_13761
  let v9755 : BitVec 32 := Scalar.addi c0_i32_13762 v9754
  v9755.toNat
def k0_dev333 (d0 : Dev nD) : Nat :=
  let c0_i32_13786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13785 : BitVec 32 := 1#32
  let v9772 : BitVec 32 := Scalar.muli v98 c1_i32_13785
  let v9773 : BitVec 32 := Scalar.addi c0_i32_13786 v9772
  v9773.toNat
def k0_dev334 (d0 : Dev nD) : Nat :=
  let c0_i32_13810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13809 : BitVec 32 := 1#32
  let v9790 : BitVec 32 := Scalar.muli v98 c1_i32_13809
  let v9791 : BitVec 32 := Scalar.addi c0_i32_13810 v9790
  v9791.toNat
def k0_dev335 (d0 : Dev nD) : Nat :=
  let c0_i32_13866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13865 : BitVec 32 := 1#32
  let v9837 : BitVec 32 := Scalar.muli v96 c1_i32_13865
  let v9838 : BitVec 32 := Scalar.addi c0_i32_13866 v9837
  v9838.toNat
def k0_dev336 (d0 : Dev nD) : Nat :=
  let c0_i32_13902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_13901 : BitVec 32 := 1#32
  let v9862 : BitVec 32 := Scalar.muli v96 c1_i32_13901
  let v9863 : BitVec 32 := Scalar.addi c0_i32_13902 v9862
  v9863.toNat
def k0_dev337 (d0 : Dev nD) : Nat :=
  let c0_i32_13938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13937 : BitVec 32 := 1#32
  let v9887 : BitVec 32 := Scalar.muli v98 c1_i32_13937
  let v9888 : BitVec 32 := Scalar.addi c0_i32_13938 v9887
  v9888.toNat
def k0_dev338 (d0 : Dev nD) : Nat :=
  let c0_i32_13974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_13973 : BitVec 32 := 1#32
  let v9912 : BitVec 32 := Scalar.muli v98 c1_i32_13973
  let v9913 : BitVec 32 := Scalar.addi c0_i32_13974 v9912
  v9913.toNat
def k0_dev339 (d0 : Dev nD) : Nat :=
  let c0_i32_14004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14003 : BitVec 32 := 1#32
  let v9936 : BitVec 32 := Scalar.muli v96 c1_i32_14003
  let v9937 : BitVec 32 := Scalar.addi c0_i32_14004 v9936
  v9937.toNat
def k0_dev340 (d0 : Dev nD) : Nat :=
  let c0_i32_14028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14027 : BitVec 32 := 1#32
  let v9954 : BitVec 32 := Scalar.muli v96 c1_i32_14027
  let v9955 : BitVec 32 := Scalar.addi c0_i32_14028 v9954
  v9955.toNat
def k0_dev341 (d0 : Dev nD) : Nat :=
  let c0_i32_14052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14051 : BitVec 32 := 1#32
  let v9972 : BitVec 32 := Scalar.muli v98 c1_i32_14051
  let v9973 : BitVec 32 := Scalar.addi c0_i32_14052 v9972
  v9973.toNat
def k0_dev342 (d0 : Dev nD) : Nat :=
  let c0_i32_14076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14075 : BitVec 32 := 1#32
  let v9990 : BitVec 32 := Scalar.muli v98 c1_i32_14075
  let v9991 : BitVec 32 := Scalar.addi c0_i32_14076 v9990
  v9991.toNat
def k0_dev343 (d0 : Dev nD) : Nat :=
  let c0_i32_14132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14131 : BitVec 32 := 1#32
  let v10037 : BitVec 32 := Scalar.muli v96 c1_i32_14131
  let v10038 : BitVec 32 := Scalar.addi c0_i32_14132 v10037
  v10038.toNat
def k0_dev344 (d0 : Dev nD) : Nat :=
  let c0_i32_14168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14167 : BitVec 32 := 1#32
  let v10062 : BitVec 32 := Scalar.muli v96 c1_i32_14167
  let v10063 : BitVec 32 := Scalar.addi c0_i32_14168 v10062
  v10063.toNat
def k0_dev345 (d0 : Dev nD) : Nat :=
  let c0_i32_14204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14203 : BitVec 32 := 1#32
  let v10087 : BitVec 32 := Scalar.muli v98 c1_i32_14203
  let v10088 : BitVec 32 := Scalar.addi c0_i32_14204 v10087
  v10088.toNat
def k0_dev346 (d0 : Dev nD) : Nat :=
  let c0_i32_14240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14239 : BitVec 32 := 1#32
  let v10112 : BitVec 32 := Scalar.muli v98 c1_i32_14239
  let v10113 : BitVec 32 := Scalar.addi c0_i32_14240 v10112
  v10113.toNat
def k0_dev347 (d0 : Dev nD) : Nat :=
  let c0_i32_14270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14269 : BitVec 32 := 1#32
  let v10136 : BitVec 32 := Scalar.muli v96 c1_i32_14269
  let v10137 : BitVec 32 := Scalar.addi c0_i32_14270 v10136
  v10137.toNat
def k0_dev348 (d0 : Dev nD) : Nat :=
  let c0_i32_14294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14293 : BitVec 32 := 1#32
  let v10154 : BitVec 32 := Scalar.muli v96 c1_i32_14293
  let v10155 : BitVec 32 := Scalar.addi c0_i32_14294 v10154
  v10155.toNat
def k0_dev349 (d0 : Dev nD) : Nat :=
  let c0_i32_14318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14317 : BitVec 32 := 1#32
  let v10172 : BitVec 32 := Scalar.muli v98 c1_i32_14317
  let v10173 : BitVec 32 := Scalar.addi c0_i32_14318 v10172
  v10173.toNat
def k0_dev350 (d0 : Dev nD) : Nat :=
  let c0_i32_14342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14341 : BitVec 32 := 1#32
  let v10190 : BitVec 32 := Scalar.muli v98 c1_i32_14341
  let v10191 : BitVec 32 := Scalar.addi c0_i32_14342 v10190
  v10191.toNat
def k0_dev351 (d0 : Dev nD) : Nat :=
  let c0_i32_14398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14397 : BitVec 32 := 1#32
  let v10237 : BitVec 32 := Scalar.muli v96 c1_i32_14397
  let v10238 : BitVec 32 := Scalar.addi c0_i32_14398 v10237
  v10238.toNat
def k0_dev352 (d0 : Dev nD) : Nat :=
  let c0_i32_14434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14433 : BitVec 32 := 1#32
  let v10262 : BitVec 32 := Scalar.muli v96 c1_i32_14433
  let v10263 : BitVec 32 := Scalar.addi c0_i32_14434 v10262
  v10263.toNat
def k0_dev353 (d0 : Dev nD) : Nat :=
  let c0_i32_14470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14469 : BitVec 32 := 1#32
  let v10287 : BitVec 32 := Scalar.muli v98 c1_i32_14469
  let v10288 : BitVec 32 := Scalar.addi c0_i32_14470 v10287
  v10288.toNat
def k0_dev354 (d0 : Dev nD) : Nat :=
  let c0_i32_14506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14505 : BitVec 32 := 1#32
  let v10312 : BitVec 32 := Scalar.muli v98 c1_i32_14505
  let v10313 : BitVec 32 := Scalar.addi c0_i32_14506 v10312
  v10313.toNat
def k0_dev355 (d0 : Dev nD) : Nat :=
  let c0_i32_14536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14535 : BitVec 32 := 1#32
  let v10336 : BitVec 32 := Scalar.muli v96 c1_i32_14535
  let v10337 : BitVec 32 := Scalar.addi c0_i32_14536 v10336
  v10337.toNat
def k0_dev356 (d0 : Dev nD) : Nat :=
  let c0_i32_14560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14559 : BitVec 32 := 1#32
  let v10354 : BitVec 32 := Scalar.muli v96 c1_i32_14559
  let v10355 : BitVec 32 := Scalar.addi c0_i32_14560 v10354
  v10355.toNat
def k0_dev357 (d0 : Dev nD) : Nat :=
  let c0_i32_14584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14583 : BitVec 32 := 1#32
  let v10372 : BitVec 32 := Scalar.muli v98 c1_i32_14583
  let v10373 : BitVec 32 := Scalar.addi c0_i32_14584 v10372
  v10373.toNat
def k0_dev358 (d0 : Dev nD) : Nat :=
  let c0_i32_14608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14607 : BitVec 32 := 1#32
  let v10390 : BitVec 32 := Scalar.muli v98 c1_i32_14607
  let v10391 : BitVec 32 := Scalar.addi c0_i32_14608 v10390
  v10391.toNat
def k0_dev359 (d0 : Dev nD) : Nat :=
  let c0_i32_14664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14663 : BitVec 32 := 1#32
  let v10437 : BitVec 32 := Scalar.muli v96 c1_i32_14663
  let v10438 : BitVec 32 := Scalar.addi c0_i32_14664 v10437
  v10438.toNat
def k0_dev360 (d0 : Dev nD) : Nat :=
  let c0_i32_14700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14699 : BitVec 32 := 1#32
  let v10462 : BitVec 32 := Scalar.muli v96 c1_i32_14699
  let v10463 : BitVec 32 := Scalar.addi c0_i32_14700 v10462
  v10463.toNat
def k0_dev361 (d0 : Dev nD) : Nat :=
  let c0_i32_14736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14735 : BitVec 32 := 1#32
  let v10487 : BitVec 32 := Scalar.muli v98 c1_i32_14735
  let v10488 : BitVec 32 := Scalar.addi c0_i32_14736 v10487
  v10488.toNat
def k0_dev362 (d0 : Dev nD) : Nat :=
  let c0_i32_14772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14771 : BitVec 32 := 1#32
  let v10512 : BitVec 32 := Scalar.muli v98 c1_i32_14771
  let v10513 : BitVec 32 := Scalar.addi c0_i32_14772 v10512
  v10513.toNat
def k0_dev363 (d0 : Dev nD) : Nat :=
  let c0_i32_14882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14881 : BitVec 32 := 1#32
  let v10597 : BitVec 32 := Scalar.muli v96 c1_i32_14881
  let v10598 : BitVec 32 := Scalar.addi c0_i32_14882 v10597
  v10598.toNat
def k0_dev364 (d0 : Dev nD) : Nat :=
  let c0_i32_14918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_80 : BitVec 32 := 15#32
  let v95 : BitVec 1 := Scalar.cmpi .eq v34 c15_i32_80
  let c0_i32_81 : BitVec 32 := 0#32
  let c14_i32_76 : BitVec 32 := 14#32
  let v91 : BitVec 1 := Scalar.cmpi .eq v34 c14_i32_76
  let c3_i32_77 : BitVec 32 := 3#32
  let c13_i32_72 : BitVec 32 := 13#32
  let v87 : BitVec 1 := Scalar.cmpi .eq v34 c13_i32_72
  let c7_i32_73 : BitVec 32 := 7#32
  let c12_i32_68 : BitVec 32 := 12#32
  let v83 : BitVec 1 := Scalar.cmpi .eq v34 c12_i32_68
  let c11_i32_69 : BitVec 32 := 11#32
  let c11_i32_64 : BitVec 32 := 11#32
  let v79 : BitVec 1 := Scalar.cmpi .eq v34 c11_i32_64
  let c15_i32_65 : BitVec 32 := 15#32
  let c10_i32_60 : BitVec 32 := 10#32
  let v75 : BitVec 1 := Scalar.cmpi .eq v34 c10_i32_60
  let c14_i32_61 : BitVec 32 := 14#32
  let c9_i32_56 : BitVec 32 := 9#32
  let v71 : BitVec 1 := Scalar.cmpi .eq v34 c9_i32_56
  let c10_i32_57 : BitVec 32 := 10#32
  let c8_i32_52 : BitVec 32 := 8#32
  let v67 : BitVec 1 := Scalar.cmpi .eq v34 c8_i32_52
  let c6_i32_53 : BitVec 32 := 6#32
  let c7_i32_48 : BitVec 32 := 7#32
  let v63 : BitVec 1 := Scalar.cmpi .eq v34 c7_i32_48
  let c2_i32_49 : BitVec 32 := 2#32
  let c6_i32_44 : BitVec 32 := 6#32
  let v59 : BitVec 1 := Scalar.cmpi .eq v34 c6_i32_44
  let c1_i32_45 : BitVec 32 := 1#32
  let c5_i32_40 : BitVec 32 := 5#32
  let v55 : BitVec 1 := Scalar.cmpi .eq v34 c5_i32_40
  let c5_i32_41 : BitVec 32 := 5#32
  let c4_i32_36 : BitVec 32 := 4#32
  let v51 : BitVec 1 := Scalar.cmpi .eq v34 c4_i32_36
  let c9_i32_37 : BitVec 32 := 9#32
  let c3_i32_32 : BitVec 32 := 3#32
  let v47 : BitVec 1 := Scalar.cmpi .eq v34 c3_i32_32
  let c13_i32_33 : BitVec 32 := 13#32
  let c2_i32_28 : BitVec 32 := 2#32
  let v43 : BitVec 1 := Scalar.cmpi .eq v34 c2_i32_28
  let c12_i32_29 : BitVec 32 := 12#32
  let c1_i32_24 : BitVec 32 := 1#32
  let v39 : BitVec 1 := Scalar.cmpi .eq v34 c1_i32_24
  let c8_i32_25 : BitVec 32 := 8#32
  let c0_i32_18 : BitVec 32 := 0#32
  let v35 : BitVec 1 := Scalar.cmpi .eq v34 c0_i32_18
  let c4_i32_19 : BitVec 32 := 4#32
  let c0_i32_20 : BitVec 32 := 0#32
  let v36 : BitVec 32 := Scalar.select v35 c4_i32_19 c0_i32_20
  let v40 : BitVec 32 := Scalar.select v39 c8_i32_25 v36
  let v44 : BitVec 32 := Scalar.select v43 c12_i32_29 v40
  let v48 : BitVec 32 := Scalar.select v47 c13_i32_33 v44
  let v52 : BitVec 32 := Scalar.select v51 c9_i32_37 v48
  let v56 : BitVec 32 := Scalar.select v55 c5_i32_41 v52
  let v60 : BitVec 32 := Scalar.select v59 c1_i32_45 v56
  let v64 : BitVec 32 := Scalar.select v63 c2_i32_49 v60
  let v68 : BitVec 32 := Scalar.select v67 c6_i32_53 v64
  let v72 : BitVec 32 := Scalar.select v71 c10_i32_57 v68
  let v76 : BitVec 32 := Scalar.select v75 c14_i32_61 v72
  let v80 : BitVec 32 := Scalar.select v79 c15_i32_65 v76
  let v84 : BitVec 32 := Scalar.select v83 c11_i32_69 v80
  let v88 : BitVec 32 := Scalar.select v87 c7_i32_73 v84
  let v92 : BitVec 32 := Scalar.select v91 c3_i32_77 v88
  let v96 : BitVec 32 := Scalar.select v95 c0_i32_81 v92
  let c1_i32_14917 : BitVec 32 := 1#32
  let v10622 : BitVec 32 := Scalar.muli v96 c1_i32_14917
  let v10623 : BitVec 32 := Scalar.addi c0_i32_14918 v10622
  v10623.toNat
def k0_dev365 (d0 : Dev nD) : Nat :=
  let c0_i32_14954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14953 : BitVec 32 := 1#32
  let v10647 : BitVec 32 := Scalar.muli v98 c1_i32_14953
  let v10648 : BitVec 32 := Scalar.addi c0_i32_14954 v10647
  v10648.toNat
def k0_dev366 (d0 : Dev nD) : Nat :=
  let c0_i32_14990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16 : BitVec 32 := 15#32
  let v33 : BitVec 1 := Scalar.cmpi .eq v2 c15_i32_16
  let c12_i32_17 : BitVec 32 := 12#32
  let c14_i32_14 : BitVec 32 := 14#32
  let v31 : BitVec 1 := Scalar.cmpi .eq v2 c14_i32_14
  let c11_i32_15 : BitVec 32 := 11#32
  let c13_i32_12 : BitVec 32 := 13#32
  let v29 : BitVec 1 := Scalar.cmpi .eq v2 c13_i32_12
  let c4_i32_13 : BitVec 32 := 4#32
  let c12_i32 : BitVec 32 := 12#32
  let v27 : BitVec 1 := Scalar.cmpi .eq v2 c12_i32
  let c3_i32_11 : BitVec 32 := 3#32
  let c11_i32 : BitVec 32 := 11#32
  let v25 : BitVec 1 := Scalar.cmpi .eq v2 c11_i32
  let c13_i32 : BitVec 32 := 13#32
  let c10_i32 : BitVec 32 := 10#32
  let v23 : BitVec 1 := Scalar.cmpi .eq v2 c10_i32
  let c10_i32_10 : BitVec 32 := 10#32
  let c9_i32_8 : BitVec 32 := 9#32
  let v21 : BitVec 1 := Scalar.cmpi .eq v2 c9_i32_8
  let c5_i32_9 : BitVec 32 := 5#32
  let c8_i32_6 : BitVec 32 := 8#32
  let v19 : BitVec 1 := Scalar.cmpi .eq v2 c8_i32_6
  let c2_i32_7 : BitVec 32 := 2#32
  let c7_i32_5 : BitVec 32 := 7#32
  let v17 : BitVec 1 := Scalar.cmpi .eq v2 c7_i32_5
  let c14_i32 : BitVec 32 := 14#32
  let c6_i32_4 : BitVec 32 := 6#32
  let v15 : BitVec 1 := Scalar.cmpi .eq v2 c6_i32_4
  let c9_i32 : BitVec 32 := 9#32
  let c5_i32 : BitVec 32 := 5#32
  let v13 : BitVec 1 := Scalar.cmpi .eq v2 c5_i32
  let c6_i32 : BitVec 32 := 6#32
  let c4_i32 : BitVec 32 := 4#32
  let v11 : BitVec 1 := Scalar.cmpi .eq v2 c4_i32
  let c1_i32_3 : BitVec 32 := 1#32
  let c3_i32 : BitVec 32 := 3#32
  let v9 : BitVec 1 := Scalar.cmpi .eq v2 c3_i32
  let c15_i32 : BitVec 32 := 15#32
  let c2_i32 : BitVec 32 := 2#32
  let v7 : BitVec 1 := Scalar.cmpi .eq v2 c2_i32
  let c8_i32 : BitVec 32 := 8#32
  let c1_i32_2 : BitVec 32 := 1#32
  let v5 : BitVec 1 := Scalar.cmpi .eq v2 c1_i32_2
  let c7_i32 : BitVec 32 := 7#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c7_i32 v4
  let v8 : BitVec 32 := Scalar.select v7 c8_i32 v6
  let v10 : BitVec 32 := Scalar.select v9 c15_i32 v8
  let v12 : BitVec 32 := Scalar.select v11 c1_i32_3 v10
  let v14 : BitVec 32 := Scalar.select v13 c6_i32 v12
  let v16 : BitVec 32 := Scalar.select v15 c9_i32 v14
  let v18 : BitVec 32 := Scalar.select v17 c14_i32 v16
  let v20 : BitVec 32 := Scalar.select v19 c2_i32_7 v18
  let v22 : BitVec 32 := Scalar.select v21 c5_i32_9 v20
  let v24 : BitVec 32 := Scalar.select v23 c10_i32_10 v22
  let v26 : BitVec 32 := Scalar.select v25 c13_i32 v24
  let v28 : BitVec 32 := Scalar.select v27 c3_i32_11 v26
  let v30 : BitVec 32 := Scalar.select v29 c4_i32_13 v28
  let v32 : BitVec 32 := Scalar.select v31 c11_i32_15 v30
  let v34 : BitVec 32 := Scalar.select v33 c12_i32_17 v32
  let c15_i32_82 : BitVec 32 := 15#32
  let v97 : BitVec 1 := Scalar.cmpi .eq v34 c15_i32_82
  let c7_i32_83 : BitVec 32 := 7#32
  let c14_i32_78 : BitVec 32 := 14#32
  let v93 : BitVec 1 := Scalar.cmpi .eq v34 c14_i32_78
  let c11_i32_79 : BitVec 32 := 11#32
  let c13_i32_74 : BitVec 32 := 13#32
  let v89 : BitVec 1 := Scalar.cmpi .eq v34 c13_i32_74
  let c15_i32_75 : BitVec 32 := 15#32
  let c12_i32_70 : BitVec 32 := 12#32
  let v85 : BitVec 1 := Scalar.cmpi .eq v34 c12_i32_70
  let c14_i32_71 : BitVec 32 := 14#32
  let c11_i32_66 : BitVec 32 := 11#32
  let v81 : BitVec 1 := Scalar.cmpi .eq v34 c11_i32_66
  let c10_i32_67 : BitVec 32 := 10#32
  let c10_i32_62 : BitVec 32 := 10#32
  let v77 : BitVec 1 := Scalar.cmpi .eq v34 c10_i32_62
  let c6_i32_63 : BitVec 32 := 6#32
  let c9_i32_58 : BitVec 32 := 9#32
  let v73 : BitVec 1 := Scalar.cmpi .eq v34 c9_i32_58
  let c2_i32_59 : BitVec 32 := 2#32
  let c8_i32_54 : BitVec 32 := 8#32
  let v69 : BitVec 1 := Scalar.cmpi .eq v34 c8_i32_54
  let c1_i32_55 : BitVec 32 := 1#32
  let c7_i32_50 : BitVec 32 := 7#32
  let v65 : BitVec 1 := Scalar.cmpi .eq v34 c7_i32_50
  let c5_i32_51 : BitVec 32 := 5#32
  let c6_i32_46 : BitVec 32 := 6#32
  let v61 : BitVec 1 := Scalar.cmpi .eq v34 c6_i32_46
  let c9_i32_47 : BitVec 32 := 9#32
  let c5_i32_42 : BitVec 32 := 5#32
  let v57 : BitVec 1 := Scalar.cmpi .eq v34 c5_i32_42
  let c13_i32_43 : BitVec 32 := 13#32
  let c4_i32_38 : BitVec 32 := 4#32
  let v53 : BitVec 1 := Scalar.cmpi .eq v34 c4_i32_38
  let c12_i32_39 : BitVec 32 := 12#32
  let c3_i32_34 : BitVec 32 := 3#32
  let v49 : BitVec 1 := Scalar.cmpi .eq v34 c3_i32_34
  let c8_i32_35 : BitVec 32 := 8#32
  let c2_i32_30 : BitVec 32 := 2#32
  let v45 : BitVec 1 := Scalar.cmpi .eq v34 c2_i32_30
  let c4_i32_31 : BitVec 32 := 4#32
  let c1_i32_26 : BitVec 32 := 1#32
  let v41 : BitVec 1 := Scalar.cmpi .eq v34 c1_i32_26
  let c0_i32_27 : BitVec 32 := 0#32
  let c0_i32_21 : BitVec 32 := 0#32
  let v37 : BitVec 1 := Scalar.cmpi .eq v34 c0_i32_21
  let c3_i32_22 : BitVec 32 := 3#32
  let c0_i32_23 : BitVec 32 := 0#32
  let v38 : BitVec 32 := Scalar.select v37 c3_i32_22 c0_i32_23
  let v42 : BitVec 32 := Scalar.select v41 c0_i32_27 v38
  let v46 : BitVec 32 := Scalar.select v45 c4_i32_31 v42
  let v50 : BitVec 32 := Scalar.select v49 c8_i32_35 v46
  let v54 : BitVec 32 := Scalar.select v53 c12_i32_39 v50
  let v58 : BitVec 32 := Scalar.select v57 c13_i32_43 v54
  let v62 : BitVec 32 := Scalar.select v61 c9_i32_47 v58
  let v66 : BitVec 32 := Scalar.select v65 c5_i32_51 v62
  let v70 : BitVec 32 := Scalar.select v69 c1_i32_55 v66
  let v74 : BitVec 32 := Scalar.select v73 c2_i32_59 v70
  let v78 : BitVec 32 := Scalar.select v77 c6_i32_63 v74
  let v82 : BitVec 32 := Scalar.select v81 c10_i32_67 v78
  let v86 : BitVec 32 := Scalar.select v85 c14_i32_71 v82
  let v90 : BitVec 32 := Scalar.select v89 c15_i32_75 v86
  let v94 : BitVec 32 := Scalar.select v93 c11_i32_79 v90
  let v98 : BitVec 32 := Scalar.select v97 c7_i32_83 v94
  let c1_i32_14989 : BitVec 32 := 1#32
  let v10672 : BitVec 32 := Scalar.muli v98 c1_i32_14989
  let v10673 : BitVec 32 := Scalar.addi c0_i32_14990 v10672
  v10673.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x256 : Shape := ⟨2, ![4096, 256]⟩
abbrev S256x8192 : Shape := ⟨2, ![256, 8192]⟩
abbrev S8192x256 : Shape := ⟨2, ![8192, 256]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S256x8192, .f32⟩
  | .hbm, ⟨3, _⟩ => ⟨S256x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x256, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x256, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Own.lean ====
module

public import Idealize.ShloMosaic.Lib.Rounds
public import Idealize.ShloMosaic.Lib.MemrefSat
public import Idealize.ShloMosaic.Lib.Exec.Geometry
public import Idealize.ShloMosaic.Lib.Pipeline.Value
public import Idealize.ShloMosaic.Lib.Tactic

/-!
Lemmas about ownership of parts of buffers that do not depend on the kernel: a rectangle in two pieces, a buffer in many
pieces with unknown contents, loads, stores and transfers of owned parts, lists of payments, and families indexed by the
numbers below or from a bound on.
-/

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Parts

variable {nD : Nat} {τ : Topo} {sig : RefSig} {Val : EltTy → Type} {Λ : Labels}
variable {Ix : Type} [DecidableEq Ix] {Name : Type} [DecidableEq Name] {U : Type} [URA U] {Lvl : Type}

local notation "𝕄" => MT nD τ sig Ix Val Name U Lvl

variable (c : Thread nD τ) {sp : Space} {sh : Shape} {e : EltTy} (m : Memref sig c.2.kind sp sh e)

/-- The part is owned in full, with some contents. -/
def any : sProp 𝕄 := iprop(∃ X, owns c m fullShare X)

instance any_storable : BI.Storable (upEmb : UEmb _ 𝕄) (any (Val := Val) c m) := by
  unfold any; infer_instance

theorem any_intro (X : sh.Idx → Val e) : (owns c m fullShare X : sProp 𝕄) ⊢ any c m := by
  unfold any; iintro H; iexists X; iexact H

/-- A rectangle owned is two rectangles owned that make it up. -/
theorem owns_pair (q : PosShare TreeShare) (R R₀ R₁ : Rect sh) (hR : ∀ a, R.stride a = 1) (h₀ : ∀ a, R₀.stride a = 1) (h₁ : ∀ a, R₁.stride a = 1)
    (e₀ : R₀.shape.Idx → R.shape.Idx) (e₁ : R₁.shape.Idx → R.shape.Idx)
    (he₀ : ∀ i, R.emb (e₀ i) = R₀.emb i) (he₁ : ∀ i, R.emb (e₁ i) = R₁.emb i)
    (hs : R.set = R₀.set ∪ R₁.set) (hd : Disjoint R₀.set R₁.set)
    (hc : ∀ i, (∃ j, e₀ j = i) ∨ ∃ j, e₁ j = i) (X : R.shape.Idx → Val e) :
    (owns c (m.slice R hR) q X : sProp 𝕄)
      ⊣⊢ iprop(owns c (m.slice R₀ h₀) q (fun i => X (e₀ i)) ∗ owns c (m.slice R₁ h₁) q (fun i => X (e₁ i))) := by
  have hset : (m.view.slice R).set = (m.view.slice R₀).set ∪ (m.view.slice R₁).set := by
    rw [View.set_slice, View.set_slice, View.set_slice, hs]
    exact Finset.map_union _ _
  have hdis : Disjoint (m.view.slice R₀).set (m.view.slice R₁).set := by
    rw [View.set_slice, View.set_slice]
    exact (Finset.disjoint_map _).mpr hd
  have hread : ∀ f : m.view.ty.Contents Val, (m.view.slice R).read Val f = X ↔
      (m.view.slice R₀).read Val f = (fun i => X (e₀ i)) ∧ (m.view.slice R₁).read Val f = (fun i => X (e₁ i)) := by
    intro f
    have r₀ : ∀ i, (m.view.slice R).read Val f (e₀ i) = (m.view.slice R₀).read Val f i := fun i =>
      congrArg (m.view.read Val f) (he₀ i)
    have r₁ : ∀ i, (m.view.slice R).read Val f (e₁ i) = (m.view.slice R₁).read Val f i := fun i =>
      congrArg (m.view.read Val f) (he₁ i)
    constructor
    · intro h
      exact ⟨funext fun i => (r₀ i).symm.trans (congrFun h _), funext fun i => (r₁ i).symm.trans (congrFun h _)⟩
    · rintro ⟨g₀, g₁⟩
      funext i
      rcases hc i with ⟨j, rfl⟩ | ⟨j, rfl⟩
      · exact (r₀ j).trans (congrFun g₀ j)
      · exact (r₁ j).trans (congrFun g₁ j)
  constructor
  · unfold owns
    iintro ⟨%f, %hf, H⟩
    ihave H' := (show (m.view.loc c ↦[(m.view.slice R).set]{q} f : sProp 𝕄)
        ⊢ iprop((m.view.loc c ↦[(m.view.slice R₀).set]{q} f) ∗ (m.view.loc c ↦[(m.view.slice R₁).set]{q} f)) from
      (Entails.of_eq (by rw [hset])).trans (pointsTo_union (ℓ := m.view.loc c) hdis).1) $$ H
    icases H' with ⟨H₀, H₁⟩
    isplitl [H₀]
    · iexists f
      isplitr; · ipureintro; exact ((hread f).mp hf).1
      iexact H₀
    · iexists f
      isplitr; · ipureintro; exact ((hread f).mp hf).2
      iexact H₁
  · unfold owns
    iintro ⟨⟨%f, %hf, H₀⟩, ⟨%g, %hg, H₁⟩⟩
    iexists (m.view.slice R₁).set.piecewise g f
    isplitr
    · ipureintro
      refine (hread _).mpr ⟨?_, ?_⟩
      · rw [← hf]
        exact View.read_congr (v := m.view.slice R₀) fun i hi =>
          Finset.piecewise_eq_of_notMem _ _ _ (Finset.disjoint_left.mp hdis hi)
      · rw [← hg]
        exact View.read_congr (v := m.view.slice R₁) fun i hi => Finset.piecewise_eq_of_mem _ _ _ hi
    · iapply (show iprop((m.view.loc c ↦[(m.view.slice R₀).set]{q} f) ∗ (m.view.loc c ↦[(m.view.slice R₁).set]{q} g))
          ⊢ (m.view.loc c ↦[(m.view.slice R).set]{q} ((m.view.slice R₁).set.piecewise g f) : sProp 𝕄) from
        (pointsTo_join (ℓ := m.view.loc c) hdis).trans (Entails.of_eq (by rw [hset])))
      isplitl [H₀] <;> iassumption

/-- Two rectangles owned with some contents each are the rectangle they make up, owned with some contents. -/
theorem any_pair (R R₀ R₁ : Rect sh) (hR : ∀ a, R.stride a = 1) (h₀ : ∀ a, R₀.stride a = 1) (h₁ : ∀ a, R₁.stride a = 1)
    (hs : R.set = R₀.set ∪ R₁.set) (hd : Disjoint R₀.set R₁.set) :
    iprop(any c (m.slice R₀ h₀) ∗ any c (m.slice R₁ h₁)) ⊢ (any c (m.slice R hR) : sProp 𝕄) := by
  have hset : (m.view.slice R).set = (m.view.slice R₀).set ∪ (m.view.slice R₁).set := by
    rw [View.set_slice, View.set_slice, View.set_slice, hs]
    exact Finset.map_union _ _
  have hdis : Disjoint (m.view.slice R₀).set (m.view.slice R₁).set := by
    rw [View.set_slice, View.set_slice]
    exact (Finset.disjoint_map _).mpr hd
  unfold any owns
  iintro ⟨⟨%X, %f, -, H₀⟩, ⟨%Y, %g, -, H₁⟩⟩
  iexists (m.view.slice R).read Val ((m.view.slice R₁).set.piecewise g f)
  iexists (m.view.slice R₁).set.piecewise g f
  isplitr; · ipureintro; rfl
  iapply (show iprop((m.view.loc c ↦[(m.view.slice R₀).set]{fullShare} f) ∗ (m.view.loc c ↦[(m.view.slice R₁).set]{fullShare} g))
      ⊢ (m.view.loc c ↦[(m.view.slice R).set]{fullShare} ((m.view.slice R₁).set.piecewise g f) : sProp 𝕄) from
    (pointsTo_join (ℓ := m.view.loc c) hdis).trans (Entails.of_eq (by rw [hset])))
  isplitl [H₀] <;> iassumption

/-- Pieces owned with some contents each are the whole owned with some contents. -/
theorem any_of_rects [∀ e, Nonempty (Val e)] {T : Type} [Fintype T] [DecidableEq T] (r : T → Rect sh) (hr : ∀ t a, (r t).stride a = 1)
    (hd : ∀ t t', t ≠ t' → Disjoint (r t).set (r t').set)
    (hcov : (Finset.univ : Finset T).biUnion (fun t => (r t).set) = Finset.univ) (f₀ : m.view.ty.Contents Val) :
    bigSep Finset.univ (fun t => any c (m.slice (r t) (hr t))) ⊢ (any c m : sProp 𝕄) := by
  have hdis : ∀ t ∈ (Finset.univ : Finset T), ∀ t' ∈ (Finset.univ : Finset T), t ≠ t' →
      Disjoint (m.view.slice (r t)).set (m.view.slice (r t')).set := fun t _ t' _ h => by
    rw [View.set_slice, View.set_slice]
    exact (Finset.disjoint_map _).mpr (hd t t' h)
  have hcv : (Finset.univ : Finset T).biUnion (fun t => (m.view.slice (r t)).set) = m.view.set := by
    ext i
    constructor
    · intro hi
      obtain ⟨t, -, ht⟩ := Finset.mem_biUnion.mp hi
      exact m.view.set_slice_subset _ ht
    · intro hi
      obtain ⟨j, -, rfl⟩ := Finset.mem_map.mp hi
      have : j ∈ (Finset.univ : Finset T).biUnion (fun t => (r t).set) := by rw [hcov]; exact Finset.mem_univ _
      obtain ⟨t, -, ht⟩ := Finset.mem_biUnion.mp this
      refine Finset.mem_biUnion.mpr ⟨t, Finset.mem_univ _, ?_⟩
      rw [View.set_slice]
      exact Finset.mem_map_of_mem _ ht
  have : Nonempty (m.view.ty.Contents Val) := ⟨f₀⟩
  refine (bigSep_mono (Ψ := fun t => iprop(∃ f : m.view.ty.Contents Val, m.view.loc c ↦[(m.view.slice (r t)).set]{fullShare} f)) fun t _ => ?_).trans ?_
  · show any c (m.slice (r t) (hr t)) ⊢ iprop(∃ f : m.view.ty.Contents Val, m.view.loc c ↦[(m.view.slice (r t)).set]{fullShare} f)
    unfold any owns
    iintro ⟨%X, %f, -, H⟩
    iexists f; iexact H
  refine (bigSep_exists_pi Finset.univ (fun t (f : m.view.ty.Contents Val) => (m.view.loc c ↦[(m.view.slice (r t)).set]{fullShare} f : sProp 𝕄))).trans ?_
  iintro ⟨%fs, H⟩
  ihave H' := (pointsTo_biUnion_join (ℓ := m.view.loc c) (q := fullShare) Finset.univ (fun t => (m.view.slice (r t)).set) fs f₀ hdis) $$ H
  icases H' with ⟨%g, -, H⟩
  unfold any
  iexists m.view.read Val g
  iapply (owns_intro c m fullShare g)
  iapply (show (m.view.loc c ↦[(Finset.univ : Finset T).biUnion (fun t => (m.view.slice (r t)).set)]{fullShare} g : sProp 𝕄)
    ⊢ (m.view.loc c ↦[m.view.set]{fullShare} g) from Entails.of_eq (by rw [hcv]))
  iexact H

/-- A rectangle that is everything. -/
theorem any_full [∀ e, Nonempty (Val e)] (r : Rect sh) (hr : ∀ a, r.stride a = 1) (hcov : r.set = Finset.univ) (f₀ : m.view.ty.Contents Val) :
    (any c m : sProp 𝕄) ⊣⊢ any c (m.slice r hr) := by
  have hc : (Finset.univ : Finset Unit).biUnion (fun _ => r.set) = Finset.univ := by rw [Finset.univ_unique, Finset.singleton_biUnion, hcov]
  have hu : ∀ Φ : Unit → sProp 𝕄, bigSep Finset.univ Φ = Φ () := fun Φ => by rw [Finset.univ_unique, bigSep_singleton]
  constructor
  · unfold any
    iintro ⟨%X, H⟩
    iexists fun j => X (r.emb j)
    iapply ((owns_rects c m fullShare (fun _ : Unit => r) (fun _ => hr) (fun t t' h => absurd rfl h) hc X).trans (Entails.of_eq (hu _)))
    iexact H
  · exact (Entails.of_eq (hu fun _ => any c (m.slice r hr)).symm).trans
      (any_of_rects c m (fun _ : Unit => r) (fun _ => hr) (fun t t' h => absurd rfl h) hc f₀)

/-- A whole buffer owned with some contents. -/
theorem any_whole (b : Ref sig c.2.kind) : (any c (Memref.whole b) : sProp 𝕄) = iprop(∃ f, (c.loc b) ↦{fullShare} f) := by
  unfold any
  simp only [owns_whole]

/-- What is read through a part without its leading extents of one is the same, relabelled. -/
theorem owns_squeeze (q : PosShare TreeShare) (s : Shape) (h : sh.Squeezes s) (h' : s.ShapeCasts sh) (X : s.Idx → Val e) :
    (owns c (m.squeeze s h) q X : sProp 𝕄) ⊣⊢ owns c m q (shapeCast sh X h') := by
  have hset : (m.squeeze s h).view.set = m.view.set := View.set_reshape _ _
  have hread : ∀ f : m.view.ty.Contents Val, (m.squeeze s h).view.read Val f = X ↔ m.view.read Val f = shapeCast sh X h' := by
    intro f
    have key : (m.squeeze s h).view.read Val f = shapeCast s (m.view.read Val f) h'.symm := rfl
    rw [key]
    constructor
    · rintro rfl
      rw [shapeCast_shapeCast]
    · intro hf
      rw [hf, shapeCast_shapeCast]
  constructor
  · unfold owns
    iintro ⟨%f, %hf, H⟩
    iexists f
    isplitr; · ipureintro; exact (hread f).mp hf
    iapply (Entails.of_eq (show ((m.squeeze s h).view.loc c ↦[(m.squeeze s h).view.set]{q} f : sProp 𝕄) = (m.view.loc c ↦[m.view.set]{q} f) by rw [hset]))
    iexact H
  · unfold owns
    iintro ⟨%f, %hf, H⟩
    iexists f
    isplitr; · ipureintro; exact (hread f).mpr hf
    iapply (Entails.of_eq (show (m.view.loc c ↦[m.view.set]{q} f : sProp 𝕄) = ((m.squeeze s h).view.loc c ↦[(m.squeeze s h).view.set]{q} f) by rw [hset]))
    iexact H

end Parts

section Effects

variable {nD : Nat} {τ : Topo} {sig : RefSig} {Val : EltTy → Type} {Λ : Labels}
variable {Ix : Type} [DecidableEq Ix] {U : Type} [URA U] {Lvl : Type} [Preorder Lvl]

local notation "𝕎" => MT nD τ sig Ix Val ℕ U Lvl

variable {defs : Defs nD τ sig Val Λ} (𝒱 : Variants) (c : Thread nD τ) (bd : Option 𝒱.V) {Γ : PendingWaitsCtx sig Ix}
variable {α : Type} {e : EltTy} {s : Shape}

/-- A load of an owned part gives its contents. -/
theorem wp_load_owns (E : Set ℕ) {cs : CoreSpace} {m : Memref sig c.2.kind cs s e} {r : Rect s} (hr : ∀ a, r.stride a = 1) {hl : m.view.LoadsAt r}
    {k : (r.shape.Idx → Val e) → Prog (TpuEff nD τ sig Val Λ c.2) α} {q : PosShare TreeShare} {X : r.shape.Idx → Val e} {Q : α → sProp 𝕎} :
    (owns c (m.slice r hr) q X : sProp 𝕎)
      ⊢ iprop((owns c (m.slice r hr) q X -∗ wp frame (wpE' defs 𝒱 c bd Γ) E (k X) Q)
        -∗ wp frame (wpE' defs 𝒱 c bd Γ) E (.op (.load m r.toLoadRect hl) k) Q) := by
  unfold owns
  iintro ⟨%f, %hf, H⟩ Hk
  subst hf
  iapply (wp_load_rect 𝒱 c bd E (m := m) (r := r) (hl := hl) (S := (m.slice r hr).view.set) (q := q) (f := f) subset_rfl) $$ H
  iintro H
  iapply Hk
  iexists f
  isplitr; · ipureintro; rfl
  iexact H

/-- A load of a rectangle of an owned part. -/
theorem wp_load_part (E : Set ℕ) {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} {Q : α → sProp 𝕎} :
    (owns c m q X : sProp 𝕎)
      ⊢ iprop((owns c m q X -∗ wp frame (wpE' defs 𝒱 c bd Γ) E (k fun j => X (r.emb j)) Q)
        -∗ wp frame (wpE' defs 𝒱 c bd Γ) E (.op (.load m r.toLoadRect hl) k) Q) := by
  unfold owns
  iintro ⟨%f, %hf, H⟩ Hk
  subst hf
  iapply (wp_load_rect 𝒱 c bd E (m := m) (r := r) (hl := hl) (S := m.view.set) (q := q) (f := f) (m.view.set_slice_subset r)) $$ H
  iintro H
  iapply Hk
  iexists f
  isplitr; · ipureintro; rfl
  iexact H

/-- A store into an owned part. -/
theorem wp_store_owns (E : Set ℕ) {cs : CoreSpace} {m : Memref sig c.2.kind cs s e} {r : Rect s} (hr : ∀ a, r.stride a = 1) {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : r.shape.Idx → Val e} {Q : α → sProp 𝕎} :
    (owns c (m.slice r hr) fullShare X : sProp 𝕎)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (S := (m.slice r hr).view.set) (f := f) ((m.access r).setOn_subset_set _)) $$ H
  iintro H
  iapply Hk
  iexists ((m.access r).write Val f w Finset.univ)
  isplitr; · ipureintro; exact View.read_write_univ (v := m.access r) f w
  iexact H

/-- Sending an owned part into a part of another device that is owned with some contents. -/
theorem wp_send_owns {D : Type} [DecidableEq D] (E : Emb (URounds (GSem nD τ sig) D) 𝕎) (Rd : Schedule (GSem nD τ sig) D 𝕎)
    [∀ g r d, BI.Storable (upEmb : UEmb _ 𝕎) (Rd.payload g r d)] {sp sp' : Space} {c' : Thread nD τ}
    {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {r₁ r₂ : ℕ} {d₁ d₂ : D} {κ₁ κ₂ : ℕ}
    (hd₁ : d₁ ∈ Rd.duties (c, sS) r₁) (hd₂ : d₂ ∈ Rd.duties (c', sem) r₂) (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix} {G : sProp 𝕎}
    (hpay₁ : owns c src q X ⊢ Rd.payload (c, sS) r₁ d₁) (hpay₂ : iprop(owns c' dst fullShare X ∗ G) ⊢ Rd.payload (c', sem) r₂ d₂)
    {Q : α → sProp 𝕎} {Es : Set ℕ} (hr : τ.routes c c' = true) :
    iprop(cellInv E Rd κ₁ (c, sS) ∗ cellInv E Rd κ₂ (c', sem) ∗ owns c src q X ∗ any c' dst ∗ G ∗ owes c O₀ W
        ∗ dutyTok E (c, sS) r₁ d₁ ∗ reached E (c, sS) r₁ ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold any
  iintro ⟨HI, HI', Hs, ⟨%Y, Hd⟩, HG, Ho, Ht, Hr, Ht', Hr'⟩
  ihave Hs := (show owns c src q X ⊢ iprop(∃ f, ⌜src.view.read Val f = X⌝ ∗ (src.view.loc c ↦[src.view.set]{q} f)) from .rfl) $$ Hs
  ihave Hd := (show owns c' dst fullShare Y ⊢ iprop(∃ f, ⌜dst.view.read Val f = Y⌝ ∗ (dst.view.loc c' ↦[dst.view.set]{fullShare} f)) from .rfl) $$ Hd
  icases Hs with ⟨%fs, %hfs, Hs⟩
  icases Hd with ⟨%fd, -, Hd⟩
  have h₁ : (src.view.loc c ↦[src.view.set]{q} fs : sProp 𝕎) ⊢ Rd.payload (c, sS) r₁ d₁ := by
    refine BIBase.Entails.trans ?_ hpay₁
    subst hfs
    exact owns_intro c src q fs
  have h₂ : iprop((dst.view.loc c' ↦[dst.view.set]{fullShare} (dst.view.write Val fd (src.view.read Val fs) Finset.univ)) ∗ G)
      ⊢ (Rd.payload (c', sem) r₂ d₂ : sProp 𝕎) := by
    refine BIBase.Entails.trans (BIClass.sep_mono ?_ .rfl) hpay₂
    subst hfs
    refine (owns_intro c' dst fullShare _).trans (Entails.of_eq ?_)
    rw [View.read_write_univ (v := dst.view)]
  iapply (Rounds.wp_send_pointsTo_with 𝒱 E Rd c bd (κ₁ := κ₁) (κ₂ := κ₂) (fs := fs) (fd := fd) (F := G) hd₁ hd₂ ι ι' N hN hk₁ hk₂ O hO h₁ h₂ hr)
    $$ [HI HI' Hs Hd HG Ho Ht Hr Ht' Hr']
  isplitl [HI]; · iexact HI
  isplitl [HI']; · iexact HI'
  isplitl [Hs]; · iexact Hs
  isplitl [Hd HG]
  · isplitl [Hd] <;> iassumption
  isplitl [Ho]; · iexact Ho
  isplitl [Ht]; · iexact Ht
  isplitl [Hr]; · iexact Hr
  isplitl [Ht'] <;> iassumption

end Effects

section Families

variable {n : ℕ}

/-- The numbers from `k` on. -/
def since (k : ℕ) : Finset (Fin n) := Finset.univ.filter fun i => k ≤ i.val

theorem since_zero : (since 0 : Finset (Fin n)) = Finset.univ := Finset.filter_true_of_mem fun i _ => Nat.zero_le _
theorem since_end {k : ℕ} (h : n ≤ k) : (since k : Finset (Fin n)) = ∅ :=
  Finset.filter_false_of_mem fun i _ => by have := i.isLt; omega

theorem sum_since {M : Type} [AddCommMonoid M] (f : Fin n → M) (k : ℕ) (h : k < n) :
    ∑ i ∈ since k, f i = ∑ i ∈ since (k + 1), f i + f ⟨k, h⟩ := by
  have : (since k : Finset (Fin n)) = insert ⟨k, h⟩ (since (k + 1)) := by
    ext i; simp only [since, Finset.mem_filter, Finset.mem_univ, true_and, Finset.mem_insert, Fin.ext_iff]; omega
  rw [this, Finset.sum_insert (by simp [since]), add_comm]

variable {M : Type} [URA M]

/-- The members below `k` are done, the others still to do. -/
def prog (A B : Fin n → sProp M) (k : ℕ) : sProp M := bigSep Finset.univ fun i => if i.val < k then B i else A i

theorem prog_zero (A B : Fin n → sProp M) : prog A B 0 = bigSep Finset.univ A :=
  bigSep_congr fun i _ => if_neg (Nat.not_lt_zero _)
theorem prog_end (A B : Fin n → sProp M) {k : ℕ} (h : n ≤ k) : prog A B k = bigSep Finset.univ B :=
  bigSep_congr fun i _ => if_pos (Nat.lt_of_lt_of_le i.isLt h)

theorem prog_at (A B : Fin n → sProp M) (k : ℕ) (i : Fin n) :
    prog A B k = iprop((if i.val < k then B i else A i) ∗ bigSep (Finset.univ.erase i) fun i => if i.val < k then B i else A i) := by
  unfold prog
  conv_lhs => rw [← Finset.insert_erase (Finset.mem_univ i)]
  rw [bigSep_insert (Finset.notMem_erase i _)]
  rfl

/-- Taking the next member and giving it back done. -/
theorem prog_step (A B : Fin n → sProp M) (k : ℕ) (h : k < n) :
    prog A B k ⊢ iprop(A ⟨k, h⟩ ∗ (B ⟨k, h⟩ -∗ prog A B (k + 1))) := by
  rw [prog_at A B k ⟨k, h⟩, prog_at A B (k + 1) ⟨k, h⟩, if_neg (Nat.lt_irrefl k), if_pos (Nat.lt_succ_self k)]
  rw [show (bigSep (Finset.univ.erase (⟨k, h⟩ : Fin n)) fun i => if i.val < k + 1 then B i else A i)
      = bigSep (Finset.univ.erase (⟨k, h⟩ : Fin n)) fun i => if i.val < k then B i else A i from
    bigSep_congr fun i hi => by
      have : i.val ≠ k := fun hk => Finset.ne_of_mem_erase hi (Fin.ext hk)
      by_cases hl : i.val < k
      · rw [if_pos hl, if_pos (by omega)]
      · rw [if_neg hl, if_neg (by omega)]]
  iintro ⟨HA, Hr⟩
  isplitl [HA]; · iexact HA
  iintro HB
  isplitl [HB] <;> iassumption

/-- Borrowing a member that is done. -/
theorem prog_get (A B : Fin n → sProp M) (k : ℕ) (i : Fin n) (h : i.val < k) :
    prog A B k ⊢ iprop(B i ∗ (B i -∗ prog A B k)) := by
  rw [prog_at A B k i, if_pos h]
  iintro ⟨HB, Hr⟩
  isplitl [HB]; · iexact HB
  iintro HB
  isplitl [HB] <;> iassumption

/-- A family split at its first and at its last member. -/
theorem bigSep_first (Φ : Fin (n + 1) → sProp M) : bigSep Finset.univ Φ = iprop(Φ 0 ∗ bigSep Finset.univ fun i : Fin n => Φ i.succ) := by
  rw [Fin.univ_succ, Finset.cons_eq_insert, bigSep_insert (by simp [Fin.succ_ne_zero]), bigSep_map]
  rfl
theorem bigSep_last (Φ : Fin (n + 1) → sProp M) :
    bigSep Finset.univ Φ = iprop(Φ (Fin.last n) ∗ bigSep Finset.univ fun i : Fin n => Φ i.castSucc) := by
  rw [Fin.univ_castSuccEmb, Finset.cons_eq_insert, bigSep_insert (by simp [Fin.castSucc_ne_last]), bigSep_map]
  rfl

end Families

end Cert.Own
-- ==== Proof.Slots.lean ====
module

public import proofs.«01_k».proof.Proof.Own

/-!
A pool of `n` slots, each slot two halves of 64 rows: its halves as parts of the pool, a slot as its two halves, and the
pool as all the halves.
-/

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The pool, one half of a slot, a slot, a half's rows, a slot's rows. -/
abbrev Pool (n : ℕ) : Shape := ⟨4, ![n, 2, 64, 256]⟩
abbrev Piece : Shape := ⟨4, ![1, 1, 64, 256]⟩
abbrev Both : Shape := ⟨4, ![1, 2, 64, 256]⟩
abbrev Pair : Shape := ⟨3, ![2, 64, 256]⟩
abbrev Flat : Shape := ⟨2, ![64, 256]⟩
abbrev Tall : Shape := ⟨2, ![128, 256]⟩

theorem inb_place (n : ℕ) (j : Fin n) (s : Fin 2) : ∀ a, (![j.val, s.val, 0, 0] : Fin 4 → ℕ) a + Piece.size a ≤ (Pool n).size a := by
  intro a
  have := j.isLt
  have := s.isLt
  fin_cases a <;> simp [Piece, Pool] <;> omega

theorem inb_both (n : ℕ) (j : Fin n) : ∀ a, (![j.val, 0, 0, 0] : Fin 4 → ℕ) a + Both.size a ≤ (Pool n).size a := by
  intro a
  have := j.isLt
  fin_cases a <;> simp [Both, Pool] <;> omega

theorem inb_half (s : Fin 2) : ∀ a, (![0, s.val, 0, 0] : Fin 4 → ℕ) a + Piece.size a ≤ Both.size a := by
  revert s; decide

/-- Half `s` of slot `j`, slot `j`, half `s` of a slot. -/
abbrev placeRect (n : ℕ) (j : Fin n) (s : Fin 2) : Rect (Pool n) := Rect.unit (s := Pool n) ![j.val, s.val, 0, 0] Piece.size (inb_place n j s)
abbrev bothRect (n : ℕ) (j : Fin n) : Rect (Pool n) := Rect.unit (s := Pool n) ![j.val, 0, 0, 0] Both.size (inb_both n j)
abbrev halfRect (s : Fin 2) : Rect Both := Rect.unit (s := Both) ![0, s.val, 0, 0] Piece.size (inb_half s)

theorem squeezes_piece : Piece.Squeezes Flat := by decide
theorem casts_piece : Flat.ShapeCasts Piece := by decide
theorem casts_piece' : Piece.ShapeCasts Flat := by decide
theorem casts_pair : Tall.ShapeCasts Pair := by decide
theorem casts_both : Pair.ShapeCasts Both := by decide

/-- Half `s` of the contents of a slot. -/
def sub {α : Type} (s : Fin 2) (v : Both.Idx → α) : Flat.Idx → α :=
  shapeCast Flat (fun i : Piece.Idx => v ((halfRect s).emb i)) casts_piece'

/-- A slot's contents from its 128 rows. -/
def unflat {α : Type} (w : Tall.Idx → α) : Both.Idx → α :=
  shapeCast Both (shapeCast Pair w casts_pair) casts_both

/-- Half `s` of the 128 rows. -/
theorem sub_unflat {α : Type} (s : Fin 2) (w : Tall.Idx → α) (off : Fin 2 → ℕ) (ho : off = ![64 * s.val, 0]) (h : Tall.Slices off Flat) :
    sub s (unflat w) = extractStridedSlice Flat off w h := by
  subst ho
  funext j
  let k : Piece.Idx := fun a => match a with | 0 => (0 : Fin 1) | 1 => (0 : Fin 1) | 2 => j 0 | 3 => j 1
  let p : Pair.Idx := fun a => match a with | 0 => s | 1 => j 0 | 2 => j 1
  have h1 : (Piece.rowMajor k).val = (Flat.rowMajor j).val := by
    rw [Shape.rowMajor_val_four, Shape.rowMajor_val_two]; simp [k]
  have h2 : (Pair.rowMajor p).val = (Both.rowMajor ((halfRect s).emb k)).val := by
    rw [Shape.rowMajor_val_four, Shape.rowMajor_val_three]; simp [k, p]
  unfold sub unflat extractStridedSlice
  rw [shapeCast_apply _ _ j k h1, shapeCast_apply _ _ _ p h2]
  refine shapeCast_apply _ _ p _ ?_
  rw [Shape.rowMajor_val_two, Shape.rowMajor_val_three]
  simp [p]
  omega

/-! ## Ownership -/

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {sp : Space} {n : ℕ} {e : EltTy}

/-- Half `s` of slot `j`. -/
abbrev place {κ : Kind} (m : Memref sig κ sp (Pool n) e) (j : Fin n) (s : Fin 2) : Memref sig κ sp Flat e :=
  (m.slice (placeRect n j s) (fun _ => rfl)).squeeze Flat squeezes_piece

variable (c : Thread nD τ) (m : Memref sig c.2.kind sp (Pool n) e)

/-- The same without the leading extents removed. -/
theorem owns_place (q : PosShare TreeShare) (j : Fin n) (s : Fin 2) (v : Piece.Idx → Val e) :
    (owns c (place m j s) q (shapeCast Flat v casts_piece') : sProp 𝕄) ⊣⊢ owns c (m.slice (placeRect n j s) (fun _ => rfl)) q v := by
  have h := owns_squeeze (Ix := Ix) (Name := Name) (U := U) (Lvl := Lvl) c (m.slice (placeRect n j s) (fun _ => rfl)) q Flat squeezes_piece casts_piece (shapeCast Flat v casts_piece')
  rw [shapeCast_shapeCast] at h
  exact h

theorem any_place (j : Fin n) (s : Fin 2) :
    (any c (place m j s) : sProp 𝕄) ⊣⊢ any c (m.slice (placeRect n j s) (fun _ => rfl)) := by
  constructor
  · unfold any
    iintro ⟨%X, H⟩
    iexists shapeCast Piece X casts_piece
    iapply (owns_squeeze c (m.slice (placeRect n j s) (fun _ => rfl)) fullShare Flat squeezes_piece casts_piece X).1
    iexact H
  · unfold any
    iintro ⟨%X, H⟩
    iexists shapeCast Flat X casts_piece'
    iapply (owns_place c m fullShare j s X).2
    iexact H

theorem place_disjoint (p p' : Fin n × Fin 2) (h : p ≠ p') : Disjoint (placeRect n p.1 p.2).set (placeRect n p'.1 p'.2).set := by
  rw [Finset.disjoint_left]
  intro i hi hi'
  rw [Rect.mem_set_unit] at hi hi'
  have a0 := hi 0; have a1 := hi 1; have b0 := hi' 0; have b1 := hi' 1
  simp at a0 a1 b0 b1
  exact h (Prod.ext (Fin.ext (by omega)) (Fin.ext (by omega)))

theorem place_cover : (Finset.univ : Finset (Fin n × Fin 2)).biUnion (fun p => (placeRect n p.1 p.2).set) = Finset.univ := by
  ext i
  simp only [Finset.mem_biUnion, Finset.mem_univ, true_and, iff_true]
  refine ⟨(i 0, i 1), ?_⟩
  rw [Rect.mem_set_unit]
  intro a
  have h2 := (i 2).isLt
  have h3 := (i 3).isLt
  fin_cases a
  · exact ⟨Nat.le_refl _, Nat.lt_succ_self _⟩
  · exact ⟨Nat.le_refl _, Nat.lt_succ_self _⟩
  · exact ⟨Nat.zero_le _, by simpa using h2⟩
  · exact ⟨Nat.zero_le _, by simpa using h3⟩

/-- A slot is its two halves. -/
theorem owns_both (q : PosShare TreeShare) (j : Fin n) (v : Both.Idx → Val e) :
    (owns c (m.slice (bothRect n j) (fun _ => rfl)) q v : sProp 𝕄)
      ⊣⊢ iprop(owns c (place m j 0) q (sub 0 v) ∗ owns c (place m j 1) q (sub 1 v)) := by
  have hp := owns_pair (Ix := Ix) (Name := Name) (U := U) (Lvl := Lvl) c m q (bothRect n j) (placeRect n j 0) (placeRect n j 1) (fun _ => rfl) (fun _ => rfl) (fun _ => rfl)
    (halfRect 0).emb (halfRect 1).emb
    (fun i => by
      funext a; apply Fin.ext; simp only [Rect.emb_apply]
      fin_cases a <;> simp [Rect.emb_apply])
    (fun i => by
      funext a; apply Fin.ext; simp only [Rect.emb_apply]
      fin_cases a <;> simp [Rect.emb_apply])
    (by
      ext i
      rw [Finset.mem_union, Rect.mem_set_unit, Rect.mem_set_unit, Rect.mem_set_unit]
      simp only [Fin.forall_fin_succ]
      have := (i 1).isLt
      simp at *
      omega)
    (place_disjoint (j, 0) (j, 1) (by simp))
    (fun i => by
      have h1 : (i 1).val = 0 ∨ (i 1).val = 1 := by have := (i 1).isLt; simp at this; omega
      have h0 : (i 0).val = 0 := by have := (i 0).isLt; simp at this; omega
      rcases h1 with h1 | h1
      · left
        refine ⟨fun a => match a with | 0 => (0 : Fin 1) | 1 => (0 : Fin 1) | 2 => i 2 | 3 => i 3, ?_⟩
        funext a; apply Fin.ext; simp only [Rect.emb_apply]
        fin_cases a <;> simp [h0, h1]
      · right
        refine ⟨fun a => match a with | 0 => (0 : Fin 1) | 1 => (0 : Fin 1) | 2 => i 2 | 3 => i 3, ?_⟩
        funext a; apply Fin.ext; simp only [Rect.emb_apply]
        fin_cases a <;> simp [h0, h1]) v
  exact ⟨hp.1.trans (BIClass.sep_mono (owns_place c m q j 0 _).2 (owns_place c m q j 1 _).2),
    (BIClass.sep_mono (owns_place c m q j 0 _).1 (owns_place c m q j 1 _).1).trans hp.2⟩

theorem any_both (j : Fin n) :
    iprop(any c (place m j 0) ∗ any c (place m j 1)) ⊢ (any c (m.slice (bothRect n j) (fun _ => rfl)) : sProp 𝕄) :=
  (BIClass.sep_mono (any_place c m j 0).1 (any_place c m j 1).1).trans
    (any_pair c m (bothRect n j) (placeRect n j 0) (placeRect n j 1) (fun _ => rfl) (fun _ => rfl) (fun _ => rfl)
      (by
        ext i
        rw [Finset.mem_union, Rect.mem_set_unit, Rect.mem_set_unit, Rect.mem_set_unit]
        simp only [Fin.forall_fin_succ]
        have := (i 1).isLt
        simp at *
        omega)
      (place_disjoint (j, 0) (j, 1) (by simp)))

/-- The pool is all the halves. -/
theorem any_pool [∀ e, Nonempty (Val e)] (f₀ : m.view.ty.Contents Val) :
    (any c m : sProp 𝕄) ⊣⊢ bigSep Finset.univ (fun p : Fin n × Fin 2 => any c (place m p.1 p.2)) := by
  constructor
  · unfold any
    iintro ⟨%X, H⟩
    iapply (show owns c m fullShare X ⊢ bigSep Finset.univ (fun p : Fin n × Fin 2 => any c (place m p.1 p.2)) from
      (owns_rects c m fullShare (fun p : Fin n × Fin 2 => placeRect n p.1 p.2) (fun _ _ => rfl) place_disjoint place_cover X).trans
        (bigSep_mono fun p _ => (any_intro c _ _).trans (any_place c m p.1 p.2).2))
    iexact H
  · exact (bigSep_mono fun p _ => (any_place c m p.1 p.2).1).trans
      (any_of_rects c m (fun p : Fin n × Fin 2 => placeRect n p.1 p.2) (fun _ _ => rfl) place_disjoint place_cover f₀)

end Cert.Own
-- ==== Proof.KernelIdeal.Prog.lean ====
module

public import proofs.«01_k».proof.Proof.Gen.KernelIdeal
public import Idealize.ShloMosaic.Lib.Tactic

/-!
The kernel's body written the way it was meant: three layers, each a barrier with the two neighbours, sixteen hops
around the ring in both directions, and a tail that collects the last sums. One hop is written once, at a symbolic
hop number, for both directions and both halves of a block. The last theorem says that the printed body is this program.
-/

@[expose] public section

noncomputable section

namespace Cert.KernelIdeal.Ring

open Idealize.ShloMosaic Idealize.SL.Sem
open Cert.KernelIdeal.Gen

variable {F : FTy → Type} [FloatOps F]

/-- Programs of a core. -/
abbrev Code (F : FTy → Type) [FloatOps F] (α : Type) := Prog (TpuEff nD τ sig (Elt F) Λ₀ .tc) α

/-- Run `f 0`, `f 1`, …, `f (n - 1)`. -/
def upto : (n : Nat) → (Fin n → Code F PUnit) → Code F PUnit
  | 0, _ => pure ⟨⟩
  | n + 1, f => do
    f 0
    upto n fun i => f i.succ

/-- The buffers and semaphores of the body. -/
structure Bufs where
  x : Memref sig .tc .vmem S256x256 .f32
  win0 : Memref sig .tc .vmem S256x512 .f32
  wout0 : Memref sig .tc .vmem S512x256 .f32
  win1 : Memref sig .tc .vmem S256x512 .f32
  wout1 : Memref sig .tc .vmem S512x256 .f32
  win2 : Memref sig .tc .vmem S256x512 .f32
  wout2 : Memref sig .tc .vmem S512x256 .f32
  out : Memref sig .tc .vmem S256x256 .f32
  X : Bool → Memref sig .tc .vmem S16x2x64x256 .bf16
  P : Bool → Memref sig .tc .vmem S128x256 .f32
  S : Bool → Memref sig .tc .vmem S15x2x64x256 .f32
  R : Bool → Memref sig .tc .vmem S15x2x64x256 .f32
  wi : Memref sig .tc .vmem S256x512 .bf16
  wo : Memref sig .tc .vmem S512x256 .bf16
  agS : Bool → DmaSems sig S15x2
  agR : Bool → DmaSems sig S15x2
  rsS : Bool → DmaSems sig S15x2
  rsR : Bool → DmaSems sig S15x2
  hX : ∀ d, (X d).IsWhole
  hwi : wi.IsWhole
  hwo : wo.IsWhole

theorem inb_cell (k : Fin 15) (s : Fin 2) : ∀ a, (![k.val, s.val] : Fin 2 → Nat) a + S1x1.size a ≤ S15x2.size a := by
  revert k s; decide
theorem inb_part (k : Fin 15) (s : Fin 2) : ∀ a, (![k.val, s.val, 0, 0] : Fin 4 → Nat) a + S1x1x64x256.size a ≤ S15x2x64x256.size a := by
  revert k s; decide

/-- The semaphore `[k, s]` of an array of semaphores. -/
abbrev cell (a : DmaSems sig S15x2) (k : Fin 15) (s : Fin 2) : DmaSems sig S_ :=
  (a.slice (Rect.unit (s := S15x2) ![k.val, s.val] S1x1.size (inb_cell k s))).squeeze S_ squeezes_S1x1_S_

/-- The rectangle `[k, s]` of a buffer of partial sums. -/
abbrev partRect (k : Fin 15) (s : Fin 2) : Rect S15x2x64x256 :=
  Rect.unit (s := S15x2x64x256) ![k.val, s.val, 0, 0] S1x1x64x256.size (inb_part k s)

/-- The part `[k, s]` of a buffer of partial sums. -/
abbrev part (a : Memref sig .tc .vmem S15x2x64x256 .f32) (k : Fin 15) (s : Fin 2) : Memref sig .tc .vmem S64x256 .f32 :=
  (a.slice (partRect k s) (fun _ => rfl)).squeeze S64x256 squeezes_S1x1x64x256_S64x256

/-- Where a device's copy of the block passed on at hop `k` lies: `true` is the direction to the right. -/
def slotOff : (d : Bool) → (c : Dev nD) → (k : Fin 15) → (s : Fin 2) → Fin 4 → Nat
  | true, c, k, 0 => k0_off2 c (BitVec.ofNat 32 k.val)
  | true, c, k, 1 => k0_off3 c (BitVec.ofNat 32 k.val)
  | false, c, k, 0 => k0_off4 c (BitVec.ofNat 32 k.val)
  | false, c, k, 1 => k0_off5 c (BitVec.ofNat 32 k.val)
theorem slotOff_inb : ∀ (d : Bool) (c : Dev nD) (k : Fin 15) (s : Fin 2), ∀ a, slotOff d c k s a + S1x1x64x256.size a ≤ S16x2x64x256.size a
  | true, c, k, 0 => k0_off2_inb c k
  | true, c, k, 1 => k0_off3_inb c k
  | false, c, k, 0 => k0_off4_inb c k
  | false, c, k, 1 => k0_off5_inb c k
theorem slotOff_words : ∀ (d : Bool) (c : Dev nD) (k : Fin 15) (s : Fin 2),
    (Rect.unit (s := S16x2x64x256) (slotOff d c k s) S1x1x64x256.size (slotOff_inb d c k s)).WholeWords (EltTy.packing .bf16)
  | true, c, k, 0 => k0_off2_wordsbf16 c k
  | true, c, k, 1 => k0_off3_wordsbf16 c k
  | false, c, k, 0 => k0_off4_wordsbf16 c k
  | false, c, k, 1 => k0_off5_wordsbf16 c k

/-- Where both halves of the block used at hop `k` lie. -/
def useOff : (d : Bool) → (c : Dev nD) → (k : Fin 16) → Fin 4 → Nat
  | true, c, k => k0_off6 c (BitVec.ofNat 32 k.val)
  | false, c, k => k0_off7 c (BitVec.ofNat 32 k.val)
theorem useOff_inb : ∀ (d : Bool) (c : Dev nD) (k : Fin 16), ∀ a, useOff d c k a + S1x2x64x256.size a ≤ S16x2x64x256.size a
  | true, c, k => k0_off6_inb c k
  | false, c, k => k0_off7_inb c k

/-- The rectangle of the block passed on at hop `k`. -/
abbrev slotRect (d : Bool) (c : Dev nD) (k : Fin 15) (s : Fin 2) : Rect S16x2x64x256 :=
  Rect.unit (s := S16x2x64x256) (slotOff d c k s) S1x1x64x256.size (slotOff_inb d c k s)

abbrev slot (a : Memref sig .tc .vmem S16x2x64x256 .bf16) (d : Bool) (c : Dev nD) (k : Fin 15) (s : Fin 2) : Memref sig .tc .vmem S64x256 .bf16 :=
  (a.slice (slotRect d c k s) (fun _ => rfl)).squeeze S64x256 squeezes_S1x1x64x256_S64x256

theorem slot_exact (a : Memref sig .tc .vmem S16x2x64x256 .bf16) (ha : a.IsWhole) (d : Bool) (c : Dev nD) (k : Fin 15) (s : Fin 2) :
    (slot a d c k s).view.WordExact := (ha.wordExact_slice rfl _ (slotOff_words d c k s)).reshape _ _
theorem part_exact (a : Memref sig .tc .vmem S15x2x64x256 .f32) (k : Fin 15) (s : Fin 2) :
    (part a k s).view.WordExact := (View.wordExact_bits rfl).reshape _ _

/-- The neighbour to the right (`true`) or to the left. -/
def nbr (d : Bool) (c : Dev nD) : Dev nD :=
  if d then ⟨k0_dev3 c, k0_dev3_lt c⟩ else ⟨k0_dev5 c, k0_dev5_lt c⟩

/-! ### What is computed -/

/-- A block rounded, as it is stored. -/
def pack (v : FVec F S128x256 .f32) : FVec F S1x2x64x256 .bf16 :=
  shapeCast S1x2x64x256 (shapeCast S2x64x256 (truncf .bf16 v bitsLt_bf16_f32) shapeCasts_S128x256_S2x64x256) shapeCasts_S2x64x256_S1x2x64x256

/-- A block's product with a device's share of the two matrices. -/
def mlp (x : Vec F S1x2x64x256 .bf16) (wi : Vec F S256x512 .bf16) (wo : Vec F S512x256 .bf16) : FVec F S128x256 .f32 :=
  matmul dot_S128x512_S512x256_S128x256_1_0_0_1_n_n none
    (truncf .bf16 (maximumf
      (matmul dot_S128x256_S256x512_S128x512_1_0_0_1_n_n none
        (shapeCast S128x256 (shapeCast S2x64x256 x shapeCasts_S1x2x64x256_S2x64x256) shapeCasts_S2x64x256_S128x256 : FVec F S128x256 .bf16)
        wi (constant S128x512 .f32 0x00000000#32))
      (broadcast S128x512 (Scalar.ofBits .f32 0x00000000#32 : F .f32))) bitsLt_bf16_f32)
    wo (constant S128x256 .f32 0x00000000#32)

/-- Half `s` of the rows of a partial sum. -/
def half : (s : Fin 2) → FVec F S128x256 .f32 → FVec F S64x256 .f32
  | 0, v => extractStridedSlice S64x256 ![0, 0] v slices_S128x256_o0_0_S64x256
  | 1, v => extractStridedSlice S64x256 ![64, 0] v slices_S128x256_o64_0_S64x256

/-- A partial sum on top of the one received. -/
def onTop (s : Fin 2) (p : FVec F S128x256 .f32) (r : Vec F S1x1x64x256 .f32) : FVec F S1x1x64x256 .f32 :=
  shapeCast S1x1x64x256 (addf (half s p) (shapeCast S64x256 r shapeCasts_S1x1x64x256_S64x256)) shapeCasts_S64x256_S1x1x64x256

/-- The first partial sum. -/
def first (s : Fin 2) (p : FVec F S128x256 .f32) : FVec F S1x1x64x256 .f32 :=
  shapeCast S1x1x64x256 (half s p) shapeCasts_S64x256_S1x1x64x256

/-- The last sum. -/
def last (p : Vec F S128x256 .f32) (r : Vec F S1x2x64x256 .f32) : FVec F S128x256 .f32 :=
  addf p (shapeCast S128x256 (shapeCast S2x64x256 r shapeCasts_S1x2x64x256_S2x64x256) shapeCasts_S2x64x256_S128x256)

def roundI (v : Vec F S256x512 .f32) : FVec F S256x512 .bf16 :=
  shapeCast S256x512 (truncf .bf16 (shapeCast S256x512 v shapeCasts_S256x512_S256x512 : FVec F S256x512 .f32) bitsLt_bf16_f32) shapeCasts_S256x512_S256x512
def roundO (v : Vec F S512x256 .f32) : FVec F S512x256 .bf16 :=
  shapeCast S512x256 (truncf .bf16 (shapeCast S512x256 v shapeCasts_S512x256_S512x256 : FVec F S512x256 .f32) bitsLt_bf16_f32) shapeCasts_S512x256_S512x256

/-! ### The steps -/

variable (B : Bufs)

/-- Wait until the block that the neighbour passed on at hop `k` is here. -/
def waitBlock (d : Bool) (c : Dev nD) (k : Fin 15) (s : Fin 2) : Code F PUnit :=
  Prog.lift (.waitDma2 (cell (B.agR d) k s).sem (slot (B.X d) d c k s) (slot (B.X d) d c k s)
    (slot_exact _ (B.hX d) d c k s) (slot_exact _ (B.hX d) d c k s))

/-- Wait until the block passed on at hop `k` is gone. -/
def waitBlockSent (d : Bool) (c : Dev nD) (k : Fin 15) (s : Fin 2) : Code F PUnit :=
  Prog.lift (.waitDma2 (cell (B.agS d) k s).sem (slot (B.X d) d c k s) (slot (B.X d) d c k s)
    (slot_exact _ (B.hX d) d c k s) (slot_exact _ (B.hX d) d c k s))

/-- Pass the block of hop `k` on. -/
def sendBlock (d : Bool) (c : Dev nD) (k : Fin 15) (s : Fin 2) : Code F PUnit :=
  Prog.lift (.enqueueDma (slot (B.X d) d c k s)
    (.remote (Dev.tc (nbr d c)) (slot (B.X d) d c k s) (.dma (cell (B.agS d) k s).sem))
    (.dma (cell (B.agR d) k s).sem) (slot_exact _ (B.hX d) d c k s) (slot_exact _ (B.hX d) d c k s) ⟨⟨rfl, Or.inl rfl⟩, trivial⟩)

/-- Wait until the partial sum `t` of the neighbour is here. -/
def waitSum (d : Bool) (t : Fin 15) (s : Fin 2) : Code F PUnit :=
  Prog.lift (.waitDma2 (cell (B.rsR d) t s).sem (part (B.S d) t s) (part (B.R d) t s) (part_exact _ t s) (part_exact _ t s))

/-- Wait until the partial sum `t` is gone. -/
def waitSumSent (d : Bool) (t : Fin 15) (s : Fin 2) : Code F PUnit :=
  Prog.lift (.waitDma2 (cell (B.rsS d) t s).sem (part (B.R d) t s) (part (B.S d) t s) (part_exact _ t s) (part_exact _ t s))

/-- Pass the partial sum `t` on. -/
def sendSum (d : Bool) (c : Dev nD) (t : Fin 15) (s : Fin 2) : Code F PUnit :=
  Prog.lift (.enqueueDma (part (B.S d) t s)
    (.remote (Dev.tc (nbr d c)) (part (B.R d) t s) (.dma (cell (B.rsS d) t s).sem))
    (.dma (cell (B.rsR d) t s).sem) (part_exact _ t s) (part_exact _ t s) ⟨⟨rfl, Or.inl rfl⟩, trivial⟩)

/-- Load the part `[t, s]` of a buffer of partial sums. -/
def loadPart (a : Memref sig .tc .vmem S15x2x64x256 .f32) (t : Fin 15) (s : Fin 2) : Code F (Vec F S1x1x64x256 .f32) :=
  Prog.lift (.load a (partRect t s).toLoadRect (View.loadsAt_vmem h_S1x1x64x256))

/-- Store a partial sum: the printed store reads the place first. -/
def storePart (a : Memref sig .tc .vmem S15x2x64x256 .f32) (t : Fin 15) (s : Fin 2) (v : FVec F S1x1x64x256 .f32) : Code F PUnit := do
  let _ ← loadPart a t s
  Prog.lift (.store a (partRect t s) v Finset.univ (View.stores_vmem_bits_univ h_S1x1x64x256 rfl) (.inl rfl))

/-- Receive the block of hop `k`, if there is one to receive, and pass it on, if it is to be passed on. -/
def blockStep (d : Bool) (c : Dev nD) (k : Fin 16) (s : Fin 2) : Code F PUnit := do
  if h : 0 < k.val then waitBlock B d c ⟨k.val - 1, by omega⟩ s else pure ⟨⟩
  if h : k.val < 15 then sendBlock B d c ⟨k.val, h⟩ s else pure ⟨⟩

/-- Form the partial sum `t` and pass it on. -/
def sumStep (d : Bool) (c : Dev nD) (t : Fin 15) (p : FVec F S128x256 .f32) (s : Fin 2) : Code F PUnit := do
  if h : 0 < t.val then
    waitSum B d ⟨t.val - 1, by omega⟩ s
    let r ← loadPart (B.R d) ⟨t.val - 1, by omega⟩ s
    storePart (B.S d) t s (onTop s p r)
  else storePart (B.S d) t s (first s p)
  sendSum B d c t s

/-- Load the block of hop `k` and a device's share of the two matrices, and multiply. -/
def useBlock (d : Bool) (c : Dev nD) (k : Fin 16) : Code F (FVec F S128x256 .f32) := do
  let x : Vec F S1x2x64x256 .bf16 ← Prog.lift (.load (B.X d) (Rect.unit (s := S16x2x64x256) (useOff d c k) S1x2x64x256.size (useOff_inb d c k)).toLoadRect (View.loadsAt_vmem h_S1x2x64x256))
  let wi : Vec F S256x512 .bf16 ← Prog.lift (.load B.wi (Rect.unit (s := S256x512) ![0, 0] S256x512.size inb_S256x512_S256x512_0_0).toLoadRect (View.loadsAt_vmem h_S256x512))
  let wo : Vec F S512x256 .bf16 ← Prog.lift (.load B.wo (Rect.unit (s := S512x256) ![0, 0] S512x256.size inb_S512x256_S512x256_0_0).toLoadRect (View.loadsAt_vmem h_S512x256))
  pure (mlp x wi wo)

/-- Keep the device's own part of its own block's sum. -/
def keep (d : Bool) (p : FVec F S128x256 .f32) : Code F PUnit := do
  let _ : Vec F S128x256 .f32 ← Prog.lift (.load (B.P d) (Rect.unit (s := S128x256) ![0, 0] S128x256.size inb_S128x256_S128x256_0_0).toLoadRect (View.loadsAt_vmem h_S128x256))
  Prog.lift (.store (B.P d) (Rect.unit (s := S128x256) ![0, 0] S128x256.size inb_S128x256_S128x256_0_0) (shapeCast S128x256 p shapeCasts_S128x256_S128x256) Finset.univ (View.stores_vmem_bits_univ h_S128x256 rfl) (.inl rfl))

/-- One hop. -/
def hop (c : Dev nD) (k : Fin 16) : Code F PUnit := do
  blockStep B true c k 0
  blockStep B true c k 1
  blockStep B false c k 0
  blockStep B false c k 1
  let p ← useBlock B true c k
  let q ← useBlock B false c k
  if h : 0 < k.val then
    sumStep B true c ⟨k.val - 1, by omega⟩ p 0
    sumStep B true c ⟨k.val - 1, by omega⟩ p 1
    sumStep B false c ⟨k.val - 1, by omega⟩ q 0
    sumStep B false c ⟨k.val - 1, by omega⟩ q 1
  else
    keep B true p
    keep B false q

/-- The barrier's semaphore. -/
abbrev barSem : Sem sig := (SemArray.scalar (sig.barrier 0 rfl) : Sems sig S_).sem

/-- The layer's two matrices rounded, and the barrier with the two neighbours. -/
def enter (c : Dev nD) (win : Memref sig .tc .vmem S256x512 .f32) (wout : Memref sig .tc .vmem S512x256 .f32) : Code F PUnit := do
  let wi : Vec F S256x512 .f32 ← Prog.lift (.load win (Rect.unit (s := S256x512) ![0, 0] S256x512.size inb_S256x512_S256x512_0_0).toLoadRect (View.loadsAt_vmem h_S256x512))
  let _ : Vec F S256x512 .bf16 ← Prog.lift (.load B.wi (Rect.unit (s := S256x512) ![0, 0] S256x512.size inb_S256x512_S256x512_0_0).toLoadRect (View.loadsAt_vmem h_S256x512))
  Prog.lift (.store B.wi (Rect.unit (s := S256x512) ![0, 0] S256x512.size inb_S256x512_S256x512_0_0) (roundI wi) Finset.univ (View.stores_vmem h_S256x512 (B.hwi.storeExact_slice rfl _ packedbf16_S256x512_S256x512_0_0) (fun _ => rfl)) (.inl rfl))
  let wo : Vec F S512x256 .f32 ← Prog.lift (.load wout (Rect.unit (s := S512x256) ![0, 0] S512x256.size inb_S512x256_S512x256_0_0).toLoadRect (View.loadsAt_vmem h_S512x256))
  let _ : Vec F S512x256 .bf16 ← Prog.lift (.load B.wo (Rect.unit (s := S512x256) ![0, 0] S512x256.size inb_S512x256_S512x256_0_0).toLoadRect (View.loadsAt_vmem h_S512x256))
  Prog.lift (.store B.wo (Rect.unit (s := S512x256) ![0, 0] S512x256.size inb_S512x256_S512x256_0_0) (roundO wo) Finset.univ (View.stores_vmem h_S512x256 (B.hwo.storeExact_slice rfl _ packedbf16_S512x256_S512x256_0_0) (fun _ => rfl)) (.inl rfl))
  semSignalWord (nbr false c) barSem 1#32
  semSignalWord (nbr true c) barSem 1#32
  semWaitWord barSem 2#32

/-- Wait for everything that was passed on. -/
def sent (c : Dev nD) : Code F PUnit := do
  upto 15 fun k => do
    waitBlockSent B true c k 0
    waitBlockSent B true c k 1
    waitBlockSent B false c k 0
    waitBlockSent B false c k 1
  upto 15 fun k => do
    waitSumSent B true k 0
    waitSumSent B true k 1
    waitSumSent B false k 0
    waitSumSent B false k 1

theorem inb_last : ∀ a, (![14, 0, 0, 0] : Fin 4 → Nat) a + S1x2x64x256.size a ≤ S15x2x64x256.size a := by decide

/-- The finished sum of the device's own block. -/
def total (d : Bool) : Code F (FVec F S128x256 .f32) := do
  let p : Vec F S128x256 .f32 ← Prog.lift (.load (B.P d) (Rect.unit (s := S128x256) ![0, 0] S128x256.size inb_S128x256_S128x256_0_0).toLoadRect (View.loadsAt_vmem h_S128x256))
  let r : Vec F S1x2x64x256 .f32 ← Prog.lift (.load (B.R d) (Rect.unit (s := S15x2x64x256) ![14, 0, 0, 0] S1x2x64x256.size inb_last).toLoadRect (View.loadsAt_vmem h_S1x2x64x256))
  pure (last p r)

/-- Store a block into the device's own slot. -/
def putBlock (d : Bool) (c : Dev nD) (v : FVec F S1x2x64x256 .bf16) : Code F PUnit := do
  let _ : Vec F S1x2x64x256 .bf16 ← Prog.lift (.load (B.X d) (Rect.unit (s := S16x2x64x256) (k0_off1 c) S1x2x64x256.size (k0_off1_inb c)).toLoadRect (View.loadsAt_vmem h_S1x2x64x256))
  Prog.lift (.store (B.X d) (Rect.unit (s := S16x2x64x256) (k0_off1 c) S1x2x64x256.size (k0_off1_inb c)) v Finset.univ (View.stores_vmem h_S1x2x64x256 ((B.hX d).storeExact_slice rfl _ (k0_off1_packedbf16 c)) (fun _ => rfl)) (.inl rfl))

/-- The hops of a layer, up to its two finished sums. -/
def ring (c : Dev nD) : Code F (FVec F S128x256 .f32 × FVec F S128x256 .f32) := do
  upto 16 (hop B c)
  waitSum B true 14 0
  waitSum B true 14 1
  waitSum B false 14 0
  waitSum B false 14 1
  let p ← total B true
  let q ← total B false
  sent B c
  pure (p, q)

/-- A layer whose result is the next layer's block. -/
def layer (c : Dev nD) (win : Memref sig .tc .vmem S256x512 .f32) (wout : Memref sig .tc .vmem S512x256 .f32) : Code F PUnit := do
  enter B c win wout
  let r ← ring B c
  putBlock B true c (pack r.1)
  putBlock B false c (pack r.2)

/-- Load half the rows of the device's block, round it and store it in its slot. -/
def fetch (d : Bool) (c : Dev nD) (off : Fin 2 → Nat) (h : ∀ a, off a + S128x256.size a ≤ S256x256.size a) : Code F PUnit := do
  let v : Vec F S128x256 .f32 ← Prog.lift (.load B.x (Rect.unit (s := S256x256) off S128x256.size h).toLoadRect (View.loadsAt_vmem h_S128x256))
  putBlock B d c (pack (shapeCast S128x256 v shapeCasts_S128x256_S128x256))

/-- Store half the rows of the result. -/
def put (off : Fin 2 → Nat) (h : ∀ a, off a + S128x256.size a ≤ S256x256.size a) (v : FVec F S128x256 .f32) : Code F PUnit := do
  let _ : Vec F S128x256 .f32 ← Prog.lift (.load B.out (Rect.unit (s := S256x256) off S128x256.size h).toLoadRect (View.loadsAt_vmem h_S128x256))
  Prog.lift (.store B.out (Rect.unit (s := S256x256) off S128x256.size h) v Finset.univ (View.stores_vmem_bits_univ h_S128x256 rfl) (.inl rfl))

/-- The body. -/
def body : Code F PUnit := do
  let c : Dev nD ← Prog.lift .deviceId
  fetch B true c ![0, 0] inb_S256x256_S128x256_0_0
  fetch B false c ![128, 0] inb_S256x256_S128x256_128_0
  layer B c B.win0 B.wout0
  layer B c B.win1 B.wout1
  enter B c B.win2 B.wout2
  let r ← ring B c
  put B ![0, 0] inb_S256x256_S128x256_0_0 r.1
  put B ![128, 0] inb_S256x256_S128x256_128_0 r.2

/-- The printed body is this program. -/
theorem body_eq (arg0 : Memref sig .tc .vmem S256x256 .f32) (harg0 : arg0.IsWhole) (arg1 : Memref sig .tc .vmem S256x512 .f32) (harg1 : arg1.IsWhole)
    (arg2 : Memref sig .tc .vmem S512x256 .f32) (harg2 : arg2.IsWhole) (arg3 : Memref sig .tc .vmem S256x512 .f32) (harg3 : arg3.IsWhole)
    (arg4 : Memref sig .tc .vmem S512x256 .f32) (harg4 : arg4.IsWhole) (arg5 : Memref sig .tc .vmem S256x512 .f32) (harg5 : arg5.IsWhole)
    (arg6 : Memref sig .tc .vmem S512x256 .f32) (harg6 : arg6.IsWhole) (arg7 : Memref sig .tc .vmem S256x256 .f32) (harg7 : arg7.IsWhole)
    (arg8 : Memref sig .tc .vmem S16x2x64x256 .bf16) (harg8 : arg8.IsWhole) (arg9 : Memref sig .tc .vmem S16x2x64x256 .bf16) (harg9 : arg9.IsWhole)
    (arg10 : Memref sig .tc .vmem S128x256 .f32) (harg10 : arg10.IsWhole) (arg11 : Memref sig .tc .vmem S128x256 .f32) (harg11 : arg11.IsWhole)
    (arg12 : Memref sig .tc .vmem S15x2x64x256 .f32) (harg12 : arg12.IsWhole) (arg13 : Memref sig .tc .vmem S15x2x64x256 .f32) (harg13 : arg13.IsWhole)
    (arg14 : Memref sig .tc .vmem S15x2x64x256 .f32) (harg14 : arg14.IsWhole) (arg15 : Memref sig .tc .vmem S15x2x64x256 .f32) (harg15 : arg15.IsWhole)
    (arg16 : Memref sig .tc .vmem S256x512 .bf16) (harg16 : arg16.IsWhole) (arg17 : Memref sig .tc .vmem S512x256 .bf16) (harg17 : arg17.IsWhole)
    (arg18 arg19 arg20 arg21 arg22 arg23 arg24 arg25 : DmaSems sig S15x2) :
    cc0_body (F := F) arg0 harg0 arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17
        arg18 arg19 arg20 arg21 arg22 arg23 arg24 arg25
      = body {
          x := arg0, win0 := arg1, wout0 := arg2, win1 := arg3, wout1 := arg4, win2 := arg5, wout2 := arg6, out := arg7,
          X := fun d => bif d then arg8 else arg9, P := fun d => bif d then arg10 else arg11,
          S := fun d => bif d then arg12 else arg13, R := fun d => bif d then arg14 else arg15,
          wi := arg16, wo := arg17,
          agS := fun d => bif d then arg18 else arg20, agR := fun d => bif d then arg19 else arg21,
          rsS := fun d => bif d then arg22 else arg24, rsR := fun d => bif d then arg23 else arg25,
          hX := fun d => match d with | true => harg8 | false => harg9, hwi := harg16, hwo := harg17 } := by
  sl_kernel_rfl

end Cert.KernelIdeal.Ring
-- ==== Proof.KernelIdeal.Geom.lean ====
module

public import proofs.«01_k».proof.Proof.KernelIdeal.Prog
public import proofs.«01_k».proof.Proof.Slots

/-!
The ring: who the neighbours are, where a device's copy of a block lies, and which semaphores are which.
-/

@[expose] public section

noncomputable section

namespace Cert.KernelIdeal.Ring

open Idealize.ShloMosaic Idealize.ShloMosaic.TcCoe Idealize.SL.Sem
open Cert.KernelIdeal.Gen Cert.Own

/-! ## The devices -/

/-- A device's place on the ring. -/
def pos (c : Dev nD) : Fin 16 := ![0, 7, 8, 15, 1, 6, 9, 14, 2, 5, 10, 13, 3, 4, 11, 12] c

/-- The place whose block a device holds after `k` hops. -/
def sidx (d : Bool) (c : Dev nD) (k : Fin 16) : Fin 16 := if d then pos c - k else pos c + k

theorem nbr_nbr (d : Bool) (c : Dev nD) : nbr d (nbr (!d) c) = c := by
  revert d c; decide
theorem nbr_nbr' (d : Bool) (c : Dev nD) : nbr (!d) (nbr d c) = c := by
  revert d c; decide

/-- One step along the ring, as a permutation. -/
def turn (d : Bool) : Dev nD ≃ Dev nD := ⟨nbr d, nbr (!d), nbr_nbr' d, nbr_nbr d⟩

theorem sidx_nbr (d : Bool) (c : Dev nD) (k : Fin 15) : sidx d (nbr d c) k.succ = sidx d c k.castSucc := by
  revert d c k; decide

theorem sidx_injective (d : Bool) (c : Dev nD) : Function.Injective (sidx d c) := by
  have h : ∀ (d : Bool) (p a b : Fin 16), (if d then p - a else p + a) = (if d then p - b else p + b) → a = b := by decide
  exact fun a b => h d (pos c) a b

/-- The places, in the order in which a device's blocks arrive. -/
def order (d : Bool) (c : Dev nD) : Fin 16 ≃ Fin 16 := Equiv.ofBijective (sidx d c) (Finite.injective_iff_bijective.mp (sidx_injective d c))

/-- Whose block it is that a device holds after `k` hops. -/
def org (d : Bool) (c : Dev nD) : ℕ → Dev nD
  | 0 => c
  | k + 1 => nbr (!d) (org d c k)

theorem org_nbr (d : Bool) (c : Dev nD) (k : ℕ) : org d (nbr (!d) c) k = org d c (k + 1) := by
  induction k with
  | zero => rfl
  | succ k ih => show nbr (!d) (org d (nbr (!d) c) k) = nbr (!d) (org d c (k + 1)); rw [ih]

theorem org_nbr' (d : Bool) (c : Dev nD) (k : ℕ) : org d (nbr d c) (k + 1) = org d c k := by
  rw [← org_nbr, nbr_nbr']

/-! ## Places -/

theorem slotOff_eq (d : Bool) (c : Dev nD) (k : Fin 15) (s : Fin 2) : slotOff d c k s = ![(sidx d c k.castSucc).val, s.val, 0, 0] := by
  revert d c k s; decide
theorem useOff_eq (d : Bool) (c : Dev nD) (k : Fin 16) : useOff d c k = ![(sidx d c k).val, 0, 0, 0] := by
  revert d c k; decide
theorem ownOff_eq (d : Bool) (c : Dev nD) : k0_off1 c = ![(sidx d c 0).val, 0, 0, 0] := by
  revert d c; decide

/-- The printed slots are the halves of slots of the pool. -/
theorem slot_eq (a : Memref sig .tc .vmem S16x2x64x256 .bf16) (d : Bool) (c : Dev nD) (k : Fin 15) (s : Fin 2) :
    slot a d c k s = place a (sidx d c k.castSucc) s :=
  congrArg (fun m : Memref sig .tc .vmem Piece .bf16 => m.squeeze Flat squeezes_piece)
    (Memref.slice_unit_congr a (slotOff_eq d c k s) _ _ _ _)
theorem part_eq (a : Memref sig .tc .vmem S15x2x64x256 .f32) (k : Fin 15) (s : Fin 2) : part a k s = place a k s := rfl

/-! ## The buffers and the semaphores -/

/-- The buffers and semaphores of the call. -/
abbrev B₀ : Bufs where
  x := Memref.whole cc0_stg0_0
  win0 := Memref.whole cc0_stg1_0
  wout0 := Memref.whole cc0_stg2_0
  win1 := Memref.whole cc0_stg3_0
  wout1 := Memref.whole cc0_stg4_0
  win2 := Memref.whole cc0_stg5_0
  wout2 := Memref.whole cc0_stg6_0
  out := Memref.whole cc0_stg7_0
  X := fun d => bif d then Memref.whole cc0_scratch0 else Memref.whole cc0_scratch1
  P := fun d => bif d then Memref.whole cc0_scratch2 else Memref.whole cc0_scratch3
  S := fun d => bif d then Memref.whole cc0_scratch4 else Memref.whole cc0_scratch5
  R := fun d => bif d then Memref.whole cc0_scratch6 else Memref.whole cc0_scratch7
  wi := Memref.whole cc0_scratch8
  wo := Memref.whole cc0_scratch9
  agS := fun d => bif d then cc0_scratch10 else cc0_scratch12
  agR := fun d => bif d then cc0_scratch11 else cc0_scratch13
  rsS := fun d => bif d then cc0_scratch14 else cc0_scratch16
  rsR := fun d => bif d then cc0_scratch15 else cc0_scratch17
  hX := fun d => match d with | true => Memref.isWhole_whole _ | false => Memref.isWhole_whole _
  hwi := Memref.isWhole_whole _
  hwo := Memref.isWhole_whole _

/-- Sums or blocks, receiving or sending, the direction, the hop, the half. -/
abbrev Key : Type := Bool × Bool × Bool × Fin 15 × Fin 2

/-- The array a key's semaphore lies in. -/
abbrev arr (m r d : Bool) : DmaSems sig S15x2 := bif m then (bif r then B₀.rsR d else B₀.rsS d) else (bif r then B₀.agR d else B₀.agS d)
abbrev dsem (κ : Key) : DmaSem sig := (cell (arr κ.1 κ.2.1 κ.2.2.1) κ.2.2.2.1 κ.2.2.2.2).sem
/-- The semaphores of the protocol: the barrier's and one per key. -/
abbrev csem : Option Key → SemLoc sig
  | none => .reg barSem
  | some κ => .dma (dsem κ)

theorem dsem_val : ∀ κ : Key, (dsem κ).val
    = 8 + 30 * ((if κ.1 then 4 else 0) + (if κ.2.2.1 then 0 else 2) + if κ.2.1 then 1 else 0) + 2 * κ.2.2.2.1.val + κ.2.2.2.2.val := by
  decide

theorem dsem_injective : Function.Injective dsem := by
  rintro ⟨m, r, d, k, s⟩ ⟨m', r', d', k', s'⟩ h
  have h := congrArg Fin.val h
  rw [dsem_val, dsem_val] at h
  have hk := k.isLt
  have hk' := k'.isLt
  have hs := s.isLt
  have hs' := s'.isLt
  have : (if m then 4 else 0) + (if d then 0 else 2) + (if r then 1 else 0) = (if m' then 4 else 0) + (if d' then 0 else 2) + if r' then 1 else 0 := by
    simp only at h; omega
  have e1 : k.val = k'.val := by simp only at h; omega
  have e2 : s.val = s'.val := by simp only at h; omega
  have e3 : m = m' ∧ r = r' ∧ d = d' := by
    revert this; clear * -; revert m m' r r' d d'; decide
  obtain ⟨rfl, rfl, rfl⟩ := e3
  obtain rfl := Fin.ext e1
  obtain rfl := Fin.ext e2
  rfl

theorem csem_injective : Function.Injective csem := by
  rintro (_ | κ) (_ | κ') h
  · rfl
  · cases h
  · cases h
  · exact congrArg some (dsem_injective (SemLoc.dma.inj h))

/-- Which of the protocol's semaphores a semaphore is. -/
def dec (sm : SemLoc sig) : Option (Option Key) :=
  open Classical in if h : ∃ κ, csem κ = sm then some h.choose else none

theorem dec_csem (κ : Option Key) : dec (csem κ) = some κ := by
  have h : ∃ κ', csem κ' = csem κ := ⟨κ, rfl⟩
  unfold dec
  rw [dif_pos h]
  exact congrArg some (csem_injective h.choose_spec)

/-- The protocol's cells. -/
abbrev kcell (p : Dev nD × Option Key) : GSem nD τ sig := ((p.1 : Thread nD τ), csem p.2)
abbrev bar (c : Dev nD) : GSem nD τ sig := kcell (c, none)

/-- What a transfer counts. -/
def amt (m d : Bool) : ℕ := if m then (place (B₀.R d) 0 0).view.dmaCredit else (place (B₀.X d) 0 0).view.dmaCredit

theorem amt_X (d : Bool) (j : Fin 16) (s : Fin 2) : (place (B₀.X d) j s).view.dmaCredit = amt false d := by cases d <;> rfl
theorem amt_R (d : Bool) (j : Fin 15) (s : Fin 2) : (place (B₀.R d) j s).view.dmaCredit = amt true d := by cases d <;> rfl
theorem amt_S (d : Bool) (j : Fin 15) (s : Fin 2) : (place (B₀.S d) j s).view.dmaCredit = amt true d := by cases d <;> rfl
theorem amt_pos (m d : Bool) : 0 < amt m d := by
  unfold amt
  split <;> exact View.dmaCredit_pos _ (by decide)

end Cert.KernelIdeal.Ring
-- ==== Proof.KernelIdeal.Proto.lean ====
module

public import proofs.«01_k».proof.Proof.KernelIdeal.Geom

/-!
The protocol: what every block and every partial sum holds, what each semaphore's units hand over, and in which order the
semaphores are waited for.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

/-! ## Contents -/

/-- What every device starts from: its block and, for each layer, its share of the two matrices. -/
structure Vals (F : FTy → Type) where
  x : Dev nD → Vec F S256x256 .f32
  win : ℕ → Dev nD → Vec F S256x512 .f32
  wout : ℕ → Dev nD → Vec F S512x256 .f32

/-- Where the half of a device's block that goes in direction `d` begins. -/
def rowOff (d : Bool) : Fin 2 → ℕ := if d then ![0, 0] else ![128, 0]
theorem inb_row (d : Bool) : ∀ a, rowOff d a + S128x256.size a ≤ S256x256.size a := by revert d; decide
abbrev rowRect (d : Bool) : Rect S256x256 := Rect.unit (s := S256x256) (rowOff d) S128x256.size (inb_row d)
abbrev wiRect : Rect S256x512 := Rect.unit (s := S256x512) ![0, 0] S256x512.size inb_S256x512_S256x512_0_0
abbrev woRect : Rect S512x256 := Rect.unit (s := S512x256) ![0, 0] S512x256.size inb_S512x256_S512x256_0_0
abbrev pRect : Rect S128x256 := Rect.unit (s := S128x256) ![0, 0] S128x256.size inb_S128x256_S128x256_0_0

/-- The partial sum that device `c` passes on after `t` additions, of products `pr` of each device with each block. -/
def psumOf (pr : Dev nD → Dev nD → FVec F S128x256 .f32) (d : Bool) : ℕ → Dev nD → FVec F S128x256 .f32
  | 0, c => pr c (org d c 1)
  | t + 1, c => addf (pr c (org d c (t + 2))) (psumOf pr d t (nbr (!d) c))

/-- The finished sum of device `c`'s block. -/
def finOf (pr : Dev nD → Dev nD → FVec F S128x256 .f32) (d : Bool) (c : Dev nD) : FVec F S128x256 .f32 :=
  addf (pr c c) (psumOf pr d 14 (nbr (!d) c))

variable (V : Vals F)

/-- A layer's rounded matrices. -/
def wiV (ℓ : ℕ) (c : Dev nD) : Vec F S256x512 .bf16 := roundI fun i => V.win ℓ c (wiRect.emb i)
def woV (ℓ : ℕ) (c : Dev nD) : Vec F S512x256 .bf16 := roundO fun i => V.wout ℓ c (woRect.emb i)

/-- The blocks that go around in layer `ℓ`. -/
def blk : ℕ → (d : Bool) → Dev nD → Vec F S1x2x64x256 .bf16
  | 0, d, c => pack (shapeCast S128x256 (fun i => V.x c ((rowRect d).emb i)) shapeCasts_S128x256_S128x256)
  | ℓ + 1, d, c => pack (finOf (fun c e => mlp (blk ℓ d e) (wiV V ℓ c) (woV V ℓ c)) d c)

/-- Device `c`'s product with device `e`'s block. -/
def prod (ℓ : ℕ) (d : Bool) (c e : Dev nD) : FVec F S128x256 .f32 := mlp (blk V ℓ d e) (wiV V ℓ c) (woV V ℓ c)
def psum (ℓ : ℕ) (d : Bool) : ℕ → Dev nD → FVec F S128x256 .f32 := psumOf (prod V ℓ d) d
def fin (ℓ : ℕ) (d : Bool) : Dev nD → FVec F S128x256 .f32 := finOf (prod V ℓ d) d

theorem blk_succ (ℓ : ℕ) (d : Bool) (c : Dev nD) : blk V (ℓ + 1) d c = pack (fin V ℓ d c) := rfl

/-! ## The resources -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- Half `s` of the block that device `c` holds after `k` hops. -/
def held (ℓ : ℕ) (q : PosShare TreeShare) (d : Bool) (c : Dev nD) (s : Fin 2) (k : Fin 16) : sProp 𝕄 :=
  owns (c : Thread nD τ) (place (B₀.X d) (sidx d c k) s) q (sub s (blk V ℓ d (org d c k.val)))

/-- Half `s` of a partial sum, in a buffer of partial sums. -/
def sumAt (a : Memref sig .tc .vmem S15x2x64x256 .f32) (c : Dev nD) (t : Fin 15) (s : Fin 2) (v : FVec F S128x256 .f32) : sProp 𝕄 :=
  owns (c : Thread nD τ) (place a t s) fullShare (half s v : Vec F S64x256 .f32)

/-- A place, and a part of a buffer of partial sums, with some contents. -/
def room (d : Bool) (c : Dev nD) (s : Fin 2) (k : Fin 16) : sProp 𝕄 := any (c : Thread nD τ) (place (B₀.X d) (sidx d c k) s)
def spare (a : Memref sig .tc .vmem S15x2x64x256 .f32) (c : Dev nD) (t : Fin 15) (s : Fin 2) : sProp 𝕄 := any (c : Thread nD τ) (place a t s)

/-- What the neighbour needs to send hop `k` and the partial sum `k` to device `e`. -/
def leave (ℓ : ℕ) (d : Bool) (e : Dev nD) (k : Fin 15) (s : Fin 2) : sProp 𝕄 :=
  iprop(room d e s k.succ ∗ spare (B₀.R d) e k s
    ∗ reached ER (kcell (e, some (false, true, d, k, s))) ℓ ∗ reached ER (kcell (e, some (true, true, d, k, s))) ℓ)
def pass (ℓ : ℕ) (d : Bool) (e : Dev nD) : sProp 𝕄 :=
  iprop((bigSep Finset.univ fun k : Fin 15 => leave ℓ d e k 0) ∗ bigSep Finset.univ fun k : Fin 15 => leave ℓ d e k 1)

/-- What a semaphore's units hand over. -/
def pay : Option Key → Dev nD → ℕ → Bool → sProp 𝕄
  | none, c, ℓ, d => pass ℓ d (nbr d c)
  | some (false, false, d, k, s), c, ℓ, _ => held V ℓ fullShare.left d c s k.castSucc
  | some (false, true, d, k, s), c, ℓ, _ => iprop(held V ℓ fullShare d c s k.succ ∗ reached ER (bar (nbr (!d) c)) (ℓ + 1))
  | some (true, false, d, k, s), c, ℓ, _ => sumAt (B₀.S d) c k s (psum V ℓ d k.val c)
  | some (true, true, d, k, s), c, ℓ, _ => sumAt (B₀.R d) c k s (psum V ℓ d k.val (nbr (!d) c))

theorem pay_bar (c : Dev nD) (ℓ : ℕ) (d : Bool) : pay V none c ℓ d = pass ℓ d (nbr d c) := rfl
theorem pay_sent (d : Bool) (c : Dev nD) (k : Fin 15) (s : Fin 2) (ℓ : ℕ) (b : Bool) :
    pay V (some (false, false, d, k, s)) c ℓ b = held V ℓ fullShare.left d c s k.castSucc := rfl
theorem pay_got (d : Bool) (c : Dev nD) (k : Fin 15) (s : Fin 2) (ℓ : ℕ) (b : Bool) :
    pay V (some (false, true, d, k, s)) c ℓ b = iprop(held V ℓ fullShare d c s k.succ ∗ reached ER (bar (nbr (!d) c)) (ℓ + 1)) := rfl
theorem pay_sumSent (d : Bool) (c : Dev nD) (k : Fin 15) (s : Fin 2) (ℓ : ℕ) (b : Bool) :
    pay V (some (true, false, d, k, s)) c ℓ b = sumAt (B₀.S d) c k s (psum V ℓ d k.val c) := rfl
theorem pay_sumGot (d : Bool) (c : Dev nD) (k : Fin 15) (s : Fin 2) (ℓ : ℕ) (b : Bool) :
    pay V (some (true, true, d, k, s)) c ℓ b = sumAt (B₀.R d) c k s (psum V ℓ d k.val (nbr (!d) c)) := rfl

omit [FloatOps F] in
instance pass_storable (ℓ : ℕ) (d : Bool) (e : Dev nD) : BI.Storable (upEmb : UEmb _ 𝕄) (pass ℓ d e) := by
  unfold pass leave room spare; infer_instance
instance pay_storable (o : Option Key) (c : Dev nD) (ℓ : ℕ) (d : Bool) : BI.Storable (upEmb : UEmb _ 𝕄) (pay V o c ℓ d) := by
  rcases o with _ | ⟨_ | _, _ | _, d', k, s⟩ <;> unfold pay <;> (try unfold held) <;> (try unfold sumAt) <;> infer_instance

/-- Three rounds, one per layer. -/
def sched : Schedule (GSem nD τ sig) Bool 𝕄 where
  duties g r := if r < 3 ∧ g.1.2 = .tc then (match dec g.2 with | none => ∅ | some none => Finset.univ | some (some _) => {true}) else ∅
  unitless _ := False
  amount g _ _ := match dec g.2 with | some (some κ) => amt κ.1 κ.2.2.1 | _ => 1
  payload g r d := match dec g.2 with | some o => pay V o g.1.1 r d | none => iprop(emp)
  amount_pos g _ _ _ := by
    split
    · exact amt_pos _ _
    · exact Nat.one_pos

instance sched_storable (g : GSem nD τ sig) (r : ℕ) (d : Bool) : BI.Storable (upEmb : UEmb _ 𝕄) ((sched V).payload g r d) := by
  show BI.Storable upEmb (match dec g.2 with | some o => pay V o g.1.1 r d | none => iprop(emp))
  split <;> infer_instance

section Tables

variable (c : Dev nD) (r : ℕ)

theorem duties_bar (hr : r < 3) : (sched V).duties (bar c) r = Finset.univ := by
  dsimp only [sched]; rw [if_pos ⟨hr, rfl⟩, dec_csem none]
theorem duties_key (hr : r < 3) (κ : Key) : (sched V).duties (kcell (c, some κ)) r = {true} := by
  dsimp only [sched]; rw [if_pos ⟨hr, rfl⟩, dec_csem (some κ)]
theorem duties_later (g : GSem nD τ sig) : ∀ r, 3 ≤ r → (sched V).duties g r = ∅ := fun r hr => by
  dsimp only [sched]; rw [if_neg fun h => by omega]
theorem amount_bar (d : Bool) : (sched V).amount (bar c) r d = 1 := by
  dsimp only [sched]; rw [dec_csem none]
theorem amount_key (κ : Key) (d : Bool) : (sched V).amount (kcell (c, some κ)) r d = amt κ.1 κ.2.2.1 := by
  dsimp only [sched]; rw [dec_csem (some κ)]
theorem payload_eq (o : Option Key) (d : Bool) : (sched V).payload (kcell (c, o)) r d = pay V o c r d := by
  dsimp only [sched]; rw [dec_csem o]
theorem expect_bar (hr : r < 3) : (sched V).expect (bar c) r = 2 := by
  unfold Schedule.expect Schedule.amountOf
  rw [duties_bar V c r hr, Finset.sum_congr rfl fun d _ => amount_bar V c r d]; rfl
theorem expect_key (hr : r < 3) (κ : Key) : (sched V).expect (kcell (c, some κ)) r = amt κ.1 κ.2.2.1 := by
  unfold Schedule.expect Schedule.amountOf
  rw [duties_key V c r hr, Finset.sum_singleton, amount_key]
theorem rest_bar (hr : r < 3) :
    bigSep ((sched V).duties (bar c) r \ ∅) (fun d => (sched V).payload (bar c) r d) = iprop(pass r true (nbr true c) ∗ pass r false (nbr false c)) := by
  rw [Finset.sdiff_empty, duties_bar V c r hr, bigSep_univ_eq_bigSepL [true, false] (by decide) (by decide), bigSepL_cons_cons, bigSepL_singleton,
    payload_eq V c r none, payload_eq V c r none]
  rfl
theorem rest_key (hr : r < 3) (κ : Key) :
    bigSep ((sched V).duties (kcell (c, some κ)) r \ ∅) (fun d => (sched V).payload (kcell (c, some κ)) r d) = pay V (some κ) c r true := by
  rw [Finset.sdiff_empty, duties_key V c r hr, bigSep_singleton, payload_eq]

end Tables

/-! ## The order of the waits -/

def L (g : GSem nD τ sig) : Finset ℕ := if g.1.2 = .tc then Finset.range 3 else ∅
def lv (g : GSem nD τ sig) (ι : ℕ) : ℕ :=
  match dec g.2 with
  | none => 0
  | some none => 64 * ι + 1
  | some (some κ) => if κ.2.1 then 64 * ι + 2 + 2 * κ.2.2.2.1.val + (if κ.1 then 1 else 0) else 0

theorem L_of_ne (g : GSem nD τ sig) (h : g.1.2 ≠ .tc) : L g = ∅ := if_neg h
theorem L_tc (c : Dev nD) (sm : SemLoc sig) : L ((c : Thread nD τ), sm) = Finset.range 3 := if_pos rfl

theorem lv_bar (c : Dev nD) (ι : ℕ) : lv (bar c) ι = 64 * ι + 1 := by
  dsimp only [lv]; rw [dec_csem none]
theorem lv_key (c : Dev nD) (κ : Key) (ι : ℕ) :
    lv (kcell (c, some κ)) ι = if κ.2.1 then 64 * ι + 2 + 2 * κ.2.2.2.1.val + (if κ.1 then 1 else 0) else 0 := by
  dsimp only [lv]; rw [dec_csem (some κ)]

/-- Everything still owed is waited for above level `n`. -/
def Above (n : ℕ) (O : CellTallies nD τ sig ℕ) : Prop := ∀ g ι, 0 < O g ι → g.1.2 = .tc ∧ ι < 3 ∧ n < lv g ι

theorem above_zero (n : ℕ) : Above n 0 := fun g ι h => absurd h (by simp)
theorem above_add {n : ℕ} {O O' : CellTallies nD τ sig ℕ} (h : Above n O) (h' : Above n O') : Above n (O + O') := fun g ι hp => by
  rw [Pi.add_apply, Finsupp.add_apply] at hp
  rcases Nat.eq_zero_or_pos (O g ι) with h0 | h0
  · exact h' g ι (by omega)
  · exact h g ι h0
theorem above_mono {n n' : ℕ} (hn : n ≤ n') {O : CellTallies nD τ sig ℕ} (h : Above n' O) : Above n O := fun g ι hp =>
  ⟨(h g ι hp).1, (h g ι hp).2.1, by have := (h g ι hp).2.2; omega⟩
theorem above_tally {n : ℕ} (p : Dev nD × Option Key) (ι N : ℕ) (hι : ι < 3) (h : n < lv (kcell p) ι) : Above n (tallyAt (kcell p) ι N) := fun g ι' hp => by
  rw [tallyAt_apply] at hp
  by_cases he : g = kcell p ∧ ι' = ι
  · obtain ⟨rfl, rfl⟩ := he
    exact ⟨rfl, hι, h⟩
  · rw [if_neg he] at hp; exact absurd hp (Nat.lt_irrefl 0)
theorem above_sum {T : Type} [DecidableEq T] {n : ℕ} (S : Finset T) (O : T → CellTallies nD τ sig ℕ) (h : ∀ t ∈ S, Above n (O t)) : Above n (∑ t ∈ S, O t) := by
  induction S using Finset.induction_on with
  | empty => rw [Finset.sum_empty]; exact above_zero n
  | insert a S ha ih =>
    rw [Finset.sum_insert ha]
    exact above_add (h a (Finset.mem_insert_self _ _)) (ih fun t ht => h t (Finset.mem_insert_of_mem ht))

omit [FloatOps F] in
theorem mayWait {n : ℕ} {O : CellTallies nD τ sig ℕ} (h : Above n O) (c : Dev nD) (sm : SemLoc sig) (ι : ℕ) (hι : ι < 3) (hn : lv ((c : Thread nD τ), sm) ι ≤ n) :
    (levAts L lv : sProp 𝕄) ⊢ MayWait (c : Thread nD τ) sm ι O :=
  MayOwe.of_cut (L := L) (lev := lv) n
    (fun p hp => by rw [Finset.mem_singleton.mp hp, L_tc]; exact Finset.mem_range.mpr hι)
    (fun g u hg => by unfold L; rw [if_pos (h g u hg).1]; exact Finset.mem_range.mpr (h g u hg).2.1)
    (fun p hp => by rw [Finset.mem_singleton.mp hp]; exact hn)
    (fun g u hg => (h g u hg).2.2)

/-- What is owed for the hops, or the partial sums, from `k` on. -/
def dues (m d : Bool) (s : Fin 2) (c : Dev nD) (ℓ k : ℕ) : CellTallies nD τ sig ℕ :=
  ∑ i ∈ (since k : Finset (Fin 15)), tallyAt (kcell (nbr d c, some (m, true, d, i, s))) ℓ (amt m d)

theorem dues_step (m d : Bool) (s : Fin 2) (c : Dev nD) (ℓ k : ℕ) (h : k < 15) :
    dues m d s c ℓ k = dues m d s c ℓ (k + 1) + tallyAt (kcell (nbr d c, some (m, true, d, ⟨k, h⟩, s))) ℓ (amt m d) :=
  sum_since _ k h
theorem dues_end (m d : Bool) (s : Fin 2) (c : Dev nD) (ℓ k : ℕ) (h : 15 ≤ k) : dues m d s c ℓ k = 0 := by
  unfold dues; rw [since_end h, Finset.sum_empty]
theorem above_dues (m d : Bool) (s : Fin 2) (c : Dev nD) (ℓ k n : ℕ) (hℓ : ℓ < 3) (hn : n < 64 * ℓ + 2 + 2 * k + if m then 1 else 0) : Above n (dues m d s c ℓ k) :=
  above_sum _ _ fun i hi => above_tally _ _ _ hℓ (by
    rw [lv_key]
    have : k ≤ i.val := (Finset.mem_filter.mp hi).2
    simp only [if_true]
    omega)

/-! ## The invariants -/

variable (K : Dev nD × Option Key → ℕ)

/-- Every cell's invariant and the order of the waits. -/
def inv : sProp 𝕄 := iprop((bigSep Finset.univ fun p : Dev nD × Option Key => cellInv ER (sched V) (K p) (kcell p)) ∗ levAts L lv)

instance inv_persistent : BI.Persistent (inv V K) := by unfold inv; infer_instance

theorem inv_cell (p : Dev nD × Option Key) : inv V K ⊢ cellInv ER (sched V) (K p) (kcell p) := by
  unfold inv
  haveI : DecidableEq (Dev nD × Option Key) := fun a b => Classical.propDecidable (a = b)
  refine BIBase.Entails.trans ?_ (show (bigSep Finset.univ fun p : Dev nD × Option Key => (cellInv ER (sched V) (K p) (kcell p) : sProp 𝕄)) ⊢ cellInv ER (sched V) (K p) (kcell p)
    from bigSep_elim (Finset.mem_univ p))
  iintro ⟨H, -⟩
  iexact H
theorem inv_lev : inv V K ⊢ levAts L lv := by
  unfold inv
  iintro ⟨-, H⟩
  iexact H

/-- A core owes `O`. -/
def Owes (c : Dev nD) (O : CellTallies nD τ sig ℕ) : sProp 𝕄 := iprop(∃ W, owes (c : Thread nD τ) O W)

end Cert.KernelIdeal.Ring
-- ==== Proof.KernelIdeal.Steps.lean ====
module

public import proofs.«01_k».proof.Proof.KernelIdeal.Proto

/-!
What each effect of the body does: a wait, a signal, a transfer, at a symbolic device, direction, hop and half.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

abbrev 𝒱₀ : Variants := Variants.none

/-- A program of device `c` ends with `Q`. -/
abbrev Ends (c : Dev nD) {α : Type} (p : Code F α) (Q : α → sProp 𝕄) : sProp 𝕄 :=
  wp frame (wpE (defs₀ (F := F)) 𝒱₀ (c : Thread nD τ) none) Set.univ p Q

/-- One part of a program, and what follows it. -/
theorem run {c : Dev nD} {α β : Type} {P : sProp 𝕄} {p : Code F α} {R : α → sProp 𝕄} (h : P ⊢ Ends c p R) {k : α → Code F β} {Q : β → sProp 𝕄} :
    P ⊢ iprop((∀ a, R a -∗ Ends c (k a) Q) -∗ Ends c (p >>= k) Q) := by
  unfold Ends
  rw [wp_bind]
  exact h.trans (wp_wand _ _ _)
theorem run_last {c : Dev nD} {α : Type} {P : sProp 𝕄} {p : Code F α} {R : α → sProp 𝕄} (h : P ⊢ Ends c p R) {Q : α → sProp 𝕄} :
    P ⊢ iprop((∀ a, R a -∗ Q a) -∗ Ends c p Q) :=
  h.trans (wp_wand _ _ _)
theorem ends_pure {c : Dev nD} {α : Type} {a : α} {Q : α → sProp 𝕄} : Q a ⊢ Ends c (pure a) Q := by
  show Q a ⊢ wp _ _ _ (.ret a) Q
  rw [wp_ret]
  iintro H
  imodintro
  iexact H

/-- A counted loop keeps a numbered invariant. -/
theorem run_upto {c : Dev nD} : ∀ (n : ℕ) (f : Fin n → Code F PUnit) (I : ℕ → sProp 𝕄),
    (∀ i : Fin n, I i.val ⊢ Ends c (f i) fun _ => I (i.val + 1)) → I 0 ⊢ Ends c (upto n f) fun _ => I n
  | 0, _, I, _ => ends_pure (a := PUnit.unit) (Q := fun _ => I 0)
  | n + 1, f, I, h => by
    unfold upto
    iintro H
    iapply (run (show I 0 ⊢ _ from h 0)) $$ H
    iintro %_ H
    iapply (run_last (show I ((0 : Fin (n + 1)).val + 1) ⊢ _ from run_upto n (fun i => f i.succ) (fun i => I (i + 1)) fun i => h i.succ)) $$ H
    iintro %_ H
    iexact H

variable (V : Vals F) (K : Dev nD × Option Key → ℕ)

set_option maxRecDepth 8000 in
theorem inv_wait {n : ℕ} {O : CellTallies nD τ sig ℕ} (h : Above n O) (c : Dev nD) (sm : SemLoc sig) (ι : ℕ) (hι : ι < 3) (hn : lv ((c : Thread nD τ), sm) ι ≤ n) :
    inv V K ⊢ MayWait (c : Thread nD τ) sm ι O :=
  BIBase.Entails.trans (inv_lev V K) (mayWait h c sm ι hι hn)

/-- A wait on one of the keyed semaphores. -/
theorem wait_key {c : Dev nD} {w : TpuEff nD τ sig (Elt F) Λ₀ .tc PUnit} (κ : Key) (N : ℕ)
    (hw : ∀ Q : PUnit → sProp 𝕄, wpE (defs₀ (F := F)) 𝒱₀ (c : Thread nD τ) none Set.univ w Q = waitSpec (c : Thread nD τ) Set.univ (csem (some κ)) N Q)
    (hN : N = amt κ.1 κ.2.2.1) {ℓ n : ℕ} (hℓ : ℓ < 3) {O : CellTallies nD τ sig ℕ} (hO : Above n O) (hn : lv (kcell (c, some κ)) ℓ ≤ n) :
    iprop(inv V K ∗ cred (tallyAt (kcell (c, some κ)) ℓ (amt κ.1 κ.2.2.1)) ∗ atPos ER (kcell (c, some κ)) ℓ ∅ 0 ∗ Owes c O)
      ⊢ Ends c (Prog.lift w) fun _ => iprop(Owes c O ∗ atPos ER (kcell (c, some κ)) (ℓ + 1) ∅ 0 ∗ reached ER (kcell (c, some κ)) (ℓ + 1) ∗ pay V (some κ) c ℓ true) := by
  have hm : inv V K ⊢ MayWait (c : Thread nD τ) (csem (some κ)) ℓ O := inv_wait V K hO c (csem (some κ)) ℓ hℓ hn
  unfold Owes
  subst hN
  iintro ⟨#HI, Hc, Ha, ⟨%W, Ho⟩⟩
  iapply (Rounds.wp_wait_rest_token 𝒱₀ ER (sched V) (c : Thread nD τ) none (κ := K (c, some κ)) (sm := csem (some κ))
    hw (Set.mem_univ _) ℓ (O := O) (W := W) (R := ℓ) (m := 0) (T := ∅) (by rw [Nat.zero_add]; exact (expect_key V c ℓ hℓ κ).symm)) $$ [Hc Ha Ho]
  · isplitr; · iapply (inv_cell V K (c, some κ)); iexact HI
    isplitl [Hc]; · iexact Hc
    isplitl [Ho]; · iexact Ho
    isplitr; · iapply hm; iexact HI
    iexact Ha
  iintro ⟨Ho, Ha, Hr, Hp⟩
  iapply ends_pure
  isplitl [Ho]; · iexists _; iexact Ho
  isplitl [Ha]; · iexact Ha
  isplitl [Hr]; · iexact Hr
  iapply (Entails.of_eq (rest_key V c ℓ hℓ κ))
  iexact Hp

/-- The wait for both neighbours. -/
theorem wait_bar {c : Dev nD} {ℓ n : ℕ} (hℓ : ℓ < 3) {O : CellTallies nD τ sig ℕ} (hO : Above n O) (hn : 64 * ℓ + 1 ≤ n) :
    iprop(inv V K ∗ cred (tallyAt (bar c) ℓ 2) ∗ atPos ER (bar c) ℓ ∅ 0 ∗ Owes c O)
      ⊢ Ends c (semWaitWord (Val := Elt F) barSem 2#32) fun _ => iprop(Owes c O ∗ atPos ER (bar c) (ℓ + 1) ∅ 0 ∗ reached ER (bar c) (ℓ + 1)
          ∗ pass ℓ true (nbr true c) ∗ pass ℓ false (nbr false c)) := by
  have hm : inv V K ⊢ MayWait (c : Thread nD τ) (csem none) ℓ O := inv_wait V K hO c (csem none) ℓ hℓ (by rw [lv_bar]; exact hn)
  unfold Owes semWaitWord
  iintro ⟨#HI, Hc, Ha, ⟨%W, Ho⟩⟩
  iapply (Rounds.wp_wait_rest_token 𝒱₀ ER (sched V) (c : Thread nD τ) none (κ := K (c, none)) (sm := csem none)
    (wpE_semWait_eq 𝒱₀ (c : Thread nD τ) none Set.univ) (Set.mem_univ _) ℓ (O := O) (W := W) (R := ℓ) (m := 0) (T := ∅)
    (by rw [Nat.zero_add]; exact (expect_bar V c ℓ hℓ).symm)) $$ [Hc Ha Ho]
  · isplitr; · iapply (inv_cell V K (c, none)); iexact HI
    isplitl [Hc]; · iexact Hc
    isplitl [Ho]; · iexact Ho
    isplitr; · iapply hm; iexact HI
    iexact Ha
  iintro ⟨Ho, Ha, Hr, Hp⟩
  iapply ends_pure
  isplitl [Ho]; · iexists _; iexact Ho
  isplitl [Ha]; · iexact Ha
  isplitl [Hr]; · iexact Hr
  iapply (Entails.of_eq (rest_bar V c ℓ hℓ))
  iexact Hp

/-- A signal to the neighbour in direction `!d`, which hands over what it needs to send in direction `d`. -/
theorem signal_nbr (d : Bool) {c : Dev nD} {ℓ : ℕ} (hℓ : ℓ < 3) (O : CellTallies nD τ sig ℕ) :
    iprop(inv V K ∗ pass ℓ d c ∗ dutyTok ER (bar (nbr (!d) c)) ℓ d ∗ reached ER (bar (nbr (!d) c)) ℓ ∗ Owes c (O + tallyAt (bar (nbr (!d) c)) ℓ 1))
      ⊢ Ends c (semSignalWord (Val := Elt F) (nbr (!d) c) barSem 1#32) fun _ => Owes c O := by
  unfold Owes semSignalWord
  iintro ⟨#HI, Hp, Ht, Hr, ⟨%W, Ho⟩⟩
  iapply (Rounds.wp_signal 𝒱₀ ER (sched V) (c : Thread nD τ) none (dst := (nbr (!d) c : Thread nD τ)) (κ := K (nbr (!d) c, none)) (r := ℓ)
      (d := d) (by rw [duties_bar V _ _ hℓ]; exact Finset.mem_univ _) (amount_bar V (nbr (!d) c) ℓ d) ℓ O rfl)
    $$ [Hp Ht Hr Ho]
  · isplitr; · iapply (inv_cell V K (nbr (!d) c, none)); iexact HI
    isplitl [Ho]; · iexact Ho
    isplitl [Ht]; · iexact Ht
    isplitl [Hp]
    · iapply (Entails.of_eq (payload_eq V (nbr (!d) c) ℓ none d).symm)
      rw [pay_bar, nbr_nbr d c]
      iexact Hp
    iexact Hr
  iintro Ho
  iapply ends_pure
  iexists _; iexact Ho

/-- A block is passed on. -/
theorem send_block (d : Bool) {c : Dev nD} (k : Fin 15) (s : Fin 2) {ℓ : ℕ} (hℓ : ℓ < 3) (O : CellTallies nD τ sig ℕ) :
    iprop(inv V K ∗ held V ℓ fullShare.left d c s k.castSucc ∗ room d (nbr d c) s k.succ ∗ reached ER (bar c) (ℓ + 1)
        ∗ Owes c (O + tallyAt (kcell (nbr d c, some (false, true, d, k, s))) ℓ (amt false d))
        ∗ dutyTok ER (kcell (c, some (false, false, d, k, s))) ℓ true ∗ reached ER (kcell (c, some (false, false, d, k, s))) ℓ
        ∗ dutyTok ER (kcell (nbr d c, some (false, true, d, k, s))) ℓ true ∗ reached ER (kcell (nbr d c, some (false, true, d, k, s))) ℓ)
      ⊢ Ends c (sendBlock B₀ d c k s) fun _ => iprop(cred (tallyAt (kcell (c, some (false, false, d, k, s))) ℓ (amt false d)) ∗ Owes c O) := by
  unfold Owes sendBlock held room
  have hsrc : slot (B₀.X d) d c k s = place (B₀.X d) (sidx d c k.castSucc) s := slot_eq _ d c k s
  have hdst : slot (B₀.X d) d c k s = place (B₀.X d) (sidx d (nbr d c) k.succ) s := by rw [sidx_nbr]; exact hsrc
  iintro ⟨#HI, Hs, Hd, Hb, ⟨%W, Ho⟩, Ht, Hr, Ht', Hr'⟩
  iapply (wp_send_owns 𝒱₀ (c : Thread nD τ) none ER (sched V) (c' := (nbr d c : Thread nD τ)) (src := slot (B₀.X d) d c k s) (dst := slot (B₀.X d) d c k s)
      (sS := csem (some (false, false, d, k, s))) (sem := csem (some (false, true, d, k, s)))
      (κ₁ := K (c, some (false, false, d, k, s))) (κ₂ := K (nbr d c, some (false, true, d, k, s)))
      (r₁ := ℓ) (r₂ := ℓ) (d₁ := true) (d₂ := true) (q := fullShare.left) (X := sub s (blk V ℓ d (org d c k.val)))
      (by rw [duties_key V _ _ hℓ]; exact Finset.mem_singleton_self _) (by rw [duties_key V _ _ hℓ]; exact Finset.mem_singleton_self _)
      ℓ ℓ (amt false d) (by rw [hsrc]; exact amt_X d _ s) (amount_key V c ℓ _ true) (amount_key V (nbr d c) ℓ _ true) O rfl (W := W)
      (G := reached ER (bar c) (ℓ + 1))
      (by rw [payload_eq V c ℓ (some _) true, hsrc]; exact .rfl)
      (by
        rw [payload_eq V (nbr d c) ℓ (some _) true, hdst]
        rw [pay_got]
        unfold held
        rw [nbr_nbr', Fin.val_succ, org_nbr']
        )
      (by routes)) $$ [Hs Hd Hb Ho Ht Hr Ht' Hr']
  · isplitr; · iapply (inv_cell V K (c, some (false, false, d, k, s))); iexact HI
    isplitr; · iapply (inv_cell V K (nbr d c, some (false, true, d, k, s))); iexact HI
    isplitl [Hs]; · rw [hsrc]; iexact Hs
    isplitl [Hd]; · rw [hdst]; iexact Hd
    isplitl [Hb]; · iexact Hb
    isplitl [Ho]; · iexact Ho
    isplitl [Ht]; · iexact Ht
    isplitl [Hr]; · iexact Hr
    isplitl [Ht'] <;> iassumption
  iintro ⟨Hc, Ho⟩
  iapply ends_pure
  isplitl [Hc]; · iexact Hc
  iexists _; iexact Ho

/-- A partial sum is passed on. -/
theorem send_sum (d : Bool) {c : Dev nD} (t : Fin 15) (s : Fin 2) {ℓ : ℕ} (hℓ : ℓ < 3) (O : CellTallies nD τ sig ℕ) :
    iprop(inv V K ∗ sumAt (B₀.S d) c t s (psum V ℓ d t.val c) ∗ spare (B₀.R d) (nbr d c) t s
        ∗ Owes c (O + tallyAt (kcell (nbr d c, some (true, true, d, t, s))) ℓ (amt true d))
        ∗ dutyTok ER (kcell (c, some (true, false, d, t, s))) ℓ true ∗ reached ER (kcell (c, some (true, false, d, t, s))) ℓ
        ∗ dutyTok ER (kcell (nbr d c, some (true, true, d, t, s))) ℓ true ∗ reached ER (kcell (nbr d c, some (true, true, d, t, s))) ℓ)
      ⊢ Ends c (sendSum B₀ d c t s) fun _ => iprop(cred (tallyAt (kcell (c, some (true, false, d, t, s))) ℓ (amt true d)) ∗ Owes c O) := by
  unfold Owes sendSum sumAt spare
  iintro ⟨#HI, Hs, Hd, ⟨%W, Ho⟩, Ht, Hr, Ht', Hr'⟩
  iapply (wp_send_owns 𝒱₀ (c : Thread nD τ) none ER (sched V) (c' := (nbr d c : Thread nD τ)) (src := part (B₀.S d) t s) (dst := part (B₀.R d) t s)
      (sS := csem (some (true, false, d, t, s))) (sem := csem (some (true, true, d, t, s)))
      (κ₁ := K (c, some (true, false, d, t, s))) (κ₂ := K (nbr d c, some (true, true, d, t, s)))
      (r₁ := ℓ) (r₂ := ℓ) (d₁ := true) (d₂ := true) (q := fullShare) (X := half s (psum V ℓ d t.val c))
      (by rw [duties_key V _ _ hℓ]; exact Finset.mem_singleton_self _) (by rw [duties_key V _ _ hℓ]; exact Finset.mem_singleton_self _)
      ℓ ℓ (amt true d) (amt_R d t s) (amount_key V c ℓ _ true) (amount_key V (nbr d c) ℓ _ true) O rfl (W := W)
      (G := iprop(emp))
      (by rw [payload_eq V c ℓ (some _) true]; exact .rfl)
      (by
        rw [payload_eq V (nbr d c) ℓ (some _) true]
        rw [pay_sumGot]
        unfold sumAt
        rw [nbr_nbr']
        iintro ⟨H, -⟩
        iexact H)
      (by routes)) $$ [Hs Hd Ho Ht Hr Ht' Hr']
  · isplitr; · iapply (inv_cell V K (c, some (true, false, d, t, s))); iexact HI
    isplitr; · iapply (inv_cell V K (nbr d c, some (true, true, d, t, s))); iexact HI
    isplitl [Hs]; · iexact Hs
    isplitl [Hd]; · iexact Hd
    isplitr; · iempintro
    isplitl [Ho]; · iexact Ho
    isplitl [Ht]; · iexact Ht
    isplitl [Hr]; · iexact Hr
    isplitl [Ht'] <;> iassumption
  iintro ⟨Hc, Ho⟩
  iapply ends_pure
  isplitl [Hc]; · iexact Hc
  iexists _; iexact Ho

end Cert.KernelIdeal.Ring
-- ==== Proof.KernelIdeal.Hop.lean ====
module

public import proofs.«01_k».proof.Proof.KernelIdeal.Steps

/-!
One hop: a block is received and passed on, and a partial sum is received, added to and passed on. A layer's progress in
one direction and one half is a family with one member per hop.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

variable (V : Vals F) (K : Dev nD × Option Key → ℕ) (ℓ : ℕ) (d : Bool) (s : Fin 2) (c : Dev nD)

/-! ## Progress -/

/-- What it takes to fire a transfer: the receiver's duty and the sender's, both in this layer's round. -/
def fires (m : Bool) (i : Fin 15) : sProp 𝕄 :=
  iprop(dutyTok ER (kcell (c, some (m, false, d, i, s))) ℓ true ∗ reached ER (kcell (c, some (m, false, d, i, s))) ℓ
    ∗ dutyTok ER (kcell (nbr d c, some (m, true, d, i, s))) ℓ true ∗ reached ER (kcell (nbr d c, some (m, true, d, i, s))) ℓ)
/-- What it takes to wait on a semaphore, and what is left of a wait. -/
def waits (m r : Bool) (i : Fin 15) : sProp 𝕄 :=
  iprop(cred (tallyAt (kcell (c, some (m, r, d, i, s))) ℓ (amt m d)) ∗ atPos ER (kcell (c, some (m, r, d, i, s))) ℓ ∅ 0)
def waited (m r : Bool) (i : Fin 15) : sProp 𝕄 :=
  iprop(atPos ER (kcell (c, some (m, r, d, i, s))) (ℓ + 1) ∅ 0 ∗ reached ER (kcell (c, some (m, r, d, i, s))) (ℓ + 1))

def agGot (i : Fin 15) : sProp 𝕄 := iprop(waited ℓ d s c false true i ∗ reached ER (bar (nbr (!d) c)) (ℓ + 1))
def agTodo (i : Fin 15) : sProp 𝕄 :=
  iprop(room d (nbr d c) s i.succ ∗ fires ℓ d s c false i ∗ atPos ER (kcell (c, some (false, false, d, i, s))) ℓ ∅ 0)
def agSent (i : Fin 15) : sProp 𝕄 := iprop(waits ℓ d s c false false i ∗ held V ℓ fullShare.right d c s i.castSucc)
def rsTodo (i : Fin 15) : sProp 𝕄 :=
  iprop(spare (B₀.R d) (nbr d c) i s ∗ spare (B₀.S d) c i s ∗ fires ℓ d s c true i ∗ atPos ER (kcell (c, some (true, false, d, i, s))) ℓ ∅ 0)
def rsGot (i : Fin 15) : sProp 𝕄 := iprop(waited ℓ d s c true true i ∗ sumAt (B₀.R d) c i s (psum V ℓ d i.val (nbr (!d) c)))

/-- The blocks before hop `k`. -/
def agSt (k : ℕ) : sProp 𝕄 :=
  iprop(prog (agTodo ℓ d s c) (agSent V ℓ d s c) k ∗ prog (waits ℓ d s c false true) (agGot ℓ d s c) (k - 1)
    ∗ if k = 0 then held V ℓ fullShare d c s 0 else if k = 16 then held V ℓ fullShare d c s 15 else iprop(emp))
/-- The partial sums before the one numbered `t`. -/
def rsSt (t : ℕ) : sProp 𝕄 :=
  iprop(prog (rsTodo ℓ d s c) (waits ℓ d s c true false) t ∗ prog (waits ℓ d s c true true) (rsGot V ℓ d s c) (t - 1))

theorem held_halves (k : Fin 16) : held V ℓ fullShare d c s k ⊢ iprop(held V ℓ fullShare.left d c s k ∗ held V ℓ fullShare.right d c s k) := by
  unfold held
  exact (owns_halves _ _ _ _).1

/-- A received block, all of it. -/
theorem recv_block (k : Fin 15) (hℓ : ℓ < 3) {O : CellTallies nD τ sig ℕ} {n : ℕ} (hO : Above n O) (hn : 64 * ℓ + 2 + 2 * k.val ≤ n) :
    iprop(inv V K ∗ waits ℓ d s c false true k ∗ Owes c O)
      ⊢ Ends c (waitBlock B₀ d c k s) fun _ => iprop(Owes c O ∗ agGot ℓ d s c k ∗ held V ℓ fullShare d c s k.succ) := by
  unfold waitBlock waits agGot waited
  iintro ⟨#HI, ⟨Hc, Ha⟩, Ho⟩
  iapply (run_last (wait_key V K (false, true, d, k, s) _ (wpE_waitDma2_eq 𝒱₀ (c : Thread nD τ) none Set.univ) (by rw [slot_eq]; exact amt_X d _ s) hℓ hO
    (by rw [lv_key]; exact hn))) $$ [Hc Ha Ho]
  · isplitr; · iexact HI
    isplitl [Hc]; · iexact Hc
    isplitl [Ha] <;> iassumption
  iintro %_ ⟨Ho, Ha, Hr, Hp⟩
  ihave Hp := (Entails.of_eq (pay_got V d c k s ℓ true)) $$ Hp
  icases Hp with ⟨Hp, Hb⟩
  isplitl [Ho]; · iexact Ho
  isplitr [Hp]
  · isplitr [Hb]
    · isplitl [Ha] <;> iassumption
    iexact Hb
  iexact Hp

theorem blockStep_eq (k : Fin 16) : blockStep (F := F) B₀ d c k s
    = ((if h : 0 < k.val then waitBlock B₀ d c ⟨k.val - 1, by omega⟩ s else pure ⟨⟩) >>= fun _ =>
        if h : k.val < 15 then sendBlock B₀ d c ⟨k.val, h⟩ s else pure ⟨⟩) := by
  unfold blockStep
  by_cases h : 0 < k.val
  · simp only [dif_pos h]
  · simp only [dif_neg h]; rfl

/-- A block is received, if there is one to receive, and passed on, if it is to be passed on. -/
theorem block_step (k : Fin 16) (hℓ : ℓ < 3) {O : CellTallies nD τ sig ℕ} (hO : Above (64 * ℓ + 2 * k.val) O) :
    iprop(inv V K ∗ reached ER (bar c) (ℓ + 1) ∗ agSt V ℓ d s c k.val ∗ Owes c (O + dues false d s c ℓ k.val))
      ⊢ Ends c (blockStep B₀ d c k s) fun _ => iprop(agSt V ℓ d s c (k.val + 1) ∗ Owes c (O + dues false d s c ℓ (k.val + 1))) := by
  have hA : Above (64 * ℓ + 2 * k.val) (O + dues false d s c ℓ k.val) := above_add hO (above_dues false d s c ℓ k.val _ hℓ (by simp only [Bool.false_eq_true, if_false]; omega))
  -- the block itself, at hand
  have recv : iprop(inv V K ∗ agSt V ℓ d s c k.val ∗ Owes c (O + dues false d s c ℓ k.val))
      ⊢ Ends c (if h : 0 < k.val then waitBlock B₀ d c ⟨k.val - 1, by omega⟩ s else pure ⟨⟩) fun _ =>
        iprop(Owes c (O + dues false d s c ℓ k.val) ∗ held V ℓ fullShare d c s k
          ∗ prog (agTodo ℓ d s c) (agSent V ℓ d s c) k.val ∗ prog (waits ℓ d s c false true) (agGot ℓ d s c) k.val) := by
    unfold agSt
    by_cases h : 0 < k.val
    · have hk1 : k.val - 1 < 15 := by omega
      rw [dif_pos h, if_neg (by omega), if_neg (by omega)]
      iintro ⟨#HI, ⟨Hs, Hr, -⟩, Ho⟩
      ihave Hr := (prog_step _ _ (k.val - 1) (by omega)) $$ Hr
      icases Hr with ⟨Hw, Hr⟩
      iapply (run_last (recv_block V K ℓ d s c ⟨k.val - 1, hk1⟩ hℓ hA (by show 64 * ℓ + 2 + 2 * (k.val - 1) ≤ _; omega))) $$ [Hw Ho]
      · isplitr; · iexact HI
        isplitl [Hw] <;> iassumption
      iintro %_ ⟨Ho, Hw, Hh⟩
      ihave Hr := Hr $$ Hw
      rw [show (⟨k.val - 1, by omega⟩ : Fin 15).succ = k from Fin.ext (by show k.val - 1 + 1 = k.val; omega), show k.val - 1 + 1 = k.val by omega]
      isplitl [Ho]; · iexact Ho
      isplitl [Hh]; · iexact Hh
      isplitl [Hs] <;> iassumption
    · obtain rfl : k = 0 := Fin.ext (by simp only [Fin.val_zero]; omega)
      rw [dif_neg h, if_pos (show (0 : Fin 16).val = 0 from rfl)]
      iintro ⟨#HI, ⟨Hs, Hr, Hh⟩, Ho⟩
      iapply ends_pure
      isplitl [Ho]; · iexact Ho
      isplitl [Hh]; · iexact Hh
      isplitl [Hs]; · iexact Hs
      iexact Hr
  rw [blockStep_eq]
  iintro ⟨#HI, #Hb, Hst, Ho⟩
  iapply (run recv) $$ [Hst Ho]
  · isplitr; · iexact HI
    isplitl [Hst] <;> iassumption
  iintro %_ ⟨Ho, Hh, Hs, Hr⟩
  by_cases h : k.val < 15
  · rw [dif_pos h]
    ihave Hh := (held_halves V ℓ d s c k) $$ Hh
    icases Hh with ⟨Hl, Hh⟩
    ihave Hs := (prog_step _ _ k.val h) $$ Hs
    icases Hs with ⟨Ht, Hs⟩
    unfold agTodo fires
    icases Ht with ⟨Hroom, ⟨Ht1, Hr1, Ht2, Hr2⟩, Ha⟩
    have hk : (⟨k.val, h⟩ : Fin 15).castSucc = k := Fin.ext rfl
    iapply (run_last (send_block V K d ⟨k.val, h⟩ s hℓ (O + dues false d s c ℓ (k.val + 1)))) $$ [Hl Hroom Ho Ht1 Hr1 Ht2 Hr2]
    · isplitr; · iexact HI
      isplitl [Hl]; · rw [hk]; iexact Hl
      isplitl [Hroom]; · iexact Hroom
      isplitr; · iexact Hb
      isplitl [Ho]; · rw [add_assoc, ← dues_step false d s c ℓ k.val h]; iexact Ho
      isplitl [Ht1]; · iexact Ht1
      isplitl [Hr1]; · iexact Hr1
      isplitl [Ht2] <;> iassumption
    iintro %_ ⟨Hc, Ho⟩
    isplitr [Ho]
    · unfold agSt
      rw [if_neg (by omega), if_neg (by omega), Nat.add_sub_cancel]
      isplitr [Hr]
      · iapply Hs
        unfold agSent waits
        rw [hk]
        isplitr [Hh]
        · isplitl [Hc] <;> iassumption
        iexact Hh
      isplitl [Hr]; · iexact Hr
      iempintro
    iexact Ho
  · obtain rfl : k = 15 := Fin.ext (by show k.val = 15; omega)
    rw [dif_neg h]
    iapply ends_pure
    rw [dues_end false d s c ℓ _ (show 15 ≤ (15 : Fin 16).val from le_rfl), dues_end false d s c ℓ _ (show 15 ≤ (15 : Fin 16).val + 1 by decide)]
    isplitr [Ho]
    · unfold agSt
      rw [if_neg (by decide), if_pos (by decide)]
      isplitl [Hs]
      · iapply (Entails.of_eq ((prog_end (agTodo ℓ d s c) (agSent V ℓ d s c) (show 15 ≤ (15 : Fin 16).val from le_rfl)).trans
          (prog_end _ _ (show 15 ≤ (15 : Fin 16).val + 1 by decide)).symm))
        iexact Hs
      isplitl [Hr]; · iexact Hr
      iexact Hh
    iexact Ho

/-! ## Partial sums -/

theorem part_load (a : Memref sig .tc .vmem S15x2x64x256 .f32) (t : Fin 15) (w : Vec F S64x256 .f32) :
    (owns (c : Thread nD τ) (place a t s) fullShare w : sProp 𝕄)
      ⊢ Ends c (loadPart a t s) fun v => iprop(⌜v = shapeCast S1x1x64x256 w shapeCasts_S64x256_S1x1x64x256⌝ ∗ owns (c : Thread nD τ) (place a t s) fullShare w) := by
  unfold loadPart
  iintro H
  ihave H := ((owns_squeeze (c : Thread nD τ) (a.slice (placeRect 15 t s) (fun _ => rfl)) fullShare Flat squeezes_piece casts_piece w).1) $$ H
  iapply (wp_load_owns 𝒱₀ (c : Thread nD τ) none Set.univ (m := a) (r := partRect t s) (fun _ => rfl)) $$ H
  iintro H
  iapply ends_pure
  isplitr; · ipureintro; rfl
  iapply ((owns_squeeze (c : Thread nD τ) (a.slice (placeRect 15 t s) (fun _ => rfl)) fullShare Flat squeezes_piece casts_piece w).2)
  iexact H

theorem part_store (a : Memref sig .tc .vmem S15x2x64x256 .f32) (t : Fin 15) (w : FVec F S64x256 .f32) :
    (spare a c t s : sProp 𝕄)
      ⊢ Ends c (storePart a t s (shapeCast S1x1x64x256 w shapeCasts_S64x256_S1x1x64x256)) fun _ => (owns (c : Thread nD τ) (place a t s) fullShare (w : Vec F S64x256 .f32) : sProp 𝕄) := by
  unfold storePart spare any
  iintro ⟨%X, H⟩
  iapply (run (part_load s c a t X)) $$ H
  iintro %_ ⟨-, H⟩
  ihave H := ((owns_squeeze (c : Thread nD τ) (a.slice (placeRect 15 t s) (fun _ => rfl)) fullShare Flat squeezes_piece casts_piece X).1) $$ H
  iapply (wp_store_owns 𝒱₀ (c : Thread nD τ) none Set.univ (m := a) (r := partRect t s) (fun _ => rfl)) $$ H
  iintro H
  iapply ends_pure
  iapply ((owns_squeeze (c : Thread nD τ) (a.slice (placeRect 15 t s) (fun _ => rfl)) fullShare Flat squeezes_piece casts_piece (w : Vec F S64x256 .f32)).2)
  iexact H

/-- Half of one partial sum on top of another is half of their sum. -/
theorem onTop_half (p r : FVec F S128x256 .f32) : onTop s p (shapeCast S1x1x64x256 (half s r) shapeCasts_S64x256_S1x1x64x256)
    = shapeCast S1x1x64x256 (half s (addf p r)) shapeCasts_S64x256_S1x1x64x256 := by
  unfold onTop
  rw [shapeCast_shapeCast]
  match s with
  | 0 => rfl
  | 1 => rfl

/-- A received partial sum. -/
theorem recv_sum (t : Fin 15) (hℓ : ℓ < 3) {O : CellTallies nD τ sig ℕ} {n : ℕ} (hO : Above n O) (hn : 64 * ℓ + 3 + 2 * t.val ≤ n) :
    iprop(inv V K ∗ waits ℓ d s c true true t ∗ Owes c O)
      ⊢ Ends c (waitSum B₀ d t s) fun _ => iprop(Owes c O ∗ rsGot V ℓ d s c t) := by
  unfold waitSum waits rsGot waited
  iintro ⟨#HI, ⟨Hc, Ha⟩, Ho⟩
  iapply (run_last (wait_key V K (true, true, d, t, s) _ (wpE_waitDma2_eq 𝒱₀ (c : Thread nD τ) none Set.univ) (amt_R d t s) hℓ hO
    (by rw [lv_key]; simp only [if_true]; omega))) $$ [Hc Ha Ho]
  · isplitr; · iexact HI
    isplitl [Hc]; · iexact Hc
    isplitl [Ha] <;> iassumption
  iintro %_ ⟨Ho, Ha, Hr, Hp⟩
  ihave Hp := (Entails.of_eq (pay_sumGot V d c t s ℓ true)) $$ Hp
  isplitl [Ho]; · iexact Ho
  isplitr [Hp]
  · isplitl [Ha] <;> iassumption
  iexact Hp

/-- The partial sum `t` is received, if there is one to receive, added to the product, and passed on. -/
theorem sum_step (t : Fin 15) (hℓ : ℓ < 3) {O : CellTallies nD τ sig ℕ} (hO : Above (64 * ℓ + 2 * t.val + 1) O) :
    iprop(inv V K ∗ rsSt V ℓ d s c t.val ∗ Owes c (O + dues true d s c ℓ t.val))
      ⊢ Ends c (sumStep B₀ d c t (prod V ℓ d c (org d c (t.val + 1))) s) fun _ => iprop(rsSt V ℓ d s c (t.val + 1) ∗ Owes c (O + dues true d s c ℓ (t.val + 1))) := by
  have hA : Above (64 * ℓ + 2 * t.val + 1) (O + dues true d s c ℓ t.val) := above_add hO (above_dues true d s c ℓ t.val _ hℓ (by simp only [if_true]; omega))
  -- the sum, formed
  have form : iprop(inv V K ∗ spare (B₀.S d) c t s ∗ prog (waits ℓ d s c true true) (rsGot V ℓ d s c) (t.val - 1) ∗ Owes c (O + dues true d s c ℓ t.val))
      ⊢ Ends c (if h : 0 < t.val then
            (waitSum B₀ d ⟨t.val - 1, by omega⟩ s >>= fun _ => loadPart (B₀.R d) ⟨t.val - 1, by omega⟩ s >>= fun r =>
              storePart (B₀.S d) t s (onTop s (prod V ℓ d c (org d c (t.val + 1))) r))
          else storePart (B₀.S d) t s (first s (prod V ℓ d c (org d c (t.val + 1))))) fun _ =>
        iprop(Owes c (O + dues true d s c ℓ t.val) ∗ sumAt (B₀.S d) c t s (psum V ℓ d t.val c)
          ∗ prog (waits ℓ d s c true true) (rsGot V ℓ d s c) t.val) := by
    by_cases h : 0 < t.val
    · have ht1 : t.val - 1 < 15 := by omega
      rw [dif_pos h]
      iintro ⟨#HI, Hsp, Hr, Ho⟩
      ihave Hr := (prog_step _ _ (t.val - 1) ht1) $$ Hr
      icases Hr with ⟨Hw, Hr⟩
      iapply (run (recv_sum V K ℓ d s c ⟨t.val - 1, ht1⟩ hℓ hA (by show 64 * ℓ + 3 + 2 * (t.val - 1) ≤ _; omega))) $$ [Hw Ho]
      · isplitr; · iexact HI
        isplitl [Hw] <;> iassumption
      iintro %_ ⟨Ho, Hg⟩
      unfold rsGot sumAt
      icases Hg with ⟨Hw, Hg⟩
      iapply (run (part_load s c (B₀.R d) ⟨t.val - 1, ht1⟩ (half s (psum V ℓ d (t.val - 1) (nbr (!d) c)) : Vec F S64x256 .f32))) $$ Hg
      iintro %v ⟨%hv, Hg⟩
      subst hv
      rw [onTop_half]
      iapply (run_last (part_store s c (B₀.S d) t _)) $$ Hsp
      iintro %_ Hs
      have hp : psum V ℓ d t.val c = addf (prod V ℓ d c (org d c (t.val + 1))) (psum V ℓ d (t.val - 1) (nbr (!d) c)) := by
        obtain ⟨n, hn⟩ : ∃ n, t.val = n + 1 := ⟨t.val - 1, by omega⟩
        rw [hn]; rfl
      rw [hp]
      isplitl [Ho]; · iexact Ho
      isplitl [Hs]; · iexact Hs
      iapply (Entails.of_eq (congrArg (prog (waits ℓ d s c true true) (rsGot V ℓ d s c)) (show t.val - 1 + 1 = t.val by omega)))
      iapply Hr
      isplitl [Hw]; · iexact Hw
      iexact Hg
    · obtain rfl : t = 0 := Fin.ext (by show t.val = 0; omega)
      rw [dif_neg h]
      iintro ⟨#HI, Hsp, Hr, Ho⟩
      unfold first
      iapply (run_last (part_store s c (B₀.S d) 0 _)) $$ Hsp
      iintro %_ Hs
      unfold sumAt
      rw [show psum V ℓ d (0 : Fin 15).val c = prod V ℓ d c (org d c ((0 : Fin 15).val + 1)) from rfl]
      isplitl [Ho]; · iexact Ho
      isplitl [Hs]; · iexact Hs
      iexact Hr
  rw [show sumStep (F := F) B₀ d c t (prod V ℓ d c (org d c (t.val + 1))) s = ((if h : 0 < t.val then
            (waitSum B₀ d ⟨t.val - 1, by omega⟩ s >>= fun _ => loadPart (B₀.R d) ⟨t.val - 1, by omega⟩ s >>= fun r =>
              storePart (B₀.S d) t s (onTop s (prod V ℓ d c (org d c (t.val + 1))) r))
          else storePart (B₀.S d) t s (first s (prod V ℓ d c (org d c (t.val + 1))))) >>= fun _ => sendSum B₀ d c t s) by
    unfold sumStep
    by_cases h : 0 < t.val
    · simp only [dif_pos h, bind_assoc]
    · simp only [dif_neg h]]
  unfold rsSt
  iintro ⟨#HI, ⟨Hs, Hr⟩, Ho⟩
  ihave Hs := (prog_step _ _ t.val t.isLt) $$ Hs
  icases Hs with ⟨Ht, Hs⟩
  unfold rsTodo fires
  icases Ht with ⟨Hroom, Hsp, ⟨Ht1, Hr1, Ht2, Hr2⟩, Ha⟩
  iapply (run form) $$ [Hsp Hr Ho]
  · isplitr; · iexact HI
    isplitl [Hsp]; · iexact Hsp
    isplitl [Hr] <;> iassumption
  iintro %_ ⟨Ho, Hsum, Hr⟩
  iapply (run_last (send_sum V K d t s hℓ (O + dues true d s c ℓ (t.val + 1)))) $$ [Hsum Hroom Ho Ht1 Hr1 Ht2 Hr2]
  · isplitr; · iexact HI
    isplitl [Hsum]; · iexact Hsum
    isplitl [Hroom]; · iexact Hroom
    isplitl [Ho]; · rw [add_assoc, ← dues_step true d s c ℓ t.val t.isLt]; iexact Ho
    isplitl [Ht1]; · iexact Ht1
    isplitl [Hr1]; · iexact Hr1
    isplitl [Ht2] <;> iassumption
  iintro %_ ⟨Hc, Ho⟩
  isplitr [Ho]
  · isplitr [Hr]
    · iapply Hs
      unfold waits
      isplitl [Hc] <;> iassumption
    rw [Nat.add_sub_cancel]
    iexact Hr
  iexact Ho

end Cert.KernelIdeal.Ring
-- ==== Proof.KernelIdeal.Layer.lean ====
module

public import proofs.«01_k».proof.Proof.KernelIdeal.Hop

/-!
A layer: the sixteen hops, the last sums, and the waits for everything that was sent.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

variable (V : Vals F) (K : Dev nD × Option Key → ℕ) (ℓ : ℕ) (d : Bool) (s : Fin 2) (c : Dev nD)

/-! ## A device's product with a block -/

/-- A layer's rounded matrices, in place. -/
def mats : sProp 𝕄 :=
  iprop(owns (c : Thread nD τ) (B₀.wi.slice wiRect (fun _ => rfl)) fullShare (wiV V ℓ c)
    ∗ owns (c : Thread nD τ) (B₀.wo.slice woRect (fun _ => rfl)) fullShare (woV V ℓ c))

/-- The share of a block that stays after hop `k`. -/
def stays (k : Fin 16) : PosShare TreeShare := if k.val < 15 then fullShare.right else fullShare

/-- Borrowing the block of hop `k` after that hop. -/
theorem agSt_use (k : Fin 16) : agSt V ℓ d s c (k.val + 1) ⊢ iprop(held V ℓ (stays k) d c s k ∗ (held V ℓ (stays k) d c s k -∗ agSt V ℓ d s c (k.val + 1))) := by
  unfold agSt stays
  by_cases h : k.val < 15
  · rw [if_pos h]
    iintro ⟨Hs, Hr, He⟩
    ihave Hs := (prog_get _ _ (k.val + 1) (⟨k.val, h⟩ : Fin 15) (Nat.lt_succ_self _)) $$ Hs
    icases Hs with ⟨Hg, Hs⟩
    unfold agSent
    icases Hg with ⟨Hw, Hg⟩
    isplitl [Hg]; · iexact Hg
    iintro Hg
    isplitl [Hs Hw Hg]
    · iapply Hs
      isplitl [Hw]; · iexact Hw
      iexact Hg
    isplitl [Hr] <;> iassumption
  · obtain rfl : k = 15 := Fin.ext (by show k.val = 15; omega)
    rw [if_neg h, if_neg (by decide), if_pos (by decide)]
    iintro ⟨Hs, Hr, He⟩
    isplitl [He]; · iexact He
    iintro He
    isplitl [Hs]; · iexact Hs
    isplitl [Hr] <;> iassumption

theorem held_both (q : PosShare TreeShare) (k : Fin 16) :
    iprop(held V ℓ q d c 0 k ∗ held V ℓ q d c 1 k)
      ⊣⊢ (owns (c : Thread nD τ) ((B₀.X d).slice (Rect.unit (s := S16x2x64x256) (useOff d c k) S1x2x64x256.size (useOff_inb d c k)) (fun _ => rfl)) q
          (blk V ℓ d (org d c k.val)) : sProp 𝕄) := by
  unfold held
  have e : (B₀.X d).slice (Rect.unit (s := S16x2x64x256) (useOff d c k) S1x2x64x256.size (useOff_inb d c k)) (fun _ => rfl)
      = (B₀.X d).slice (bothRect 16 (sidx d c k)) (fun _ => rfl) := Memref.slice_unit_congr _ (useOff_eq d c k) _ _ _ _
  rw [e]
  exact ⟨(owns_both (c : Thread nD τ) (B₀.X d) q (sidx d c k) _).2, (owns_both (c : Thread nD τ) (B₀.X d) q (sidx d c k) _).1⟩

theorem use_block (k : Fin 16) :
    iprop(agSt V ℓ d 0 c (k.val + 1) ∗ agSt V ℓ d 1 c (k.val + 1) ∗ mats V ℓ c)
      ⊢ Ends c (useBlock B₀ d c k) fun p => iprop(⌜p = prod V ℓ d c (org d c k.val)⌝ ∗ agSt V ℓ d 0 c (k.val + 1) ∗ agSt V ℓ d 1 c (k.val + 1) ∗ mats V ℓ c) := by
  unfold useBlock mats
  simp only [Prog.lift, Prog.bind_op, Prog.bind_ret]
  iintro ⟨H0, H1, Hi, Ho⟩
  ihave H0 := (agSt_use V ℓ d 0 c k) $$ H0
  ihave H1 := (agSt_use V ℓ d 1 c k) $$ H1
  icases H0 with ⟨Hh0, H0⟩
  icases H1 with ⟨Hh1, H1⟩
  ihave Hh := (held_both V ℓ d c (stays k) k).1 $$ [Hh0 Hh1]
  · isplitl [Hh0] <;> iassumption
  iapply (wp_load_owns 𝒱₀ (c : Thread nD τ) none Set.univ (m := B₀.X d) (fun _ => rfl)) $$ Hh
  iintro Hh
  iapply (wp_load_owns 𝒱₀ (c : Thread nD τ) none Set.univ (m := B₀.wi) (fun _ => rfl)) $$ Hi
  iintro Hi
  iapply (wp_load_owns 𝒱₀ (c : Thread nD τ) none Set.univ (m := B₀.wo) (fun _ => rfl)) $$ Ho
  iintro Ho
  iapply ends_pure
  ihave Hh := (held_both V ℓ d c (stays k) k).2 $$ Hh
  icases Hh with ⟨Hh0, Hh1⟩
  isplitr; · ipureintro; rfl
  isplitl [H0 Hh0]; · iapply H0; iexact Hh0
  isplitl [H1 Hh1]; · iapply H1; iexact Hh1
  isplitl [Hi] <;> iassumption

/-- The device's own part of the sum, once it is there. -/
def own (k : ℕ) : sProp 𝕄 :=
  if k = 0 then any (c : Thread nD τ) ((B₀.P d).slice pRect (fun _ => rfl))
  else owns (c : Thread nD τ) ((B₀.P d).slice pRect (fun _ => rfl)) fullShare (prod V ℓ d c c : Vec F S128x256 .f32)

theorem keep_own (k : ℕ) (hk : k ≠ 0) : own V ℓ d c 0 ⊢ Ends c (keep B₀ d (prod V ℓ d c c)) fun _ => own V ℓ d c k := by
  unfold keep own
  rw [if_pos rfl, if_neg hk]
  simp only [Prog.lift, Prog.bind_op, Prog.bind_ret]
  unfold any
  iintro ⟨%X, H⟩
  iapply (wp_load_owns 𝒱₀ (c : Thread nD τ) none Set.univ (m := B₀.P d) (fun _ => rfl)) $$ H
  iintro H
  iapply (wp_store_owns 𝒱₀ (c : Thread nD τ) none Set.univ (m := B₀.P d) (fun _ => rfl)) $$ H
  iintro H
  iapply ends_pure
  rw [shapeCast_self]
  iexact H

/-! ## One hop -/

/-- For each direction and each half. -/
def quad (Φ : Bool → Fin 2 → sProp 𝕄) : sProp 𝕄 := iprop(Φ true 0 ∗ Φ true 1 ∗ Φ false 0 ∗ Φ false 1)

omit [FloatOps F] in
theorem quad_mono {Φ Ψ : Bool → Fin 2 → sProp 𝕄} (h : ∀ d s, Φ d s ⊢ Ψ d s) : quad Φ ⊢ quad Ψ :=
  BIClass.sep_mono (h _ _) (BIClass.sep_mono (h _ _) (BIClass.sep_mono (h _ _) (h _ _)))
omit [FloatOps F] in
theorem quad_sep (Φ Ψ : Bool → Fin 2 → sProp 𝕄) : quad (fun d s => iprop(Φ d s ∗ Ψ d s)) ⊣⊢ iprop(quad Φ ∗ quad Ψ) := by
  unfold quad
  constructor
  · iintro ⟨⟨A, B⟩, ⟨C, D⟩, ⟨E, G⟩, H, I⟩
    isplitl [A C E H]
    · isplitl [A]; · iexact A
      isplitl [C]; · iexact C
      isplitl [E] <;> iassumption
    · isplitl [B]; · iexact B
      isplitl [D]; · iexact D
      isplitl [G] <;> iassumption
  · iintro ⟨⟨A, C, E, H⟩, B, D, G, I⟩
    isplitl [A B]; · isplitl [A] <;> iassumption
    isplitl [C D]; · isplitl [C] <;> iassumption
    isplitl [E G]; · isplitl [E] <;> iassumption
    isplitl [H] <;> iassumption

/-- Everything owed in a layer from hop `k` on. -/
def duesAt (k : ℕ) : CellTallies nD τ sig ℕ :=
  dues false true 0 c ℓ k + dues false true 1 c ℓ k + dues false false 0 c ℓ k + dues false false 1 c ℓ k
    + (dues true true 0 c ℓ (k - 1) + dues true true 1 c ℓ (k - 1) + dues true false 0 c ℓ (k - 1) + dues true false 1 c ℓ (k - 1))

/-- A layer before hop `k`. -/
def ringSt (k : ℕ) : sProp 𝕄 :=
  iprop(quad (fun d s => agSt V ℓ d s c k) ∗ quad (fun d s => rsSt V ℓ d s c (k - 1)) ∗ own V ℓ true c k ∗ own V ℓ false c k ∗ mats V ℓ c)

omit [FloatOps F] in
theorem owes_eq {O O' : CellTallies nD τ sig ℕ} (h : O = O') : (Owes c O : sProp 𝕄) ⊢ Owes c O' := Entails.of_eq (by rw [h])

theorem hop_step (k : Fin 16) (hℓ : ℓ < 3) {O : CellTallies nD τ sig ℕ} (hO : Above (64 * ℓ + 32) O) :
    iprop(inv V K ∗ reached ER (bar c) (ℓ + 1) ∗ ringSt V ℓ c k.val ∗ Owes c (O + duesAt ℓ c k.val))
      ⊢ Ends c (hop B₀ c k) fun _ => iprop(ringSt V ℓ c (k.val + 1) ∗ Owes c (O + duesAt ℓ c (k.val + 1))) := by
  have hk := k.isLt
  have hO' : Above (64 * ℓ + 2 * k.val) O := above_mono (by omega) hO
  have ha : ∀ (d : Bool) (s : Fin 2) (j : ℕ), k.val ≤ j → Above (64 * ℓ + 2 * k.val) (dues false d s c ℓ j) := fun d s j hj =>
    above_dues false d s c ℓ j _ hℓ (by simp only [Bool.false_eq_true, if_false]; omega)
  have hb : ∀ (d : Bool) (s : Fin 2) (j : ℕ), k.val - 1 ≤ j → Above (64 * ℓ + 2 * k.val) (dues true d s c ℓ j) := fun d s j hj =>
    above_dues true d s c ℓ j _ hℓ (by simp only [if_true]; omega)
  unfold hop ringSt quad duesAt
  iintro ⟨#HI, #Hb, ⟨⟨A1, A2, A3, A4⟩, ⟨R1, R2, R3, R4⟩, P1, P2, Hm⟩, Ho⟩
  generalize hB : dues true true 0 c ℓ (k.val - 1) + dues true true 1 c ℓ (k.val - 1) + dues true false 0 c ℓ (k.val - 1) + dues true false 1 c ℓ (k.val - 1) = B
  have hBa : Above (64 * ℓ + 2 * k.val) B := by
    rw [← hB]; exact above_add (above_add (above_add (hb _ _ _ le_rfl) (hb _ _ _ le_rfl)) (hb _ _ _ le_rfl)) (hb _ _ _ le_rfl)
  -- the four halves of blocks
  ihave Ho := (owes_eq c (show _ = (O + B + dues false true 1 c ℓ k.val + dues false false 0 c ℓ k.val + dues false false 1 c ℓ k.val) + dues false true 0 c ℓ k.val by ac_rfl)) $$ Ho
  iapply (run (block_step V K ℓ true 0 c k hℓ (above_add (above_add (above_add (above_add hO' hBa) (ha _ _ _ le_rfl)) (ha _ _ _ le_rfl)) (ha _ _ _ le_rfl)))) $$ [A1 Ho]
  · isplitr; · iexact HI
    isplitr; · iexact Hb
    isplitl [A1] <;> iassumption
  iintro %_ ⟨A1, Ho⟩
  ihave Ho := (owes_eq c (show _ = (O + B + dues false true 0 c ℓ (k.val + 1) + dues false false 0 c ℓ k.val + dues false false 1 c ℓ k.val) + dues false true 1 c ℓ k.val by ac_rfl)) $$ Ho
  iapply (run (block_step V K ℓ true 1 c k hℓ (above_add (above_add (above_add (above_add hO' hBa) (ha _ _ _ (Nat.le_succ _))) (ha _ _ _ le_rfl)) (ha _ _ _ le_rfl)))) $$ [A2 Ho]
  · isplitr; · iexact HI
    isplitr; · iexact Hb
    isplitl [A2] <;> iassumption
  iintro %_ ⟨A2, Ho⟩
  ihave Ho := (owes_eq c (show _ = (O + B + dues false true 0 c ℓ (k.val + 1) + dues false true 1 c ℓ (k.val + 1) + dues false false 1 c ℓ k.val) + dues false false 0 c ℓ k.val by ac_rfl)) $$ Ho
  iapply (run (block_step V K ℓ false 0 c k hℓ (above_add (above_add (above_add (above_add hO' hBa) (ha _ _ _ (Nat.le_succ _))) (ha _ _ _ (Nat.le_succ _))) (ha _ _ _ le_rfl)))) $$ [A3 Ho]
  · isplitr; · iexact HI
    isplitr; · iexact Hb
    isplitl [A3] <;> iassumption
  iintro %_ ⟨A3, Ho⟩
  ihave Ho := (owes_eq c (show _ = (O + B + dues false true 0 c ℓ (k.val + 1) + dues false true 1 c ℓ (k.val + 1) + dues false false 0 c ℓ (k.val + 1)) + dues false false 1 c ℓ k.val by ac_rfl)) $$ Ho
  iapply (run (block_step V K ℓ false 1 c k hℓ (above_add (above_add (above_add (above_add hO' hBa) (ha _ _ _ (Nat.le_succ _))) (ha _ _ _ (Nat.le_succ _))) (ha _ _ _ (Nat.le_succ _))))) $$ [A4 Ho]
  · isplitr; · iexact HI
    isplitr; · iexact Hb
    isplitl [A4] <;> iassumption
  iintro %_ ⟨A4, Ho⟩
  generalize hA : dues false true 0 c ℓ (k.val + 1) + dues false true 1 c ℓ (k.val + 1) + dues false false 0 c ℓ (k.val + 1) + dues false false 1 c ℓ (k.val + 1) = A
  have hAa : Above (64 * ℓ + 2 * k.val) A := by
    rw [← hA]; exact above_add (above_add (above_add (ha _ _ _ (Nat.le_succ _)) (ha _ _ _ (Nat.le_succ _))) (ha _ _ _ (Nat.le_succ _))) (ha _ _ _ (Nat.le_succ _))
  ihave Ho := (owes_eq c (show _ = O + A + B by rw [← hA]; ac_rfl)) $$ Ho
  -- the two products
  iapply (run (use_block V ℓ true c k)) $$ [A1 A2 Hm]
  · isplitl [A1]; · iexact A1
    isplitl [A2] <;> iassumption
  iintro %p ⟨%hp, A1, A2, Hm⟩
  subst hp
  iapply (run (use_block V ℓ false c k)) $$ [A3 A4 Hm]
  · isplitl [A3]; · iexact A3
    isplitl [A4] <;> iassumption
  iintro %q ⟨%hq, A3, A4, Hm⟩
  subst hq
  rw [Nat.add_sub_cancel]
  by_cases h : 0 < k.val
  · rw [dif_pos h]
    have ht : k.val - 1 < 15 := by omega
    have e : k.val = (⟨k.val - 1, ht⟩ : Fin 15).val + 1 := by show k.val = k.val - 1 + 1; omega
    have hle : 64 * ℓ + 2 * (⟨k.val - 1, ht⟩ : Fin 15).val + 1 ≤ 64 * ℓ + 2 * k.val := by show 64 * ℓ + 2 * (k.val - 1) + 1 ≤ _; omega
    have hs : ∀ (d : Bool) (s : Fin 2) {O' : CellTallies nD τ sig ℕ} (hO' : Above (64 * ℓ + 2 * k.val) O'),
        iprop(inv V K ∗ rsSt V ℓ d s c (k.val - 1) ∗ Owes c (O' + dues true d s c ℓ (k.val - 1)))
          ⊢ Ends c (sumStep B₀ d c ⟨k.val - 1, ht⟩ (prod V ℓ d c (org d c k.val)) s) fun _ => iprop(rsSt V ℓ d s c k.val ∗ Owes c (O' + dues true d s c ℓ k.val)) := by
      intro d s O' hO'
      have := sum_step V K ℓ d s c ⟨k.val - 1, ht⟩ hℓ (above_mono hle hO')
      rw [← e] at this
      exact this
    ihave Ho := (owes_eq c (show _ = (O + A + dues true true 1 c ℓ (k.val - 1) + dues true false 0 c ℓ (k.val - 1) + dues true false 1 c ℓ (k.val - 1)) + dues true true 0 c ℓ (k.val - 1) by rw [← hB]; ac_rfl)) $$ Ho
    iapply (run (hs true 0 (above_add (above_add (above_add (above_add hO' hAa) (hb _ _ _ le_rfl)) (hb _ _ _ le_rfl)) (hb _ _ _ le_rfl)))) $$ [R1 Ho]
    · isplitr; · iexact HI
      isplitl [R1] <;> iassumption
    iintro %_ ⟨R1, Ho⟩
    ihave Ho := (owes_eq c (show _ = (O + A + dues true true 0 c ℓ k.val + dues true false 0 c ℓ (k.val - 1) + dues true false 1 c ℓ (k.val - 1)) + dues true true 1 c ℓ (k.val - 1) by ac_rfl)) $$ Ho
    iapply (run (hs true 1 (above_add (above_add (above_add (above_add hO' hAa) (hb _ _ _ (Nat.sub_le _ _))) (hb _ _ _ le_rfl)) (hb _ _ _ le_rfl)))) $$ [R2 Ho]
    · isplitr; · iexact HI
      isplitl [R2] <;> iassumption
    iintro %_ ⟨R2, Ho⟩
    ihave Ho := (owes_eq c (show _ = (O + A + dues true true 0 c ℓ k.val + dues true true 1 c ℓ k.val + dues true false 1 c ℓ (k.val - 1)) + dues true false 0 c ℓ (k.val - 1) by ac_rfl)) $$ Ho
    iapply (run (hs false 0 (above_add (above_add (above_add (above_add hO' hAa) (hb _ _ _ (Nat.sub_le _ _))) (hb _ _ _ (Nat.sub_le _ _))) (hb _ _ _ le_rfl)))) $$ [R3 Ho]
    · isplitr; · iexact HI
      isplitl [R3] <;> iassumption
    iintro %_ ⟨R3, Ho⟩
    ihave Ho := (owes_eq c (show _ = (O + A + dues true true 0 c ℓ k.val + dues true true 1 c ℓ k.val + dues true false 0 c ℓ k.val) + dues true false 1 c ℓ (k.val - 1) by ac_rfl)) $$ Ho
    iapply (run_last (hs false 1 (above_add (above_add (above_add (above_add hO' hAa) (hb _ _ _ (Nat.sub_le _ _))) (hb _ _ _ (Nat.sub_le _ _))) (hb _ _ _ (Nat.sub_le _ _))))) $$ [R4 Ho]
    · isplitr; · iexact HI
      isplitl [R4] <;> iassumption
    iintro %_ ⟨R4, Ho⟩
    have hown : ∀ d, own V ℓ d c k.val = own V ℓ d c (k.val + 1) := fun d => by
      unfold own; rw [if_neg (by omega), if_neg (by omega)]
    rw [← hown true, ← hown false]
    isplitr [Ho]
    · isplitl [A1 A2 A3 A4]
      · isplitl [A1]; · iexact A1
        isplitl [A2]; · iexact A2
        isplitl [A3] <;> iassumption
      isplitl [R1 R2 R3 R4]
      · isplitl [R1]; · iexact R1
        isplitl [R2]; · iexact R2
        isplitl [R3] <;> iassumption
      isplitl [P1]; · iexact P1
      isplitl [P2] <;> iassumption
    iapply (owes_eq c (show (O + A + dues true true 0 c ℓ k.val + dues true true 1 c ℓ k.val + dues true false 0 c ℓ k.val) + dues true false 1 c ℓ k.val
      = O + (A + (dues true true 0 c ℓ k.val + dues true true 1 c ℓ k.val + dues true false 0 c ℓ k.val + dues true false 1 c ℓ k.val)) by ac_rfl))
    iexact Ho
  · obtain rfl : k = 0 := Fin.ext (by show k.val = 0; omega)
    rw [dif_neg h]
    iapply (run (show own V ℓ true c (0 : Fin 16).val ⊢ _ from keep_own V ℓ true c ((0 : Fin 16).val + 1) (Nat.succ_ne_zero _))) $$ P1
    iintro %_ P1
    iapply (run_last (show own V ℓ false c (0 : Fin 16).val ⊢ _ from keep_own V ℓ false c ((0 : Fin 16).val + 1) (Nat.succ_ne_zero _))) $$ P2
    iintro %_ P2
    isplitr [Ho]
    · isplitl [A1 A2 A3 A4]
      · isplitl [A1]; · iexact A1
        isplitl [A2]; · iexact A2
        isplitl [A3] <;> iassumption
      isplitl [R1 R2 R3 R4]
      · isplitl [R1]; · iexact R1
        isplitl [R2]; · iexact R2
        isplitl [R3]; · iexact R3
        iexact R4
      isplitl [P1]; · iexact P1
      isplitl [P2] <;> iassumption
    iapply (owes_eq c (show O + A + B = _ by rw [← hB, add_assoc]; rfl))
    iexact Ho

end Cert.KernelIdeal.Ring
-- ==== Proof.KernelIdeal.Around.lean ====
module

public import proofs.«01_k».proof.Proof.KernelIdeal.Layer

/-!
All of a layer after its barrier: the sixteen hops, the last partial sums, the finished sums, and the waits for everything
that was sent.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

variable (V : Vals F) (K : Dev nD × Option Key → ℕ) (ℓ : ℕ) (d : Bool) (s : Fin 2) (c : Dev nD)

/-! ## The finished sums -/

theorem half_sub (w : FVec F S128x256 .f32) : half s w = sub s (unflat w) := by
  match s with
  | 0 => exact (sub_unflat 0 w ![0, 0] rfl slices_S128x256_o0_0_S64x256).symm
  | 1 => exact (sub_unflat 1 w ![64, 0] rfl slices_S128x256_o64_0_S64x256).symm

theorem last_unflat (p w : FVec F S128x256 .f32) : last p (unflat w : Vec F S1x2x64x256 .f32) = addf p w := by
  unfold last unflat
  rw [shapeCast_shapeCast, shapeCast_shapeCast]

theorem sums_both (a : Memref sig .tc .vmem S15x2x64x256 .f32) (w : FVec F S128x256 .f32) :
    iprop(sumAt a c 14 0 w ∗ sumAt a c 14 1 w)
      ⊣⊢ (owns (c : Thread nD τ) (a.slice (Rect.unit (s := S15x2x64x256) ![14, 0, 0, 0] S1x2x64x256.size inb_last) (fun _ => rfl)) fullShare
          (unflat w : Vec F S1x2x64x256 .f32) : sProp 𝕄) := by
  unfold sumAt
  rw [half_sub 0 w, half_sub 1 w]
  exact ⟨(owns_both (c : Thread nD τ) a fullShare 14 (unflat w : Vec F S1x2x64x256 .f32)).2, (owns_both (c : Thread nD τ) a fullShare 14 (unflat w : Vec F S1x2x64x256 .f32)).1⟩

theorem total_run : iprop(own V ℓ d c 16 ∗ rsGot V ℓ d 0 c 14 ∗ rsGot V ℓ d 1 c 14)
    ⊢ Ends c (total B₀ d) fun p => iprop(⌜p = fin V ℓ d c⌝ ∗ own V ℓ d c 16 ∗ rsGot V ℓ d 0 c 14 ∗ rsGot V ℓ d 1 c 14) := by
  unfold total own rsGot
  rw [if_neg (by decide)]
  simp only [Prog.lift, Prog.bind_op, Prog.bind_ret]
  iintro ⟨HP, ⟨Hw0, H0⟩, ⟨Hw1, H1⟩⟩
  iapply (wp_load_owns 𝒱₀ (c : Thread nD τ) none Set.univ (m := B₀.P d) (fun _ => rfl)) $$ HP
  iintro HP
  ihave H := (sums_both c (B₀.R d) _).1 $$ [H0 H1]
  · isplitl [H0] <;> iassumption
  iapply (wp_load_owns 𝒱₀ (c : Thread nD τ) none Set.univ (m := B₀.R d) (fun _ => rfl)) $$ H
  iintro H
  iapply ends_pure
  ihave H := (sums_both c (B₀.R d) _).2 $$ H
  icases H with ⟨H0, H1⟩
  isplitr; · ipureintro; exact last_unflat _ _
  isplitl [HP]; · iexact HP
  isplitl [Hw0 H0]; · isplitl [Hw0] <;> iassumption
  isplitl [Hw1] <;> iassumption

/-! ## Everything sent -/

def agBack (i : Fin 15) : sProp 𝕄 := iprop(waited ℓ d s c false false i ∗ room d c s i.castSucc)
def rsBack (i : Fin 15) : sProp 𝕄 := iprop(waited ℓ d s c true false i ∗ spare (B₀.S d) c i s)

theorem held_room (k : Fin 16) : held V ℓ fullShare d c s k ⊢ room d c s k := any_intro _ _ _

theorem block_sent (k : Fin 15) (hℓ : ℓ < 3) {O : CellTallies nD τ sig ℕ} {n : ℕ} (hO : Above n O) :
    iprop(inv V K ∗ prog (agSent V ℓ d s c) (agBack ℓ d s c) k.val ∗ Owes c O)
      ⊢ Ends c (waitBlockSent B₀ d c k s) fun _ => iprop(prog (agSent V ℓ d s c) (agBack ℓ d s c) (k.val + 1) ∗ Owes c O) := by
  unfold waitBlockSent
  iintro ⟨#HI, Hs, Ho⟩
  ihave Hs := (prog_step _ _ k.val k.isLt) $$ Hs
  icases Hs with ⟨Ht, Hs⟩
  unfold agSent waits agBack waited
  icases Ht with ⟨⟨Hc, Ha⟩, Hh⟩
  iapply (run_last (wait_key V K (false, false, d, k, s) _ (wpE_waitDma2_eq 𝒱₀ (c : Thread nD τ) none Set.univ) (by rw [slot_eq]; exact amt_X d _ s) hℓ hO
    (by rw [lv_key]; exact Nat.zero_le _))) $$ [Hc Ha Ho]
  · isplitr; · iexact HI
    isplitl [Hc]; · iexact Hc
    isplitl [Ha] <;> iassumption
  iintro %_ ⟨Ho, Ha, Hr, Hp⟩
  ihave Hp := (Entails.of_eq (pay_sent V d c k s ℓ true)) $$ Hp
  isplitr [Ho]
  · iapply Hs
    isplitl [Ha Hr]; · isplitl [Ha] <;> iassumption
    iapply (held_room V ℓ d s c k.castSucc)
    unfold held
    iapply (owns_halves _ _ _ _).2
    isplitl [Hp] <;> iassumption
  iexact Ho

theorem sum_sent (t : Fin 15) (hℓ : ℓ < 3) {O : CellTallies nD τ sig ℕ} {n : ℕ} (hO : Above n O) :
    iprop(inv V K ∗ prog (waits ℓ d s c true false) (rsBack ℓ d s c) t.val ∗ Owes c O)
      ⊢ Ends c (waitSumSent B₀ d t s) fun _ => iprop(prog (waits ℓ d s c true false) (rsBack ℓ d s c) (t.val + 1) ∗ Owes c O) := by
  unfold waitSumSent
  iintro ⟨#HI, Hs, Ho⟩
  ihave Hs := (prog_step _ _ t.val t.isLt) $$ Hs
  icases Hs with ⟨Ht, Hs⟩
  unfold waits rsBack waited
  icases Ht with ⟨Hc, Ha⟩
  iapply (run_last (wait_key V K (true, false, d, t, s) _ (wpE_waitDma2_eq 𝒱₀ (c : Thread nD τ) none Set.univ) (amt_S d t s) hℓ hO
    (by rw [lv_key]; exact Nat.zero_le _))) $$ [Hc Ha Ho]
  · isplitr; · iexact HI
    isplitl [Hc]; · iexact Hc
    isplitl [Ha] <;> iassumption
  iintro %_ ⟨Ho, Ha, Hr, Hp⟩
  ihave Hp := (Entails.of_eq (pay_sumSent V d c t s ℓ true)) $$ Hp
  isplitr [Ho]
  · iapply Hs
    isplitl [Ha Hr]; · isplitl [Ha] <;> iassumption
    unfold spare sumAt
    iapply (any_intro _ _ _)
    iexact Hp
  iexact Ho

theorem sent_run (hℓ : ℓ < 3) {O : CellTallies nD τ sig ℕ} {n : ℕ} (hO : Above n O) :
    iprop(inv V K ∗ quad (fun d s => prog (agSent V ℓ d s c) (agBack ℓ d s c) 0) ∗ quad (fun d s => prog (waits ℓ d s c true false) (rsBack ℓ d s c) 0) ∗ Owes c O)
      ⊢ Ends c (sent B₀ c) fun _ => iprop(quad (fun d s => prog (agSent V ℓ d s c) (agBack ℓ d s c) 15)
          ∗ quad (fun d s => prog (waits ℓ d s c true false) (rsBack ℓ d s c) 15) ∗ Owes c O) := by
  have h1 := run_upto (F := F) (c := c) 15 (fun k => waitBlockSent B₀ true c k 0 >>= fun _ => waitBlockSent B₀ true c k 1 >>= fun _ =>
      waitBlockSent B₀ false c k 0 >>= fun _ => waitBlockSent B₀ false c k 1)
    (fun k => iprop(inv V K ∗ quad (fun d s => prog (agSent V ℓ d s c) (agBack ℓ d s c) k) ∗ Owes c O)) (fun k => by
      unfold quad
      iintro ⟨#HI, ⟨A1, A2, A3, A4⟩, Ho⟩
      iapply (run (block_sent V K ℓ true 0 c k hℓ hO)) $$ [A1 Ho]
      · isplitr; · iexact HI
        isplitl [A1] <;> iassumption
      iintro %_ ⟨A1, Ho⟩
      iapply (run (block_sent V K ℓ true 1 c k hℓ hO)) $$ [A2 Ho]
      · isplitr; · iexact HI
        isplitl [A2] <;> iassumption
      iintro %_ ⟨A2, Ho⟩
      iapply (run (block_sent V K ℓ false 0 c k hℓ hO)) $$ [A3 Ho]
      · isplitr; · iexact HI
        isplitl [A3] <;> iassumption
      iintro %_ ⟨A3, Ho⟩
      iapply (run_last (block_sent V K ℓ false 1 c k hℓ hO)) $$ [A4 Ho]
      · isplitr; · iexact HI
        isplitl [A4] <;> iassumption
      iintro %_ ⟨A4, Ho⟩
      isplitr; · iexact HI
      isplitr [Ho]
      · isplitl [A1]; · iexact A1
        isplitl [A2]; · iexact A2
        isplitl [A3] <;> iassumption
      iexact Ho)
  have h2 := run_upto (F := F) (c := c) 15 (fun k => waitSumSent B₀ true k 0 >>= fun _ => waitSumSent B₀ true k 1 >>= fun _ =>
      waitSumSent B₀ false k 0 >>= fun _ => waitSumSent B₀ false k 1)
    (fun k => iprop(inv V K ∗ quad (fun d s => prog (waits ℓ d s c true false) (rsBack ℓ d s c) k) ∗ Owes c O)) (fun k => by
      unfold quad
      iintro ⟨#HI, ⟨A1, A2, A3, A4⟩, Ho⟩
      iapply (run (sum_sent V K ℓ true 0 c k hℓ hO)) $$ [A1 Ho]
      · isplitr; · iexact HI
        isplitl [A1] <;> iassumption
      iintro %_ ⟨A1, Ho⟩
      iapply (run (sum_sent V K ℓ true 1 c k hℓ hO)) $$ [A2 Ho]
      · isplitr; · iexact HI
        isplitl [A2] <;> iassumption
      iintro %_ ⟨A2, Ho⟩
      iapply (run (sum_sent V K ℓ false 0 c k hℓ hO)) $$ [A3 Ho]
      · isplitr; · iexact HI
        isplitl [A3] <;> iassumption
      iintro %_ ⟨A3, Ho⟩
      iapply (run_last (sum_sent V K ℓ false 1 c k hℓ hO)) $$ [A4 Ho]
      · isplitr; · iexact HI
        isplitl [A4] <;> iassumption
      iintro %_ ⟨A4, Ho⟩
      isplitr; · iexact HI
      isplitr [Ho]
      · isplitl [A1]; · iexact A1
        isplitl [A2]; · iexact A2
        isplitl [A3] <;> iassumption
      iexact Ho)
  unfold sent
  iintro ⟨#HI, HA, HR, Ho⟩
  iapply (run h1) $$ [HA Ho]
  · isplitr; · iexact HI
    isplitl [HA] <;> iassumption
  iintro %_ ⟨-, HA, Ho⟩
  iapply (run_last h2) $$ [HR Ho]
  · isplitr; · iexact HI
    isplitl [HR] <;> iassumption
  iintro %_ ⟨-, HR, Ho⟩
  isplitl [HA]; · iexact HA
  isplitl [HR] <;> iassumption

/-! ## Around the ring -/

/-- What a layer leaves behind in one direction and one half. -/
def done : sProp 𝕄 :=
  iprop((bigSep Finset.univ fun i => agBack ℓ d s c i) ∗ (bigSep Finset.univ fun i => agGot ℓ d s c i) ∗ held V ℓ fullShare d c s 15
    ∗ (bigSep Finset.univ fun i => rsBack ℓ d s c i) ∗ bigSep Finset.univ fun i => rsGot V ℓ d s c i)

/-- The last partial sum of one direction and one half. -/
theorem last_sum (hℓ : ℓ < 3) {O : CellTallies nD τ sig ℕ} (hO : Above (64 * ℓ + 32) O) :
    iprop(inv V K ∗ prog (waits ℓ d s c true true) (rsGot V ℓ d s c) 14 ∗ Owes c O)
      ⊢ Ends c (waitSum B₀ d 14 s) fun _ => iprop(prog (waits ℓ d s c true true) (rsGot V ℓ d s c) 15 ∗ Owes c O) := by
  iintro ⟨#HI, Hr, Ho⟩
  ihave Hr := (prog_step _ _ 14 (by decide)) $$ Hr
  icases Hr with ⟨Hw, Hr⟩
  iapply (run_last (recv_sum V K ℓ d s c 14 hℓ hO (by show 64 * ℓ + 3 + 2 * 14 ≤ _; omega))) $$ [Hw Ho]
  · isplitr; · iexact HI
    isplitl [Hw]; · iexact Hw
    iexact Ho
  iintro %_ ⟨Ho, Hw⟩
  isplitr [Ho]; · iapply Hr; iexact Hw
  iexact Ho

theorem ring_run (hℓ : ℓ < 3) {O : CellTallies nD τ sig ℕ} (hO : Above (64 * ℓ + 32) O) :
    iprop(inv V K ∗ reached ER (bar c) (ℓ + 1) ∗ ringSt V ℓ c 0 ∗ Owes c (O + duesAt ℓ c 0))
      ⊢ Ends c (ring B₀ c) fun r => iprop(⌜r = (fin V ℓ true c, fin V ℓ false c)⌝ ∗ quad (fun d s => done V ℓ d s c)
          ∗ own V ℓ true c 16 ∗ own V ℓ false c 16 ∗ mats V ℓ c ∗ Owes c O) := by
  have h1 := run_upto (F := F) (c := c) 16 (hop B₀ c)
    (fun k => iprop((inv V K ∗ reached ER (bar c) (ℓ + 1)) ∗ ringSt V ℓ c k ∗ Owes c (O + duesAt ℓ c k))) (fun k => by
      iintro ⟨⟨#HI, #Hb⟩, Hst, Ho⟩
      iapply (run_last (hop_step V K ℓ c k hℓ hO)) $$ [Hst Ho]
      · isplitr; · iexact HI
        isplitr; · iexact Hb
        isplitl [Hst] <;> iassumption
      iintro %_ ⟨Hst, Ho⟩
      isplitr
      · isplitr; · iexact HI
        iexact Hb
      isplitl [Hst] <;> iassumption)
  have h0 : O + duesAt ℓ c 16 = O := by
    unfold duesAt
    simp only [dues_end _ _ _ _ _ _ (show 15 ≤ 16 by decide), dues_end _ _ _ _ _ _ (show 15 ≤ 16 - 1 by decide), add_zero]
  unfold ring
  iintro ⟨#HI, #Hb, Hst, Ho⟩
  iapply (run h1) $$ [Hst Ho]
  · isplitr
    · isplitr; · iexact HI
      iexact Hb
    isplitl [Hst] <;> iassumption
  iintro %_ ⟨-, Hst, Ho⟩
  ihave Ho := (owes_eq c h0) $$ Ho
  unfold ringSt agSt rsSt
  icases Hst with ⟨HA, HR, P1, P2, Hm⟩
  ihave HR := (quad_sep _ _).1 $$ HR
  icases HR with ⟨HW, HR⟩
  unfold quad
  icases HR with ⟨R1, R2, R3, R4⟩
  iapply (run (last_sum V K ℓ true 0 c hℓ hO)) $$ [R1 Ho]
  · isplitr; · iexact HI
    isplitl [R1] <;> iassumption
  iintro %_ ⟨R1, Ho⟩
  iapply (run (last_sum V K ℓ true 1 c hℓ hO)) $$ [R2 Ho]
  · isplitr; · iexact HI
    isplitl [R2] <;> iassumption
  iintro %_ ⟨R2, Ho⟩
  iapply (run (last_sum V K ℓ false 0 c hℓ hO)) $$ [R3 Ho]
  · isplitr; · iexact HI
    isplitl [R3] <;> iassumption
  iintro %_ ⟨R3, Ho⟩
  iapply (run (last_sum V K ℓ false 1 c hℓ hO)) $$ [R4 Ho]
  · isplitr; · iexact HI
    isplitl [R4] <;> iassumption
  iintro %_ ⟨R4, Ho⟩
  ihave R1 := (prog_get _ _ 15 (14 : Fin 15) (by decide)) $$ R1
  icases R1 with ⟨G1, R1⟩
  ihave R2 := (prog_get _ _ 15 (14 : Fin 15) (by decide)) $$ R2
  icases R2 with ⟨G2, R2⟩
  iapply (run (total_run V ℓ true c)) $$ [P1 G1 G2]
  · isplitl [P1]; · iexact P1
    isplitl [G1] <;> iassumption
  iintro %p ⟨%hp, P1, G1, G2⟩
  ihave R1 := R1 $$ G1
  ihave R2 := R2 $$ G2
  ihave R3 := (prog_get _ _ 15 (14 : Fin 15) (by decide)) $$ R3
  icases R3 with ⟨G3, R3⟩
  ihave R4 := (prog_get _ _ 15 (14 : Fin 15) (by decide)) $$ R4
  icases R4 with ⟨G4, R4⟩
  iapply (run (total_run V ℓ false c)) $$ [P2 G3 G4]
  · isplitl [P2]; · iexact P2
    isplitl [G3] <;> iassumption
  iintro %q ⟨%hq, P2, G3, G4⟩
  ihave R3 := R3 $$ G3
  ihave R4 := R4 $$ G4
  icases HA with ⟨⟨A1, B1, C1⟩, ⟨A2, B2, C2⟩, ⟨A3, B3, C3⟩, ⟨A4, B4, C4⟩⟩
  icases HW with ⟨W1, W2, W3, W4⟩
  have ha : ∀ d s, prog (agTodo ℓ d s c) (agSent V ℓ d s c) 16 = prog (agSent V ℓ d s c) (agBack ℓ d s c) 0 := fun d s =>
    (prog_end _ _ (by decide)).trans (prog_zero _ _).symm
  have hw : ∀ d s, (prog (rsTodo ℓ d s c) (waits ℓ d s c true false) (16 - 1) : sProp 𝕄) = prog (waits ℓ d s c true false) (rsBack ℓ d s c) 0 := fun d s =>
    (prog_end _ _ (by decide)).trans (prog_zero _ _).symm
  ihave A1 := (Entails.of_eq (ha true 0)) $$ A1
  ihave A2 := (Entails.of_eq (ha true 1)) $$ A2
  ihave A3 := (Entails.of_eq (ha false 0)) $$ A3
  ihave A4 := (Entails.of_eq (ha false 1)) $$ A4
  ihave W1 := (Entails.of_eq (hw true 0)) $$ W1
  ihave W2 := (Entails.of_eq (hw true 1)) $$ W2
  ihave W3 := (Entails.of_eq (hw false 0)) $$ W3
  ihave W4 := (Entails.of_eq (hw false 1)) $$ W4
  iapply (run (sent_run V K ℓ c hℓ hO)) $$ [A1 A2 A3 A4 W1 W2 W3 W4 Ho]
  · isplitr; · iexact HI
    unfold quad
    isplitl [A1 A2 A3 A4]
    · isplitl [A1]; · iexact A1
      isplitl [A2]; · iexact A2
      isplitl [A3] <;> iassumption
    isplitl [W1 W2 W3 W4]
    · isplitl [W1]; · iexact W1
      isplitl [W2]; · iexact W2
      isplitl [W3] <;> iassumption
    iexact Ho
  iintro %_ ⟨HA, HW, Ho⟩
  unfold quad
  icases HA with ⟨A1, A2, A3, A4⟩
  icases HW with ⟨W1, W2, W3, W4⟩
  iapply ends_pure
  isplitr; · ipureintro; rw [hp, hq]
  have key : ∀ d s, iprop(prog (agSent V ℓ d s c) (agBack ℓ d s c) 15 ∗ prog (waits ℓ d s c false true) (agGot ℓ d s c) (16 - 1)
      ∗ (if 16 = 0 then held V ℓ fullShare d c s 0 else if 16 = 16 then held V ℓ fullShare d c s 15 else iprop(emp))
      ∗ prog (waits ℓ d s c true false) (rsBack ℓ d s c) 15 ∗ prog (waits ℓ d s c true true) (rsGot V ℓ d s c) 15) ⊢ done V ℓ d s c := fun d s => by
    unfold done
    rw [prog_end _ _ (Nat.le_refl 15), prog_end _ _ (show 15 ≤ 16 - 1 by decide), prog_end _ _ (Nat.le_refl 15), prog_end _ _ (Nat.le_refl 15), if_neg (by decide), if_pos rfl]
  isplitl [A1 A2 A3 A4 B1 B2 B3 B4 C1 C2 C3 C4 W1 W2 W3 W4 R1 R2 R3 R4]
  · isplitl [A1 B1 C1 W1 R1]
    · iapply (key true 0)
      isplitl [A1]; · iexact A1
      isplitl [B1]; · iexact B1
      isplitl [C1]; · iexact C1
      isplitl [W1] <;> iassumption
    isplitl [A2 B2 C2 W2 R2]
    · iapply (key true 1)
      isplitl [A2]; · iexact A2
      isplitl [B2]; · iexact B2
      isplitl [C2]; · iexact C2
      isplitl [W2] <;> iassumption
    isplitl [A3 B3 C3 W3 R3]
    · iapply (key false 0)
      isplitl [A3]; · iexact A3
      isplitl [B3]; · iexact B3
      isplitl [C3]; · iexact C3
      isplitl [W3] <;> iassumption
    iapply (key false 1)
    isplitl [A4]; · iexact A4
    isplitl [B4]; · iexact B4
    isplitl [C4]; · iexact C4
    isplitl [W4] <;> iassumption
  isplitl [P1]; · iexact P1
  isplitl [P2]; · iexact P2
  isplitl [Hm] <;> iassumption

end Cert.KernelIdeal.Ring
-- ==== Proof.KernelIdeal.Round.lean ====
module

public import proofs.«01_k».proof.Proof.KernelIdeal.Around

/-!
The body: the device's block is fetched, three layers follow one another, and the result is stored. Between two layers a
device holds its block and idle places, and its semaphores stand at the next layer's round.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

variable (V : Vals F) (K : Dev nD × Option Key → ℕ) (ℓ : ℕ) (d : Bool) (s : Fin 2) (c : Dev nD)

omit [FloatOps F] in
/-- Two families side by side, as one. -/
theorem together (Φ Ψ : Fin 15 → sProp 𝕄) :
    (iprop((bigSep Finset.univ fun i => Φ i) ∗ bigSep Finset.univ fun i => Ψ i) : sProp 𝕄) = bigSep Finset.univ fun i => iprop(Φ i ∗ Ψ i) :=
  (bigSep_sep _ _ _).symm

/-! ## Between two layers -/

/-- A semaphore's place in its rounds. -/
def seat (m r : Bool) (i : Fin 15) : sProp 𝕄 :=
  iprop(atPos ER (kcell (c, some (m, r, d, i, s))) ℓ ∅ 0 ∗ reached ER (kcell (c, some (m, r, d, i, s))) ℓ)

/-- What is idle between two layers, for one hop. -/
def idle (i : Fin 15) : sProp 𝕄 :=
  iprop(room d c s i.succ ∗ spare (B₀.R d) c i s ∗ spare (B₀.S d) c i s
    ∗ seat ℓ d s c false false i ∗ seat ℓ d s c false true i ∗ seat ℓ d s c true false i ∗ seat ℓ d s c true true i)

/-- What a layer uses up, for one hop: the duties of its transfers and the credit for its waits. -/
def stock (i : Fin 15) : sProp 𝕄 :=
  iprop(dutyTok ER (kcell (c, some (false, false, d, i, s))) ℓ true ∗ dutyTok ER (kcell (nbr d c, some (false, true, d, i, s))) ℓ true
    ∗ cred (tallyAt (kcell (c, some (false, true, d, i, s))) ℓ (amt false d))
    ∗ dutyTok ER (kcell (c, some (true, false, d, i, s))) ℓ true ∗ dutyTok ER (kcell (nbr d c, some (true, true, d, i, s))) ℓ true
    ∗ cred (tallyAt (kcell (c, some (true, true, d, i, s))) ℓ (amt true d)))

/-- What stays with the device once its places are handed to the neighbour. -/
def opened (i : Fin 15) : sProp 𝕄 :=
  iprop(spare (B₀.S d) c i s ∗ seat ℓ d s c false false i ∗ atPos ER (kcell (c, some (false, true, d, i, s))) ℓ ∅ 0
    ∗ seat ℓ d s c true false i ∗ atPos ER (kcell (c, some (true, true, d, i, s))) ℓ ∅ 0 ∗ stock ℓ d s c i)

omit [FloatOps F] in
theorem open_one (i : Fin 15) : (iprop(idle ℓ d s c i ∗ stock ℓ d s c i) : sProp 𝕄) ⊢ iprop(leave ℓ d c i s ∗ opened ℓ d s c i) := by
  unfold idle leave opened seat
  iintro ⟨⟨Hr, HR, HS, ⟨a1, r1⟩, ⟨a2, r2⟩, ⟨a3, r3⟩, ⟨a4, r4⟩⟩, Hst⟩
  isplitl [Hr HR r2 r4]
  · isplitl [Hr]; · iexact Hr
    isplitl [HR]; · iexact HR
    isplitl [r2] <;> iassumption
  isplitl [HS]; · iexact HS
  isplitl [a1 r1]; · isplitl [a1] <;> iassumption
  isplitl [a2]; · iexact a2
  isplitl [a3 r3]; · isplitl [a3] <;> iassumption
  isplitl [a4] <;> iassumption

omit [FloatOps F] in
theorem start_one (i : Fin 15) : (iprop(leave ℓ d (nbr d c) i s ∗ opened ℓ d s c i) : sProp 𝕄)
    ⊢ iprop((agTodo ℓ d s c i ∗ waits ℓ d s c false true i) ∗ rsTodo ℓ d s c i ∗ waits ℓ d s c true true i) := by
  unfold leave opened seat stock agTodo waits rsTodo fires
  iintro ⟨⟨Hr, HR, q2, q4⟩, HS, ⟨a1, r1⟩, a2, ⟨a3, r3⟩, a4, t1, t2, c2, t3, t4, c4⟩
  isplitl [Hr q2 a1 r1 a2 t1 t2 c2]
  · isplitr [a2 c2]
    · isplitl [Hr]; · iexact Hr
      isplitr [a1]
      · isplitl [t1]; · iexact t1
        isplitl [r1]; · iexact r1
        isplitl [t2] <;> iassumption
      iexact a1
    isplitl [c2] <;> iassumption
  isplitr [a4 c4]
  · isplitl [HR]; · iexact HR
    isplitl [HS]; · iexact HS
    isplitr [a3]
    · isplitl [t3]; · iexact t3
      isplitl [r3]; · iexact r3
      isplitl [t4] <;> iassumption
    iexact a3
  isplitl [c4] <;> iassumption

theorem close_one (i : Fin 15) : (iprop(agBack ℓ d s c i ∗ agGot ℓ d s c i ∗ rsBack ℓ d s c i ∗ rsGot V ℓ d s c i) : sProp 𝕄)
    ⊢ iprop(room d c s i.castSucc ∗ (spare (B₀.R d) c i s ∗ spare (B₀.S d) c i s
      ∗ seat (ℓ + 1) d s c false false i ∗ seat (ℓ + 1) d s c false true i ∗ seat (ℓ + 1) d s c true false i ∗ seat (ℓ + 1) d s c true true i)
      ∗ reached ER (bar (nbr (!d) c)) (ℓ + 1)) := by
  unfold agBack agGot rsBack rsGot sumAt waited seat
  iintro ⟨⟨w1, Hr⟩, ⟨w2, Hb⟩, ⟨w3, HS⟩, ⟨w4, HR⟩⟩
  isplitl [Hr]; · iexact Hr
  isplitr [Hb]
  · isplitl [HR]; · unfold spare; iapply (any_intro _ _ _); iexact HR
    isplitl [HS]; · iexact HS
    isplitl [w1]; · iexact w1
    isplitl [w2]; · iexact w2
    isplitl [w3]; · iexact w3
    iexact w4
  iexact Hb

/-- Handing the places out. -/
theorem open_all : iprop((bigSep Finset.univ fun i => idle ℓ d s c i) ∗ bigSep Finset.univ fun i => stock ℓ d s c i)
    ⊢ (iprop((bigSep Finset.univ fun i => leave ℓ d c i s) ∗ bigSep Finset.univ fun i => opened ℓ d s c i) : sProp 𝕄) := by
  rw [together, together]
  exact bigSep_mono fun i _ => open_one ℓ d s c i

/-- Starting a layer, once the neighbour's places are here. -/
theorem start_all : iprop((bigSep Finset.univ fun i => leave ℓ d (nbr d c) i s) ∗ (bigSep Finset.univ fun i => opened ℓ d s c i) ∗ held V ℓ fullShare d c s 0)
    ⊢ (iprop(agSt V ℓ d s c 0 ∗ rsSt V ℓ d s c 0) : sProp 𝕄) := by
  unfold agSt rsSt
  rw [prog_zero, prog_zero, prog_zero, if_pos rfl, prog_zero]
  have h : iprop((bigSep Finset.univ fun i => leave ℓ d (nbr d c) i s) ∗ (bigSep Finset.univ fun i => opened ℓ d s c i))
      ⊢ (iprop(((bigSep Finset.univ fun i => agTodo ℓ d s c i) ∗ bigSep Finset.univ fun i => waits ℓ d s c false true i)
        ∗ (bigSep Finset.univ fun i => rsTodo ℓ d s c i) ∗ bigSep Finset.univ fun i => waits ℓ d s c true true i) : sProp 𝕄) := by
    rw [together, together, together, together]
    exact bigSep_mono fun i _ => start_one ℓ d s c i
  iintro ⟨H1, H2, Hh⟩
  ihave H := h $$ [H1 H2]
  · isplitl [H1] <;> iassumption
  icases H with ⟨⟨A, B⟩, C, D⟩
  isplitl [A B Hh]
  · isplitl [A]; · iexact A
    isplitl [B]; · iexact B
    iexact Hh
  isplitl [C]; · iexact C
  iexact D

/-- Ending a layer: the places are idle again, the device's own among them. -/
theorem close_all : done V ℓ d s c
    ⊢ (iprop(room d c s 0 ∗ (bigSep Finset.univ fun i => idle (ℓ + 1) d s c i) ∗ reached ER (bar (nbr (!d) c)) (ℓ + 1)) : sProp 𝕄) := by
  unfold done
  have h : iprop((bigSep Finset.univ fun i => agBack ℓ d s c i) ∗ (bigSep Finset.univ fun i => agGot ℓ d s c i)
      ∗ (bigSep Finset.univ fun i => rsBack ℓ d s c i) ∗ bigSep Finset.univ fun i => rsGot V ℓ d s c i)
      ⊢ (iprop((bigSep Finset.univ fun i : Fin 15 => room d c s i.castSucc) ∗ (bigSep Finset.univ fun i => iprop(spare (B₀.R d) c i s ∗ spare (B₀.S d) c i s
      ∗ seat (ℓ + 1) d s c false false i ∗ seat (ℓ + 1) d s c false true i ∗ seat (ℓ + 1) d s c true false i ∗ seat (ℓ + 1) d s c true true i))
      ∗ bigSep Finset.univ fun _ : Fin 15 => reached ER (bar (nbr (!d) c)) (ℓ + 1)) : sProp 𝕄) := by
    rw [together, together, together, together, together]
    exact bigSep_mono fun i _ => close_one V ℓ d s c i
  have hr : (iprop(room d c s 15 ∗ bigSep Finset.univ fun i : Fin 15 => room d c s i.castSucc) : sProp 𝕄)
      ⊢ iprop(room d c s 0 ∗ bigSep Finset.univ fun i : Fin 15 => room d c s i.succ) :=
    Entails.of_eq ((bigSep_last (n := 15) fun k => room d c s k).symm.trans (bigSep_first (n := 15) fun k => room d c s k))
  have hi : (iprop((bigSep Finset.univ fun i : Fin 15 => room d c s i.succ) ∗ bigSep Finset.univ fun i => iprop(spare (B₀.R d) c i s ∗ spare (B₀.S d) c i s
      ∗ seat (ℓ + 1) d s c false false i ∗ seat (ℓ + 1) d s c false true i ∗ seat (ℓ + 1) d s c true false i ∗ seat (ℓ + 1) d s c true true i)) : sProp 𝕄)
      ⊢ bigSep Finset.univ fun i => idle (ℓ + 1) d s c i := by
    rw [together]
    exact .rfl
  iintro ⟨H1, H2, Hh, H3, H4⟩
  ihave H := h $$ [H1 H2 H3 H4]
  · isplitl [H1]; · iexact H1
    isplitl [H2]; · iexact H2
    isplitl [H3] <;> iassumption
  icases H with ⟨A, B, C⟩
  ihave A := hr $$ [A Hh]
  · isplitl [Hh]; · iapply (held_room V ℓ d s c 15); iexact Hh
    iexact A
  icases A with ⟨A0, A⟩
  isplitl [A0]; · iexact A0
  isplitl [A B]
  · iapply hi
    isplitl [A] <;> iassumption
  iapply (show (bigSep Finset.univ fun _ : Fin 15 => (reached ER (bar (nbr (!d) c)) (ℓ + 1) : sProp 𝕄)) ⊢ reached ER (bar (nbr (!d) c)) (ℓ + 1)
    from bigSep_elim (i := (0 : Fin 15)) (Finset.mem_univ _))
  iexact C

/-! ## Entering a layer -/

/-- Buffers for a layer's rounded matrices. -/
def matsAny : sProp 𝕄 :=
  iprop(any (c : Thread nD τ) (B₀.wi.slice wiRect (fun _ => rfl)) ∗ any (c : Thread nD τ) (B₀.wo.slice woRect (fun _ => rfl)))

theorem mats_any : mats V ℓ c ⊢ matsAny c := BIClass.sep_mono (any_intro _ _ _) (any_intro _ _ _)

variable (win : Memref sig .tc .vmem S256x512 .f32) (wout : Memref sig .tc .vmem S512x256 .f32)

/-- The two matrices of a layer, as they are. -/
def given (q : PosShare TreeShare) : sProp 𝕄 :=
  iprop(owns (c : Thread nD τ) win q (V.win ℓ c) ∗ owns (c : Thread nD τ) wout q (V.wout ℓ c))

theorem enter_run (hℓ : ℓ < 3) {q : PosShare TreeShare} {O : CellTallies nD τ sig ℕ} (hO : Above (64 * ℓ + 1) O) :
    iprop(inv V K ∗ given V ℓ c win wout q ∗ matsAny c ∗ pass ℓ true c ∗ pass ℓ false c
        ∗ (dutyTok ER (bar (nbr false c)) ℓ true ∗ reached ER (bar (nbr false c)) ℓ) ∗ (dutyTok ER (bar (nbr true c)) ℓ false ∗ reached ER (bar (nbr true c)) ℓ)
        ∗ cred (tallyAt (bar c) ℓ 2) ∗ atPos ER (bar c) ℓ ∅ 0 ∗ Owes c (O + tallyAt (bar (nbr true c)) ℓ 1 + tallyAt (bar (nbr false c)) ℓ 1))
      ⊢ Ends c (enter B₀ c win wout) fun _ => iprop(given V ℓ c win wout q ∗ mats V ℓ c ∗ pass ℓ true (nbr true c) ∗ pass ℓ false (nbr false c)
        ∗ atPos ER (bar c) (ℓ + 1) ∅ 0 ∗ reached ER (bar c) (ℓ + 1) ∗ Owes c O) := by
  unfold enter given matsAny mats any
  iintro ⟨#HI, ⟨Hwi, Hwo⟩, ⟨⟨%X, Hi⟩, ⟨%Y, Ho⟩⟩, Hp1, Hp2, ⟨t1, r1⟩, ⟨t2, r2⟩, Hc, Ha, HO⟩
  simp only [Prog.lift, Prog.bind_op, Prog.bind_ret]
  iapply (wp_load_part 𝒱₀ (c : Thread nD τ) none Set.univ (m := win)) $$ Hwi
  iintro Hwi
  iapply (wp_load_owns 𝒱₀ (c : Thread nD τ) none Set.univ (m := B₀.wi) (fun _ => rfl)) $$ Hi
  iintro Hi
  iapply (wp_store_owns 𝒱₀ (c : Thread nD τ) none Set.univ (m := B₀.wi) (fun _ => rfl)) $$ Hi
  iintro Hi
  iapply (wp_load_part 𝒱₀ (c : Thread nD τ) none Set.univ (m := wout)) $$ Hwo
  iintro Hwo
  iapply (wp_load_owns 𝒱₀ (c : Thread nD τ) none Set.univ (m := B₀.wo) (fun _ => rfl)) $$ Ho
  iintro Ho
  iapply (wp_store_owns 𝒱₀ (c : Thread nD τ) none Set.univ (m := B₀.wo) (fun _ => rfl)) $$ Ho
  iintro Ho
  iapply (run (signal_nbr V K true hℓ (O + tallyAt (bar (nbr true c)) ℓ 1))) $$ [Hp1 t1 r1 HO]
  · isplitr; · iexact HI
    isplitl [Hp1]; · iexact Hp1
    isplitl [t1]; · iexact t1
    isplitl [r1]; · iexact r1
    iexact HO
  iintro %_ HO
  iapply (run (signal_nbr V K false hℓ O)) $$ [Hp2 t2 r2 HO]
  · isplitr; · iexact HI
    isplitl [Hp2]; · iexact Hp2
    isplitl [t2]; · iexact t2
    isplitl [r2]; · iexact r2
    iexact HO
  iintro %_ HO
  iapply (run_last (wait_bar V K hℓ hO le_rfl)) $$ [Hc Ha HO]
  · isplitr; · iexact HI
    isplitl [Hc]; · iexact Hc
    isplitl [Ha] <;> iassumption
  iintro %_ ⟨HO, Ha, Hr, Hq1, Hq2⟩
  isplitl [Hwi Hwo]; · isplitl [Hwi] <;> iassumption
  isplitl [Hi Ho]
  · isplitl [Hi]; · iexact Hi
    iexact Ho
  isplitl [Hq1]; · iexact Hq1
  isplitl [Hq2]; · iexact Hq2
  isplitl [Ha]; · iexact Ha
  isplitl [Hr] <;> iassumption

/-! ## A layer -/

/-- What a device holds between two layers besides its block. -/
def between : sProp 𝕄 :=
  iprop(quad (fun d s => bigSep Finset.univ fun i => idle ℓ d s c i) ∗ atPos ER (bar c) ℓ ∅ 0 ∗ reached ER (bar (nbr true c)) ℓ ∗ reached ER (bar (nbr false c)) ℓ
    ∗ any (c : Thread nD τ) ((B₀.P true).slice pRect (fun _ => rfl)) ∗ any (c : Thread nD τ) ((B₀.P false).slice pRect (fun _ => rfl)) ∗ matsAny c)

/-- What a layer uses up. -/
def stocks : sProp 𝕄 :=
  iprop(quad (fun d s => bigSep Finset.univ fun i => stock ℓ d s c i) ∗ dutyTok ER (bar (nbr false c)) ℓ true ∗ dutyTok ER (bar (nbr true c)) ℓ false ∗ cred (tallyAt (bar c) ℓ 2))

/-- What a device owes to its neighbours in a layer. -/
def debt : CellTallies nD τ sig ℕ := duesAt ℓ c 0 + tallyAt (bar (nbr true c)) ℓ 1 + tallyAt (bar (nbr false c)) ℓ 1

theorem above_duesAt (hℓ : ℓ < 3) : Above (64 * ℓ + 1) (duesAt ℓ c 0) := by
  have ha : ∀ (m d : Bool) (s : Fin 2), Above (64 * ℓ + 1) (dues m d s c ℓ 0) := fun m d s => above_dues m d s c ℓ 0 _ hℓ (by omega)
  unfold duesAt
  exact above_add (above_add (above_add (above_add (ha _ _ _) (ha _ _ _)) (ha _ _ _)) (ha _ _ _))
    (above_add (above_add (above_add (ha _ _ _) (ha _ _ _)) (ha _ _ _)) (ha _ _ _))

theorem above_debt (hℓ : ℓ < 3) : Above (64 * ℓ) (debt ℓ c) :=
  above_add (above_add (above_mono (Nat.le_succ _) (above_duesAt ℓ c hℓ)) (above_tally _ _ _ hℓ (by rw [lv_bar]; omega))) (above_tally _ _ _ hℓ (by rw [lv_bar]; omega))

theorem own_end : own V ℓ d c 16 ⊢ any (c : Thread nD τ) ((B₀.P d).slice pRect (fun _ => rfl)) := by
  unfold own
  rw [if_neg (by decide)]
  exact any_intro _ _ _

theorem round_run (hℓ : ℓ < 3) {q : PosShare TreeShare} {O : CellTallies nD τ sig ℕ} (hO : Above (64 * ℓ + 32) O) :
    iprop(inv V K ∗ quad (fun d s => held V ℓ fullShare d c s 0) ∗ between ℓ c ∗ stocks ℓ c ∗ given V ℓ c win wout q ∗ Owes c (O + debt ℓ c))
      ⊢ Ends c (enter B₀ c win wout >>= fun _ => ring B₀ c) fun r => iprop(⌜r = (fin V ℓ true c, fin V ℓ false c)⌝ ∗ quad (fun d s => room d c s 0)
          ∗ between (ℓ + 1) c ∗ given V ℓ c win wout q ∗ Owes c O) := by
  unfold between stocks quad
  iintro ⟨#HI, ⟨Hh1, Hh2, Hh3, Hh4⟩, ⟨⟨I1, I2, I3, I4⟩, Ha, rT, rF, HP1, HP2, Hm⟩, ⟨⟨S1, S2, S3, S4⟩, tF, tT, Hc⟩, Hg, HO⟩
  ihave O1 := (open_all ℓ true 0 c) $$ [I1 S1]
  · isplitl [I1] <;> iassumption
  ihave O2 := (open_all ℓ true 1 c) $$ [I2 S2]
  · isplitl [I2] <;> iassumption
  ihave O3 := (open_all ℓ false 0 c) $$ [I3 S3]
  · isplitl [I3] <;> iassumption
  ihave O4 := (open_all ℓ false 1 c) $$ [I4 S4]
  · isplitl [I4] <;> iassumption
  icases O1 with ⟨L1, O1⟩
  icases O2 with ⟨L2, O2⟩
  icases O3 with ⟨L3, O3⟩
  icases O4 with ⟨L4, O4⟩
  ihave HO := (owes_eq c (show O + debt ℓ c = O + duesAt ℓ c 0 + tallyAt (bar (nbr true c)) ℓ 1 + tallyAt (bar (nbr false c)) ℓ 1 by unfold debt; ac_rfl)) $$ HO
  iapply (run (enter_run V K ℓ c win wout hℓ (q := q) (O := O + duesAt ℓ c 0) (above_add (above_mono (by omega) hO) (above_duesAt ℓ c hℓ))))
    $$ [Hg Hm L1 L2 L3 L4 tF rF tT rT Hc Ha HO]
  · isplitr; · iexact HI
    isplitl [Hg]; · iexact Hg
    isplitl [Hm]; · iexact Hm
    isplitl [L1 L2]; · unfold pass; isplitl [L1] <;> iassumption
    isplitl [L3 L4]; · unfold pass; isplitl [L3] <;> iassumption
    isplitl [tF rF]; · isplitl [tF] <;> iassumption
    isplitl [tT rT]; · isplitl [tT] <;> iassumption
    isplitl [Hc]; · iexact Hc
    isplitl [Ha] <;> iassumption
  iintro %_ ⟨Hg, Hm, Hp1, Hp2, Ha, #Hb, HO⟩
  unfold pass
  icases Hp1 with ⟨L1, L2⟩
  icases Hp2 with ⟨L3, L4⟩
  ihave A1 := (start_all V ℓ true 0 c) $$ [L1 O1 Hh1]
  · isplitl [L1]; · iexact L1
    isplitl [O1] <;> iassumption
  ihave A2 := (start_all V ℓ true 1 c) $$ [L2 O2 Hh2]
  · isplitl [L2]; · iexact L2
    isplitl [O2] <;> iassumption
  ihave A3 := (start_all V ℓ false 0 c) $$ [L3 O3 Hh3]
  · isplitl [L3]; · iexact L3
    isplitl [O3] <;> iassumption
  ihave A4 := (start_all V ℓ false 1 c) $$ [L4 O4 Hh4]
  · isplitl [L4]; · iexact L4
    isplitl [O4] <;> iassumption
  icases A1 with ⟨A1, R1⟩
  icases A2 with ⟨A2, R2⟩
  icases A3 with ⟨A3, R3⟩
  icases A4 with ⟨A4, R4⟩
  iapply (run_last (ring_run V K ℓ c hℓ hO)) $$ [A1 A2 A3 A4 R1 R2 R3 R4 HP1 HP2 Hm HO]
  · isplitr; · iexact HI
    isplitr; · iexact Hb
    isplitr [HO]
    · unfold ringSt quad own
      rw [if_pos rfl, if_pos rfl]
      isplitl [A1 A2 A3 A4]
      · isplitl [A1]; · iexact A1
        isplitl [A2]; · iexact A2
        isplitl [A3] <;> iassumption
      isplitl [R1 R2 R3 R4]
      · isplitl [R1]; · iexact R1
        isplitl [R2]; · iexact R2
        isplitl [R3]; · iexact R3
        iexact R4
      isplitl [HP1]; · iexact HP1
      isplitl [HP2] <;> iassumption
    iexact HO
  iintro %r ⟨%hr, HD, HP1, HP2, Hm, HO⟩
  unfold quad
  icases HD with ⟨D1, D2, D3, D4⟩
  ihave D1 := (close_all V ℓ true 0 c) $$ D1
  ihave D2 := (close_all V ℓ true 1 c) $$ D2
  ihave D3 := (close_all V ℓ false 0 c) $$ D3
  ihave D4 := (close_all V ℓ false 1 c) $$ D4
  icases D1 with ⟨X1, D1, rF⟩
  icases D2 with ⟨X2, D2, -⟩
  icases D3 with ⟨X3, D3, rT⟩
  icases D4 with ⟨X4, D4, -⟩
  isplitr; · ipureintro; exact hr
  isplitl [X1 X2 X3 X4]
  · isplitl [X1]; · iexact X1
    isplitl [X2]; · iexact X2
    isplitl [X3] <;> iassumption
  isplitr [Hg HO]
  · isplitl [D1 D2 D3 D4]
    · isplitl [D1]; · iexact D1
      isplitl [D2]; · iexact D2
      isplitl [D3] <;> iassumption
    isplitl [Ha]; · iexact Ha
    isplitl [rT]; · iexact rT
    isplitl [rF]; · iexact rF
    isplitl [HP1]; · iapply (own_end V ℓ true c); iexact HP1
    isplitl [HP2]; · iapply (own_end V ℓ false c); iexact HP2
    iapply (mats_any V ℓ c)
    iexact Hm
  isplitl [Hg] <;> iassumption

/-! ## Storing a block -/

theorem put_block (v : FVec F S1x2x64x256 .bf16) (hv : v = blk V ℓ d c) :
    iprop(room d c 0 0 ∗ room d c 1 0) ⊢ Ends c (putBlock B₀ d c v) fun _ => iprop(held V ℓ fullShare d c 0 0 ∗ held V ℓ fullShare d c 1 0) := by
  subst hv
  have e : (B₀.X d).slice (Rect.unit (s := S16x2x64x256) (k0_off1 c) S1x2x64x256.size (k0_off1_inb c)) (fun _ => rfl)
      = (B₀.X d).slice (bothRect 16 (sidx d c 0)) (fun _ => rfl) := Memref.slice_unit_congr _ (ownOff_eq d c) _ _ _ _
  have h₁ : (iprop(room d c 0 0 ∗ room d c 1 0) : sProp 𝕄)
      ⊢ any (c : Thread nD τ) ((B₀.X d).slice (Rect.unit (s := S16x2x64x256) (k0_off1 c) S1x2x64x256.size (k0_off1_inb c)) (fun _ => rfl)) := by
    rw [e]; exact any_both (c : Thread nD τ) (B₀.X d) (sidx d c 0)
  have h₂ : (owns (c : Thread nD τ) ((B₀.X d).slice (Rect.unit (s := S16x2x64x256) (k0_off1 c) S1x2x64x256.size (k0_off1_inb c)) (fun _ => rfl)) fullShare (blk V ℓ d c) : sProp 𝕄)
      ⊢ iprop(held V ℓ fullShare d c 0 0 ∗ held V ℓ fullShare d c 1 0) := by
    rw [e]; exact (owns_both (c : Thread nD τ) (B₀.X d) fullShare (sidx d c 0) _).1
  iintro H
  ihave H := h₁ $$ H
  unfold any putBlock
  icases H with ⟨%X, H⟩
  simp only [Prog.lift, Prog.bind_op, Prog.bind_ret]
  iapply (wp_load_owns 𝒱₀ (c : Thread nD τ) none Set.univ (m := B₀.X d) (fun _ => rfl)) $$ H
  iintro H
  iapply (wp_store_owns 𝒱₀ (c : Thread nD τ) none Set.univ (m := B₀.X d) (fun _ => rfl)) $$ H
  iintro H
  iapply ends_pure
  iapply h₂
  iexact H

theorem fetch_run {q : PosShare TreeShare} :
    iprop(owns (c : Thread nD τ) B₀.x q (V.x c) ∗ room d c 0 0 ∗ room d c 1 0)
      ⊢ Ends c (fetch B₀ d c (rowOff d) (inb_row d)) fun _ => iprop(owns (c : Thread nD τ) B₀.x q (V.x c) ∗ held V 0 fullShare d c 0 0 ∗ held V 0 fullShare d c 1 0) := by
  unfold fetch
  iintro ⟨Hx, H⟩
  simp only [Prog.lift, Prog.bind_op, Prog.bind_ret]
  iapply (wp_load_part 𝒱₀ (c : Thread nD τ) none Set.univ (m := B₀.x)) $$ Hx
  iintro Hx
  iapply (run_last (put_block V 0 d c _ rfl)) $$ [H]
  · iexact H
  iintro %_ H
  isplitl [Hx] <;> iassumption

/-- A layer whose result is the next block. -/
theorem layer_run (hℓ : ℓ < 3) {q : PosShare TreeShare} {O : CellTallies nD τ sig ℕ} (hO : Above (64 * ℓ + 32) O) :
    iprop(inv V K ∗ quad (fun d s => held V ℓ fullShare d c s 0) ∗ between ℓ c ∗ stocks ℓ c ∗ given V ℓ c win wout q ∗ Owes c (O + debt ℓ c))
      ⊢ Ends c (layer B₀ c win wout) fun _ => iprop(quad (fun d s => held V (ℓ + 1) fullShare d c s 0)
          ∗ between (ℓ + 1) c ∗ given V ℓ c win wout q ∗ Owes c O) := by
  have e : layer B₀ c win wout = ((enter B₀ c win wout >>= fun _ => ring B₀ c) >>= fun r : FVec F S128x256 .f32 × FVec F S128x256 .f32 =>
      putBlock B₀ true c (pack r.1) >>= fun _ => putBlock B₀ false c (pack r.2)) := by
    unfold layer; rw [bind_assoc]
  rw [e]
  iintro H
  iapply (run (round_run V K ℓ c win wout hℓ hO)) $$ H
  iintro %r ⟨%hr, HR, Hb, Hg, HO⟩
  subst hr
  unfold quad
  icases HR with ⟨X1, X2, X3, X4⟩
  iapply (run (put_block V (ℓ + 1) true c _ rfl)) $$ [X1 X2]
  · isplitl [X1] <;> iassumption
  iintro %_ ⟨X1, X2⟩
  iapply (run_last (put_block V (ℓ + 1) false c _ rfl)) $$ [X3 X4]
  · isplitl [X3] <;> iassumption
  iintro %_ ⟨X3, X4⟩
  isplitl [X1 X2 X3 X4]
  · isplitl [X1]; · iexact X1
    isplitl [X2]; · iexact X2
    isplitl [X3] <;> iassumption
  isplitl [Hb]; · iexact Hb
  isplitl [Hg] <;> iassumption

/-! ## The result -/

/-- The row of a half. -/
def halfIdx (i : S256x256.Idx) : S128x256.Idx := fun a => match a with
  | ⟨0, _⟩ => ⟨(i 0).val % 128, Nat.mod_lt _ (by decide)⟩
  | ⟨1, _⟩ => i 1

/-- What a device's result holds: the two finished sums of the last layer, one above the other. -/
def outV : Vec F S256x256 .f32 := fun i => fin V 2 (decide ((i 0).val < 128)) c (halfIdx i)

theorem outV_half (j : S128x256.Idx) : outV V c ((rowRect d).emb j) = fin V 2 d c j := by
  unfold outV
  have hj : (j 0).val < 128 := (j 0).isLt
  have h0 : (((rowRect d).emb j) 0).val = (if d then 0 else 128) + (j 0).val := by
    cases d <;> simp [Rect.emb_apply, rowOff]
  have h1 : decide ((((rowRect d).emb j) 0).val < 128) = d := by
    rw [h0]; cases d <;> simp [hj]
  rw [h1]
  congr 1
  funext a
  match a with
  | ⟨0, _⟩ =>
    apply Fin.ext
    show (((rowRect d).emb j) 0).val % 128 = (j 0).val
    rw [h0]; cases d <;> simp [Nat.mod_eq_of_lt hj]
  | ⟨1, _⟩ =>
    apply Fin.ext
    show (((rowRect d).emb j) 1).val = (j 1).val
    cases d <;> simp [Rect.emb_apply, rowOff]

/-- The two halves of the rows. -/
theorem halves_disjoint : ∀ t t' : Bool, t ≠ t' → Disjoint (rowRect t).set (rowRect t').set := by
  intro t t' h
  rw [Finset.disjoint_left]
  intro i h₁ h₂
  rw [Rect.mem_set_unit] at h₁ h₂
  have a := h₁ 0; have b := h₂ 0
  cases t <;> cases t' <;> simp [rowOff] at h a b <;> omega

theorem halves_cover : (Finset.univ : Finset Bool).biUnion (fun t => (rowRect t).set) = Finset.univ := by
  ext i
  simp only [Finset.mem_biUnion, Finset.mem_univ, true_and, iff_true]
  have hi := (i 0).isLt; have hi' := (i 1).isLt
  refine ⟨decide ((i 0).val < 128), ?_⟩
  rw [Rect.mem_set_unit]
  intro a
  by_cases h : (i 0).val < 128 <;> fin_cases a <;> simp [h, rowOff] <;> simp at hi hi' <;> omega

/-- Half of the result's rows. -/
abbrev outHalf : Memref sig .tc .vmem S128x256 .f32 := B₀.out.slice (rowRect d) (fun _ => rfl)

omit [FloatOps F] in
theorem both_halves (Φ : Bool → sProp 𝕄) : bigSep Finset.univ Φ = iprop(Φ true ∗ Φ false) :=
  bigSep_univ_eq_bigSepL [true, false] (by decide) (by decide) Φ

theorem out_split : any (c : Thread nD τ) B₀.out ⊢ (iprop(any (c : Thread nD τ) (outHalf true) ∗ any (c : Thread nD τ) (outHalf false)) : sProp 𝕄) := by
  unfold any
  iintro ⟨%X, H⟩
  ihave H := ((owns_rects (c : Thread nD τ) B₀.out fullShare (fun t : Bool => rowRect t) (fun _ _ => rfl) halves_disjoint halves_cover X).trans
    (Entails.of_eq (both_halves _))) $$ H
  icases H with ⟨H1, H2⟩
  isplitl [H1]
  · iexists _; iexact H1
  iexists _; iexact H2

theorem out_join : iprop(owns (c : Thread nD τ) (outHalf true) fullShare (fin V 2 true c) ∗ owns (c : Thread nD τ) (outHalf false) fullShare (fin V 2 false c))
    ⊢ (owns (c : Thread nD τ) B₀.out fullShare (outV V c) : sProp 𝕄) := by
  have e : ∀ t : Bool, (fun j => outV V c ((rowRect t).emb j)) = fin V 2 t c := fun t => funext fun j => outV_half V t c j
  refine BIBase.Entails.trans ?_ (owns_of_rects (c : Thread nD τ) B₀.out fullShare (fun t : Bool => rowRect t) (fun _ _ => rfl) halves_disjoint halves_cover (outV V c))
  refine BIBase.Entails.trans ?_ (Entails.of_eq (both_halves _).symm)
  show _ ⊢ iprop(owns (c : Thread nD τ) (outHalf true) fullShare (fun j => outV V c ((rowRect true).emb j)) ∗ owns (c : Thread nD τ) (outHalf false) fullShare (fun j => outV V c ((rowRect false).emb j)))
  exact BIClass.sep_mono (Entails.of_eq (congrArg _ (e true).symm)) (Entails.of_eq (congrArg _ (e false).symm))

theorem put_run (v : FVec F S128x256 .f32) :
    any (c : Thread nD τ) (outHalf d) ⊢ Ends c (put B₀ (rowOff d) (inb_row d) v) fun _ => owns (c : Thread nD τ) (outHalf d) fullShare v := by
  unfold any put
  iintro ⟨%X, H⟩
  simp only [Prog.lift, Prog.bind_op, Prog.bind_ret]
  iapply (wp_load_owns 𝒱₀ (c : Thread nD τ) none Set.univ (m := B₀.out) (fun _ => rfl)) $$ H
  iintro H
  iapply (wp_store_owns 𝒱₀ (c : Thread nD τ) none Set.univ (m := B₀.out) (fun _ => rfl)) $$ H
  iintro H
  iapply ends_pure
  iexact H

/-! ## The body -/

theorem ends_device {β : Type} (k : Dev nD → Code F β) (Q : β → sProp 𝕄) : Ends c (k c) Q ⊢ Ends c (Prog.lift .deviceId >>= k) Q := by
  unfold Ends
  simp only [Prog.lift, Prog.bind_op, Prog.bind_ret, wp_deviceId]
  exact .rfl

/-- What a device owes at the start: what it sends in each of the three layers. -/
def debts : CellTallies nD τ sig ℕ := debt 2 c + debt 1 c + debt 0 c

/-- The inputs at a device. -/
def inputs (q : PosShare TreeShare) : sProp 𝕄 :=
  iprop(owns (c : Thread nD τ) B₀.x q (V.x c) ∗ given V 0 c B₀.win0 B₀.wout0 q ∗ given V 1 c B₀.win1 B₀.wout1 q ∗ given V 2 c B₀.win2 B₀.wout2 q)

theorem body_run (q : PosShare TreeShare) :
    iprop(inv V K ∗ inputs V c q ∗ any (c : Thread nD τ) B₀.out ∗ quad (fun d s => room d c s 0) ∗ between 0 c ∗ (stocks 0 c ∗ stocks 1 c ∗ stocks 2 c) ∗ Owes c (debts c))
      ⊢ Ends c (body B₀) fun _ => iprop(inputs V c q ∗ owns (c : Thread nD τ) B₀.out fullShare (outV V c) ∗ quad (fun d s => room d c s 0) ∗ between 3 c ∗ Owes c 0) := by
  have e : body B₀ = (Prog.lift .deviceId >>= fun c : Dev nD => fetch B₀ true c (rowOff true) (inb_row true) >>= fun _ => fetch B₀ false c (rowOff false) (inb_row false) >>= fun _ =>
      layer B₀ c B₀.win0 B₀.wout0 >>= fun _ => layer B₀ c B₀.win1 B₀.wout1 >>= fun _ => (enter B₀ c B₀.win2 B₀.wout2 >>= fun _ => ring B₀ c) >>= fun r : FVec F S128x256 .f32 × FVec F S128x256 .f32 =>
      put B₀ (rowOff true) (inb_row true) r.1 >>= fun _ => put B₀ (rowOff false) (inb_row false) r.2 : Code F PUnit) := by
    simp only [bind_assoc]
    rfl
  rw [e]
  unfold inputs
  iintro ⟨#HI, ⟨Hx, Hg0, Hg1, Hg2⟩, Hout, HR, Hb, ⟨Hs0, Hs1, Hs2⟩, HO⟩
  iapply (ends_device c)
  unfold quad
  icases HR with ⟨X1, X2, X3, X4⟩
  iapply (run (fetch_run V true c)) $$ [Hx X1 X2]
  · isplitl [Hx]; · iexact Hx
    isplitl [X1] <;> iassumption
  iintro %_ ⟨Hx, X1, X2⟩
  iapply (run (fetch_run V false c)) $$ [Hx X3 X4]
  · isplitl [Hx]; · iexact Hx
    isplitl [X3] <;> iassumption
  iintro %_ ⟨Hx, X3, X4⟩
  unfold debts
  have h2 : Above (64 * 1 + 32) (debt 2 c) := above_mono (by decide) (above_debt 2 c (by decide))
  have h1 : Above (64 * 0 + 32) (debt 2 c + debt 1 c) := above_add (above_mono (by decide) (above_debt 2 c (by decide))) (above_mono (by decide) (above_debt 1 c (by decide)))
  have h3 : Above (64 * 2 + 32) (0 : CellTallies nD τ sig ℕ) := above_zero _
  iapply (run (layer_run V K 0 c B₀.win0 B₀.wout0 (by decide) h1)) $$ [X1 X2 X3 X4 Hb Hs0 Hg0 HO]
  · isplitr; · iexact HI
    isplitl [X1 X2 X3 X4]
    · unfold quad
      isplitl [X1]; · iexact X1
      isplitl [X2]; · iexact X2
      isplitl [X3] <;> iassumption
    isplitl [Hb]; · iexact Hb
    isplitl [Hs0]; · iexact Hs0
    isplitl [Hg0] <;> iassumption
  iintro %_ ⟨X, Hb, Hg0, HO⟩
  iapply (run (layer_run V K 1 c B₀.win1 B₀.wout1 (by decide) h2)) $$ [X Hb Hs1 Hg1 HO]
  · isplitr; · iexact HI
    isplitl [X]; · iexact X
    isplitl [Hb]; · iexact Hb
    isplitl [Hs1]; · iexact Hs1
    isplitl [Hg1] <;> iassumption
  iintro %_ ⟨X, Hb, Hg1, HO⟩
  ihave HO := (owes_eq c (show debt 2 c = 0 + debt 2 c from (zero_add _).symm)) $$ HO
  iapply (run (round_run V K 2 c B₀.win2 B₀.wout2 (by decide) h3)) $$ [X Hb Hs2 Hg2 HO]
  · isplitr; · iexact HI
    isplitl [X]; · iexact X
    isplitl [Hb]; · iexact Hb
    isplitl [Hs2]; · iexact Hs2
    isplitl [Hg2] <;> iassumption
  iintro %r ⟨%hr, HR, Hb, Hg2, HO⟩
  subst hr
  ihave Hout := (out_split c) $$ Hout
  icases Hout with ⟨Y1, Y2⟩
  iapply (run (put_run true c _)) $$ [Y1]
  · iexact Y1
  iintro %_ Y1
  iapply (run_last (put_run false c _)) $$ [Y2]
  · iexact Y2
  iintro %_ Y2
  isplitl [Hx Hg0 Hg1 Hg2]
  · isplitl [Hx]; · iexact Hx
    isplitl [Hg0]; · iexact Hg0
    isplitl [Hg1] <;> iassumption
  isplitl [Y1 Y2]
  · iapply (out_join V c)
    isplitl [Y1] <;> iassumption
  unfold quad
  isplitl [HR]; · iexact HR
  isplitl [Hb] <;> iassumption

end Cert.KernelIdeal.Ring
-- ==== Proof.KernelIdeal.Idle.lean ====
module

public import proofs.«01_k».proof.Proof.KernelIdeal.Round
public import proofs.«01_k».proof.Proof.Gen.KernelIdeal.Launch

/-!
Families over the keys of a device's semaphores, and the scratch buffers as the idle places of the rings.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

variable (V : Vals F) (K : Dev nD × Option Key → ℕ) (ℓ : ℕ) (c : Dev nD)

/-! ## Families over the keys -/

omit [FloatOps F] in
theorem same {P Q : sProp 𝕄} (h : BIBase.Entails P Q) (h' : BIBase.Entails Q P) : P = Q := BI.Entails.antisymm h h'

/-- A key by its ring and half, its hop, and its use. -/
def keyEquiv : (Bool × Fin 2) × Fin 15 × (Bool × Bool) ≃ Key where
  toFun p := (p.2.2.1, p.2.2.2, p.1.1, p.2.1, p.1.2)
  invFun κ := ((κ.2.2.1, κ.2.2.2.2), κ.2.2.2.1, (κ.1, κ.2.1))
  left_inv _ := rfl
  right_inv _ := rfl

omit [FloatOps F] in
theorem keys_eq (Φ : Key → sProp 𝕄) : bigSep Finset.univ Φ = quad fun d s => bigSep Finset.univ fun i : Fin 15 =>
    iprop(Φ (false, false, d, i, s) ∗ Φ (false, true, d, i, s) ∗ Φ (true, false, d, i, s) ∗ Φ (true, true, d, i, s)) := by
  have h : ∀ (d : Bool) (s : Fin 2), (bigSep Finset.univ fun p : Fin 15 × (Bool × Bool) => Φ (keyEquiv ((d, s), p)))
      = bigSep Finset.univ fun i : Fin 15 =>
        iprop(Φ (false, false, d, i, s) ∗ Φ (false, true, d, i, s) ∗ Φ (true, false, d, i, s) ∗ Φ (true, true, d, i, s)) := fun d s => by
    rw [bigSep_univ_prod]
    exact bigSep_congr fun i _ => bigSep_univ_eq_bigSepL [(false, false), (false, true), (true, false), (true, true)] (by decide) (by decide) _
  rw [bigSep_univ_equiv keyEquiv, bigSep_univ_prod, bigSep_univ_eq_bigSepL [(true, 0), (true, 1), (false, 0), (false, 1)] (by decide) (by decide)]
  unfold quad
  simp only [bigSepL_cons_cons, bigSepL_singleton, h]
  rfl

omit [FloatOps F] in
/-- The barrier's semaphore and those of the keys. -/
theorem sems_eq (Φ : Option Key → sProp 𝕄) : bigSep Finset.univ Φ = iprop(Φ none ∗ bigSep Finset.univ fun κ : Key => Φ (some κ)) := by
  rw [bigSep_univ_equiv (Equiv.optionEquivSumPUnit.{0} Key).symm, bigSep_univ_sum, Finset.univ_unique (α := PUnit), bigSep_singleton]
  show iprop((bigSep Finset.univ fun κ : Key => Φ (some κ)) ∗ Φ none) = _
  refine same ?_ ?_
  · iintro ⟨A, B⟩
    isplitl [B]; · iexact B
    iexact A
  · iintro ⟨A, B⟩
    isplitl [B]; · iexact B
    iexact A

/-! ## The scratch buffers -/

omit [FloatOps F] in
theorem quad_eq {Φ Ψ : Bool → Fin 2 → sProp 𝕄} (h : ∀ d s, Φ d s = Ψ d s) : quad Φ = quad Ψ := by
  have : Φ = Ψ := funext fun d => funext fun s => h d s
  rw [this]

/-- A pool of places, half by half. -/
theorem pool_halves {n : ℕ} {e : EltTy} (m : Memref sig .tc .vmem (Pool n) e) :
    (any (c : Thread nD τ) m : sProp 𝕄) = iprop((bigSep Finset.univ fun j : Fin n => any (c : Thread nD τ) (place m j 0)) ∗ bigSep Finset.univ fun j : Fin n => any (c : Thread nD τ) (place m j 1)) := by
  have h := any_pool (Ix := ℕ) (Name := ℕ) (U := UU) (Lvl := ℕ) (Val := Elt F) (c : Thread nD τ) m (fun _ => Classical.arbitrary _)
  rw [BI.Entails.antisymm h.1 h.2, bigSep_univ_equiv (Equiv.prodComm (Fin 2) (Fin n)), bigSep_univ_prod,
    bigSep_univ_eq_bigSepL [(0 : Fin 2), 1] (by decide) (by decide)]
  rfl

/-- The rooms of a ring, in the order the blocks come by. -/
theorem pool_rooms (d : Bool) (s : Fin 2) :
    (bigSep Finset.univ fun j : Fin 16 => (any (c : Thread nD τ) (place (B₀.X d) j s) : sProp 𝕄))
      = iprop(room d c s 0 ∗ bigSep Finset.univ fun i : Fin 15 => room d c s i.succ) := by
  rw [bigSep_univ_equiv (order d c)]
  exact bigSep_first (n := 15) fun k => room d c s k

theorem full_any {s : Shape} {e : EltTy} (m : Memref sig .tc .vmem s e) (r : Rect s) (hr : ∀ a, r.stride a = 1) (h : r.set = Finset.univ) :
    (any (c : Thread nD τ) m : sProp 𝕄) = any (c : Thread nD τ) (m.slice r hr) := by
  have h := any_full (Ix := ℕ) (Name := ℕ) (U := UU) (Lvl := ℕ) (Val := Elt F) (c : Thread nD τ) m r hr h (fun _ => Classical.arbitrary _)
  exact BI.Entails.antisymm h.1 h.2

/-- The idle places. -/
def bufs : sProp 𝕄 :=
  iprop(quad (fun d s => room d c s 0)
    ∗ quad (fun d s => iprop((bigSep Finset.univ fun i : Fin 15 => room d c s i.succ) ∗ (bigSep Finset.univ fun i => spare (B₀.R d) c i s) ∗ bigSep Finset.univ fun i => spare (B₀.S d) c i s))
    ∗ any (c : Thread nD τ) ((B₀.P true).slice pRect (fun _ => rfl)) ∗ any (c : Thread nD τ) ((B₀.P false).slice pRect (fun _ => rfl)) ∗ matsAny c)

omit [FloatOps F] in
theorem set_full {s : Shape} (off : Fin s.rank → ℕ) (h : ∀ a, off a + s.size a ≤ s.size a) (h0 : ∀ a, off a = 0) : (Rect.unit (s := s) off s.size h).set = Finset.univ := by
  ext i
  rw [Rect.mem_set_unit]
  simp only [Finset.mem_univ, iff_true]
  intro a
  rw [h0 a]
  exact ⟨Nat.zero_le _, by have := (i a).isLt; omega⟩

/-- The scratch buffers are the idle places. -/
theorem scratch_eq : (Pipeline.scopedRest (Ix := ℕ) (Name := ℕ) (U := UU) (Lvl := ℕ) (Val := Elt F) spec0 c : sProp 𝕄) = bufs c := by
  have e : (Pipeline.scopedRest (Ix := ℕ) (Name := ℕ) (U := UU) (Lvl := ℕ) (Val := Elt F) spec0 c : sProp 𝕄)
      = iprop(any (c : Thread nD τ) (B₀.X true) ∗ any (c : Thread nD τ) (B₀.X false) ∗ any (c : Thread nD τ) (B₀.P true) ∗ any (c : Thread nD τ) (B₀.P false)
        ∗ any (c : Thread nD τ) (B₀.S true) ∗ any (c : Thread nD τ) (B₀.S false) ∗ any (c : Thread nD τ) (B₀.R true) ∗ any (c : Thread nD τ) (B₀.R false)
        ∗ any (c : Thread nD τ) B₀.wi ∗ any (c : Thread nD τ) B₀.wo) := by
    rw [scopedRest0_eq]
    show _ = iprop(any (c : Thread nD τ) (Memref.whole cc0_scratch0) ∗ any (c : Thread nD τ) (Memref.whole cc0_scratch1) ∗ any (c : Thread nD τ) (Memref.whole cc0_scratch2)
      ∗ any (c : Thread nD τ) (Memref.whole cc0_scratch3) ∗ any (c : Thread nD τ) (Memref.whole cc0_scratch4) ∗ any (c : Thread nD τ) (Memref.whole cc0_scratch5)
      ∗ any (c : Thread nD τ) (Memref.whole cc0_scratch6) ∗ any (c : Thread nD τ) (Memref.whole cc0_scratch7) ∗ any (c : Thread nD τ) (Memref.whole cc0_scratch8)
      ∗ any (c : Thread nD τ) (Memref.whole cc0_scratch9))
    simp only [any_whole]
  have z : ∀ a, (![0, 0] : Fin 2 → ℕ) a = 0 := by decide
  rw [e, pool_halves c (B₀.X true), pool_halves c (B₀.X false), pool_halves c (B₀.S true), pool_halves c (B₀.S false), pool_halves c (B₀.R true), pool_halves c (B₀.R false),
    pool_rooms, pool_rooms, pool_rooms, pool_rooms,
    full_any c (B₀.P true) pRect (fun _ => rfl) (set_full _ _ z), full_any c (B₀.P false) pRect (fun _ => rfl) (set_full _ _ z),
    full_any c B₀.wi wiRect (fun _ => rfl) (set_full _ _ z), full_any c B₀.wo woRect (fun _ => rfl) (set_full _ _ z)]
  unfold bufs quad matsAny
  refine same ?_ ?_
  · iintro ⟨⟨⟨a1, b1⟩, ⟨a2, b2⟩⟩, ⟨⟨a3, b3⟩, ⟨a4, b4⟩⟩, p1, p2, ⟨s1, s2⟩, ⟨s3, s4⟩, ⟨r1, r2⟩, ⟨r3, r4⟩, wi, wo⟩
    isplitl [a1 a2 a3 a4]
    · isplitl [a1]; · iexact a1
      isplitl [a2]; · iexact a2
      isplitl [a3] <;> iassumption
    isplitr [p1 p2 wi wo]
    · isplitl [b1 r1 s1]
      · isplitl [b1]; · iexact b1
        isplitl [r1]; · iexact r1
        iexact s1
      isplitl [b2 r2 s2]
      · isplitl [b2]; · iexact b2
        isplitl [r2]; · iexact r2
        iexact s2
      isplitl [b3 r3 s3]
      · isplitl [b3]; · iexact b3
        isplitl [r3]; · iexact r3
        iexact s3
      isplitl [b4]; · iexact b4
      isplitl [r4]; · iexact r4
      iexact s4
    isplitl [p1]; · iexact p1
    isplitl [p2]; · iexact p2
    isplitl [wi] <;> iassumption
  · iintro ⟨⟨a1, a2, a3, a4⟩, ⟨⟨b1, r1, s1⟩, ⟨b2, r2, s2⟩, ⟨b3, r3, s3⟩, ⟨b4, r4, s4⟩⟩, p1, p2, wi, wo⟩
    isplitl [a1 a2 b1 b2]
    · isplitl [a1 b1]
      · isplitl [a1] <;> iassumption
      isplitl [a2] <;> iassumption
    isplitl [a3 a4 b3 b4]
    · isplitl [a3 b3]
      · isplitl [a3] <;> iassumption
      isplitl [a4] <;> iassumption
    isplitl [p1]; · iexact p1
    isplitl [p2]; · iexact p2
    isplitl [s1 s2]
    · isplitl [s1]; · iexact s1
      iexact s2
    isplitl [s3 s4]
    · isplitl [s3]; · iexact s3
      iexact s4
    isplitl [r1 r2]
    · isplitl [r1]; · iexact r1
      iexact r2
    isplitl [r3 r4]
    · isplitl [r3]; · iexact r3
      iexact r4
    isplitl [wi] <;> iassumption

/-! ## The semaphores' places in their rounds -/

/-- The places of a device's own semaphores. -/
def seats : sProp 𝕄 := bigSep Finset.univ fun κ : Key => iprop(atPos ER (kcell (c, some κ)) ℓ ∅ 0 ∗ reached ER (kcell (c, some κ)) ℓ)

/-- Idle places and the semaphores' places in their rounds, together. -/
theorem idle_eq : quad (fun d s => bigSep Finset.univ fun i => idle ℓ d s c i)
    = (iprop(quad (fun d s => iprop((bigSep Finset.univ fun i : Fin 15 => room d c s i.succ) ∗ (bigSep Finset.univ fun i => spare (B₀.R d) c i s) ∗ bigSep Finset.univ fun i => spare (B₀.S d) c i s))
        ∗ seats ℓ c) : sProp 𝕄) := by
  have h : ∀ (d : Bool) (s : Fin 2), (bigSep Finset.univ fun i => (idle ℓ d s c i : sProp 𝕄))
      = iprop(((bigSep Finset.univ fun i : Fin 15 => room d c s i.succ) ∗ (bigSep Finset.univ fun i => spare (B₀.R d) c i s) ∗ bigSep Finset.univ fun i => spare (B₀.S d) c i s)
        ∗ bigSep Finset.univ fun i : Fin 15 => iprop(seat ℓ d s c false false i ∗ seat ℓ d s c false true i ∗ seat ℓ d s c true false i ∗ seat ℓ d s c true true i)) := fun d s => by
    rw [together, together, together]
    refine bigSep_congr fun i _ => ?_
    unfold idle
    refine same ?_ ?_
    · iintro ⟨A, B, C, D⟩
      isplitr [D]
      · isplitl [A]; · iexact A
        isplitl [B] <;> iassumption
      iexact D
    · iintro ⟨⟨A, B, C⟩, D⟩
      isplitl [A]; · iexact A
      isplitl [B]; · iexact B
      isplitl [C] <;> iassumption
  unfold seats
  rw [quad_eq h, keys_eq]
  exact BI.Entails.antisymm (quad_sep _ _).1 (quad_sep _ _).2

/-- A device between two layers. -/
theorem between_intro : iprop(bufs c ∗ seats ℓ c ∗ atPos ER (bar c) ℓ ∅ 0 ∗ reached ER (bar (nbr true c)) ℓ ∗ reached ER (bar (nbr false c)) ℓ)
    ⊢ (iprop(quad (fun d s => room d c s 0) ∗ between ℓ c) : sProp 𝕄) := by
  unfold bufs between
  iintro ⟨⟨A, B, P1, P2, M⟩, Hs, Ha, r1, r2⟩
  isplitl [A]; · iexact A
  isplitl [B Hs]
  · iapply (Entails.of_eq (idle_eq ℓ c).symm)
    isplitl [B] <;> iassumption
  isplitl [Ha]; · iexact Ha
  isplitl [r1]; · iexact r1
  isplitl [r2]; · iexact r2
  isplitl [P1]; · iexact P1
  isplitl [P2] <;> iassumption

theorem between_elim : iprop(quad (fun d s => room d c s 0) ∗ between ℓ c) ⊢ (iprop(bufs c ∗ bigSep Finset.univ fun o : Option Key => atPos ER (kcell (c, o)) ℓ ∅ 0) : sProp 𝕄) := by
  unfold bufs between
  iintro ⟨A, Hi, Ha, -, -, P1, P2, M⟩
  ihave Hi := (Entails.of_eq (idle_eq ℓ c)) $$ Hi
  icases Hi with ⟨B, Hs⟩
  isplitr [Hs Ha]
  · isplitl [A]; · iexact A
    isplitl [B]; · iexact B
    isplitl [P1]; · iexact P1
    isplitl [P2] <;> iassumption
  iapply (Entails.of_eq (sems_eq (F := F) fun o => atPos ER (kcell (c, o)) ℓ ∅ 0).symm)
  isplitl [Ha]; · iexact Ha
  unfold seats
  have h : ∀ κ : Key, (iprop(atPos ER (kcell (c, some κ)) ℓ ∅ 0 ∗ reached ER (kcell (c, some κ)) ℓ) : sProp 𝕄) ⊢ atPos ER (kcell (c, some κ)) ℓ ∅ 0 := fun κ => by
    iintro ⟨H, -⟩
    iexact H
  iapply (show (bigSep Finset.univ fun κ : Key => (iprop(atPos ER (kcell (c, some κ)) ℓ ∅ 0 ∗ reached ER (kcell (c, some κ)) ℓ) : sProp 𝕄))
    ⊢ bigSep Finset.univ fun κ : Key => atPos ER (kcell (c, some κ)) ℓ ∅ 0 from bigSep_mono fun κ _ => h κ)
  iexact Hs

/-! ## The end -/

/-- After the last layer a device's semaphores are its own again, at zero. -/
theorem close_cells : iprop(inv V K ∗ bigSep Finset.univ fun o : Option Key => atPos ER (kcell (c, o)) 3 ∅ 0)
    ⊢ (|={Set.univ}=> bigSep Finset.univ fun o : Option Key => semVal (kcell (c, o)) 0 : sProp 𝕄) := by
  have h : ∀ o : Option Key, iprop(inv V K ∗ atPos ER (kcell (c, o)) 3 ∅ 0) ⊢ (|={Set.univ}=> semVal (kcell (c, o)) 0 : sProp 𝕄) := fun o => by
    iintro ⟨#HI, Ha⟩
    imod (Rounds.cell_close ER (sched V) (Set.mem_univ (K (c, o))) (fun h => h) (R := 3) (duties_later V (kcell (c, o)))) $$ [Ha] with Hz
    · isplitr; · iapply (inv_cell V K (c, o)); iexact HI
      iexact Ha
    imodintro
    iexact Hz
  refine BIBase.Entails.trans ?_ (bigSep_fupd _ _)
  refine BIBase.Entails.trans (BIClass.sep_mono (BI.bigSep_of_persistent (Finset.univ : Finset (Option Key)) (inv V K)) .rfl) ?_
  refine BIBase.Entails.trans (Entails.of_eq (bigSep_sep _ _ _).symm) ?_
  exact bigSep_mono fun o _ => h o

end Cert.KernelIdeal.Ring
-- ==== Proof.KernelIdeal.Start.lean ====
module

public import proofs.«01_k».proof.Proof.KernelIdeal.Idle

/-!
What the launch deals to the devices: the semaphores' invariants, the duties of the transfers at the devices that pay them,
and the credit for the waits.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Own

variable {F : FTy → Type} [FloatOps F]

local notation "𝕄" => MT nD τ sig ℕ (Elt F) ℕ UU ℕ

variable (V : Vals F) (K : Dev nD × Option Key → ℕ) (ℓ : ℕ) (c : Dev nD)

/-! ## Families -/

omit [FloatOps F] in
theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

omit [FloatOps F] in
theorem pair_eq {I : Type} [Fintype I] (Φ Ψ : I → sProp 𝕄) :
    bigSep Finset.univ (fun i => iprop(Φ i ∗ Ψ i)) = iprop((bigSep Finset.univ fun i => Φ i) ∗ bigSep Finset.univ fun i => Ψ i) :=
  bigSep_sep _ _ _

/-! ## The duties -/

theorem kcell_injective : Function.Injective (kcell : Dev nD × Option Key → GSem nD τ sig) := by
  rintro ⟨c, o⟩ ⟨c', o'⟩ h
  have h1 : c = c' := congrArg (fun g : GSem nD τ sig => g.1.1) h
  have h2 : o = o' := csem_injective (congrArg Prod.snd h)
  rw [h1, h2]

def cells : Finset (GSem nD τ sig) := Finset.univ.map ⟨kcell, kcell_injective⟩

/-- A duty of a device's semaphores: its layer, and a side of the barrier or a key. -/
abbrev Duty : Type := Fin 3 × (Bool ⊕ Key)

abbrev dutyAt (p : Dev nD × Duty) : GSem nD τ sig × ℕ × Bool := match p.2.2 with
  | .inl b => (bar p.1, p.2.1.val, b)
  | .inr κ => (kcell (p.1, some κ), p.2.1.val, true)

theorem dutyAt_injective : Function.Injective dutyAt := by
  rintro ⟨c, l, x⟩ ⟨c', l', x'⟩ h
  rcases x with b | κ <;> rcases x' with b' | κ'
  · have h1 := kcell_injective (congrArg Prod.fst h)
    have h2 : l = l' := Fin.ext (congrArg (fun y : GSem nD τ sig × ℕ × Bool => y.2.1) h)
    have h3 : b = b' := congrArg (fun y : GSem nD τ sig × ℕ × Bool => y.2.2) h
    have h4 : c = c' := congrArg Prod.fst h1
    rw [h2, h3, h4]
  · have h1 := kcell_injective (congrArg Prod.fst h); cases congrArg Prod.snd h1
  · have h1 := kcell_injective (congrArg Prod.fst h); cases congrArg Prod.snd h1
  · have h1 := kcell_injective (congrArg Prod.fst h)
    have h2 : l = l' := Fin.ext (congrArg (fun y : GSem nD τ sig × ℕ × Bool => y.2.1) h)
    have h3 : κ = κ' := Option.some.inj (congrArg Prod.snd h1)
    have h4 : c = c' := congrArg Prod.fst h1
    rw [h2, h3, h4]

def duties₀ : Finset (GSem nD τ sig × ℕ × Bool) := Finset.univ.map ⟨dutyAt, dutyAt_injective⟩

/-- The duties of a device's own semaphores. -/
def owed (c : Dev nD) : sProp 𝕄 := bigSep Finset.univ fun p : Duty => dutyTok ER (dutyAt (c, p)).1 (dutyAt (c, p)).2.1 (dutyAt (c, p)).2.2

/-- Where the duty of a key is paid: the sender pays at its own semaphore and at the neighbour's. -/
def payer (κ : Key) : Dev nD ≃ Dev nD := if κ.2.1 then turn κ.2.2.1 else Equiv.refl _

/-- The duties that a device pays in a layer. -/
def pays (ℓ : ℕ) (c : Dev nD) : sProp 𝕄 :=
  iprop(dutyTok ER (bar (nbr false c)) ℓ true ∗ dutyTok ER (bar (nbr true c)) ℓ false
    ∗ bigSep Finset.univ fun κ : Key => dutyTok ER (kcell (payer κ c, some κ)) ℓ true)

omit [FloatOps F] in
/-- The duties, handed to the devices that pay them. -/
theorem owed_pays : (bigSep Finset.univ fun c : Dev nD => (owed c : sProp 𝕄)) = bigSep Finset.univ fun c : Dev nD => bigSep Finset.univ fun l : Fin 3 => pays l.val c := by
  have h₁ : ∀ c : Dev nD, (owed c : sProp 𝕄) = bigSep Finset.univ fun l : Fin 3 =>
      iprop(dutyTok ER (bar c) l.val true ∗ dutyTok ER (bar c) l.val false ∗ bigSep Finset.univ fun κ : Key => dutyTok ER (kcell (c, some κ)) l.val true) := fun c => by
    unfold owed
    rw [bigSep_univ_prod]
    refine bigSep_congr fun l _ => ?_
    rw [bigSep_univ_sum, bigSep_univ_eq_bigSepL [true, false] (by decide) (by decide)]
    refine same ?_ ?_
    · show iprop((dutyTok ER (bar c) l.val true ∗ dutyTok ER (bar c) l.val false) ∗ bigSep Finset.univ fun κ : Key => dutyTok ER (kcell (c, some κ)) l.val true) ⊢ _
      iintro ⟨⟨A, B⟩, C⟩
      isplitl [A]; · iexact A
      isplitl [B] <;> iassumption
    · show _ ⊢ iprop((dutyTok ER (bar c) l.val true ∗ dutyTok ER (bar c) l.val false) ∗ bigSep Finset.univ fun κ : Key => dutyTok ER (kcell (c, some κ)) l.val true)
      iintro ⟨A, B, C⟩
      isplitl [A B]
      · isplitl [A] <;> iassumption
      iexact C
  rw [bigSep_congr fun c _ => h₁ c, swap, swap (fun (c : Dev nD) (l : Fin 3) => (pays l.val c : sProp 𝕄))]
  refine bigSep_congr fun l _ => ?_
  unfold pays
  rw [pair_eq, pair_eq, pair_eq, pair_eq, swap (fun (c : Dev nD) (κ : Key) => (dutyTok ER (kcell (c, some κ)) l.val true : sProp 𝕄)),
    swap (fun (c : Dev nD) (κ : Key) => (dutyTok ER (kcell (payer κ c, some κ)) l.val true : sProp 𝕄)),
    bigSep_univ_equiv (turn false) (fun c : Dev nD => (dutyTok ER (bar c) l.val true : sProp 𝕄)),
    bigSep_univ_equiv (turn true) (fun c : Dev nD => (dutyTok ER (bar c) l.val false : sProp 𝕄)),
    bigSep_congr (s := Finset.univ) fun (κ : Key) _ => bigSep_univ_equiv (payer κ) (fun c : Dev nD => (dutyTok ER (kcell (c, some κ)) l.val true : sProp 𝕄))]
  rfl

/-! ## The launch's deal -/

/-- What the launch deals to a device. -/
def dealt (c : Dev nD) : sProp 𝕄 :=
  iprop((bigSep Finset.univ fun o : Option Key => roundState ER (sched V) (kcell (c, o)) 0)
    ∗ (bigSep Finset.univ fun o : Option Key => iprop(atPos ER (kcell (c, o)) 0 ∅ 0 ∗ reached ER (kcell (c, o)) 0)) ∗ owed c)

theorem fund_rounds : BI.own (ER (initOf cells duties₀)) ⊢ (|==> bigSep Finset.univ (dealt V) : sProp 𝕄) := by
  have hX (Φ : GSem nD τ sig → sProp 𝕄) : bigSep cells Φ = bigSep Finset.univ fun c : Dev nD => bigSep Finset.univ fun o : Option Key => Φ (kcell (c, o)) := by
    unfold cells; rw [bigSep_map, bigSep_univ_prod]; rfl
  have hT : bigSep duties₀ (fun x => (dutyTok ER x.1 x.2.1 x.2.2 : sProp 𝕄)) = bigSep Finset.univ fun c : Dev nD => owed c := by
    unfold duties₀; rw [bigSep_map, bigSep_univ_prod]; rfl
  have hD : bigSep Finset.univ (dealt V) = (iprop((bigSep Finset.univ fun c : Dev nD => bigSep Finset.univ fun o : Option Key => roundState ER (sched V) (kcell (c, o)) 0)
      ∗ ((bigSep Finset.univ fun c : Dev nD => bigSep Finset.univ fun o : Option Key => atPos ER (kcell (c, o)) 0 ∅ 0)
        ∗ bigSep Finset.univ fun c : Dev nD => bigSep Finset.univ fun o : Option Key => reached ER (kcell (c, o)) 0)
      ∗ bigSep Finset.univ fun c : Dev nD => owed c) : sProp 𝕄) := by
    rw [← pair_eq, bigSep_congr (s := Finset.univ) fun (c : Dev nD) _ => (pair_eq (fun o : Option Key => (atPos ER (kcell (c, o)) 0 ∅ 0 : sProp 𝕄)) fun o => reached ER (kcell (c, o)) 0).symm,
      ← pair_eq, ← pair_eq]
    rfl
  rw [hD]
  iintro HX
  imod (Rounds.fund ER (sched V) cells duties₀) $$ HX with ⟨Hst, Hr, Hat, Htok⟩
  imodintro
  ihave Hst := (Entails.of_eq (hX fun g => roundState ER (sched V) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]; · iexact Hst
  isplitl [Hat Hr]
  · isplitl [Hat] <;> iassumption
  iexact Htok

abbrev osem (κ : Key) : SemLoc sig := .dma (dsem κ)

omit [FloatOps F] in
theorem unscopedSems0_eq : (unscopedSems0 c : sProp 𝕄) = semVal (bar c) 0 := by
  unfold unscopedSems0
  rw [bigSep_eq_bigSepL_of_eq [SemLoc.reg barSem] (by decide) (by decide)]
  rfl

omit [FloatOps F] in
/-- A device's semaphores at zero, the barrier's among them. -/
theorem sems0_eq : (iprop(unscopedSems0 c ∗ Pipeline.ownSems0 (Ix := ℕ) (Name := ℕ) (U := UU) (Lvl := ℕ) (Val := Elt F) (τ := τ) osem c) : sProp 𝕄)
    = bigSep Finset.univ fun o : Option Key => semVal (kcell (c, o)) 0 := by
  rw [unscopedSems0_eq, sems_eq]
  rfl

theorem core_alloc : iprop(Pipeline.ownSems0 (Ix := ℕ) (Name := ℕ) (U := UU) (Lvl := ℕ) (Val := Elt F) (τ := τ) osem c ∗ unscopedSems0 c ∗ dealt V c)
    ⊢ (|={Set.univ}=> iprop((bigSep Finset.univ fun o : Option Key => iprop(∃ κ : ℕ, cellInv ER (sched V) κ (kcell (c, o))))
        ∗ (bigSep Finset.univ fun o : Option Key => iprop(atPos ER (kcell (c, o)) 0 ∅ 0 ∗ reached ER (kcell (c, o)) 0)) ∗ owed c) : sProp 𝕄) := by
  have h : iprop((bigSep Finset.univ fun o : Option Key => semVal (kcell (c, o)) 0) ∗ bigSep Finset.univ fun o : Option Key => roundState ER (sched V) (kcell (c, o)) 0)
      ⊢ (|={Set.univ}=> bigSep Finset.univ fun o : Option Key => iprop(∃ κ : ℕ, cellInv ER (sched V) κ (kcell (c, o))) : sProp 𝕄) := by
    rw [← pair_eq]
    exact (bigSep_mono fun o _ => (Rounds.body_intro ER (sched V) (kcell (c, o))).trans inv_alloc).trans (bigSep_fupd _ _)
  unfold dealt
  iintro ⟨Hos, Hus, Hst, Hat, Htok⟩
  ihave Hv := (Entails.of_eq (sems0_eq (F := F) c)) $$ [Hos Hus]
  · isplitl [Hus] <;> iassumption
  imod h $$ [Hv Hst] with Hinv
  · isplitl [Hv] <;> iassumption
  imodintro
  isplitl [Hinv]; · iexact Hinv
  isplitl [Hat] <;> iassumption

/-! ## The launch's global step -/

/-- What every device knows. -/
def known (K : Dev nD × Option Key → ℕ) : sProp 𝕄 :=
  iprop((bigSep Finset.univ fun p : Dev nD × Option Key => cellInv ER (sched V) (K p) (kcell p)) ∗ bigSep Finset.univ fun c : Dev nD => reached ER (bar c) 0)

instance known_persistent (K : Dev nD × Option Key → ℕ) : BI.Persistent (known V K) := by unfold known; infer_instance

/-- What a device holds after the launch's global step. -/
def set (c : Dev nD) : sProp 𝕄 :=
  iprop(∃ K : Dev nD × Option Key → ℕ, (bigSep Finset.univ fun p : Dev nD × Option Key => cellInv ER (sched V) (K p) (kcell p)) ∗ seats 0 c ∗ atPos ER (bar c) 0 ∅ 0
    ∗ reached ER (bar (nbr true c)) 0 ∗ reached ER (bar (nbr false c)) 0 ∗ bigSep Finset.univ fun l : Fin 3 => pays l.val c)

omit [FloatOps F] in
theorem known_bar (e : Dev nD) : (bigSep Finset.univ fun c : Dev nD => (reached ER (bar c) 0 : sProp 𝕄)) ⊢ reached ER (bar e) 0 :=
  bigSep_elim (Finset.mem_univ e)

theorem set_intro (K : Dev nD × Option Key → ℕ) (c : Dev nD) :
    iprop(known V K ∗ (bigSep Finset.univ fun o : Option Key => iprop(atPos ER (kcell (c, o)) 0 ∅ 0 ∗ reached ER (kcell (c, o)) 0)) ∗ bigSep Finset.univ fun l : Fin 3 => pays l.val c)
      ⊢ (set V c : sProp 𝕄) := by
  unfold known set
  iintro ⟨⟨#HI, #HR⟩, Ha, Hp⟩
  ihave Ha := (Entails.of_eq (sems_eq (F := F) fun o => iprop(atPos ER (kcell (c, o)) 0 ∅ 0 ∗ reached ER (kcell (c, o)) 0))) $$ Ha
  icases Ha with ⟨⟨Hb, -⟩, Ha⟩
  iexists K
  isplitr; · iexact HI
  isplitl [Ha]; · unfold seats; iexact Ha
  isplitl [Hb]; · iexact Hb
  isplitr; · iapply (known_bar (F := F) (nbr true c)); iexact HR
  isplitr; · iapply (known_bar (F := F) (nbr false c)); iexact HR
  iexact Hp

theorem regroup : (bigSep Finset.univ fun c : Dev nD => iprop((bigSep Finset.univ fun o : Option Key => iprop(∃ κ : ℕ, cellInv ER (sched V) κ (kcell (c, o))))
        ∗ (bigSep Finset.univ fun o : Option Key => iprop(atPos ER (kcell (c, o)) 0 ∅ 0 ∗ reached ER (kcell (c, o)) 0)) ∗ owed c) : sProp 𝕄)
    ⊢ bigSep Finset.univ (set V) := by
  haveI : DecidableEq (Dev nD × Option Key) := fun a b => Classical.propDecidable (a = b)
  have hr : ∀ c : Dev nD, (bigSep Finset.univ fun o : Option Key => (iprop(atPos ER (kcell (c, o)) 0 ∅ 0 ∗ reached ER (kcell (c, o)) 0) : sProp 𝕄))
      ⊢ iprop((bigSep Finset.univ fun o : Option Key => iprop(atPos ER (kcell (c, o)) 0 ∅ 0 ∗ reached ER (kcell (c, o)) 0)) ∗ reached ER (bar c) 0) := fun c => by
    iintro H
    ihave H := (Entails.of_eq (sems_eq (F := F) fun o => iprop(atPos ER (kcell (c, o)) 0 ∅ 0 ∗ reached ER (kcell (c, o)) 0))) $$ H
    icases H with ⟨⟨Ha, #Hr⟩, H⟩
    isplitl [Ha H]
    · iapply (Entails.of_eq (sems_eq (F := F) fun o => iprop(atPos ER (kcell (c, o)) 0 ∅ 0 ∗ reached ER (kcell (c, o)) 0)).symm)
      isplitl [Ha]
      · isplitl [Ha]; · iexact Ha
        iexact Hr
      iexact H
    iexact Hr
  have hR : (bigSep Finset.univ fun c : Dev nD => bigSep Finset.univ fun o : Option Key => (iprop(atPos ER (kcell (c, o)) 0 ∅ 0 ∗ reached ER (kcell (c, o)) 0) : sProp 𝕄))
      ⊢ iprop((bigSep Finset.univ fun c : Dev nD => bigSep Finset.univ fun o : Option Key => iprop(atPos ER (kcell (c, o)) 0 ∅ 0 ∗ reached ER (kcell (c, o)) 0))
        ∗ bigSep Finset.univ fun c : Dev nD => reached ER (bar c) 0) :=
    BIBase.Entails.trans (bigSep_mono fun c _ => hr c) (Entails.of_eq (pair_eq _ _))
  rw [pair_eq, pair_eq, owed_pays, ← bigSep_univ_prod (fun p : Dev nD × Option Key => (iprop(∃ κ : ℕ, cellInv ER (sched V) κ (kcell p)) : sProp 𝕄))]
  iintro ⟨HI, Ha, Htok⟩
  ihave Ha := hR $$ Ha
  icases Ha with ⟨Ha, #HR⟩
  ihave HK := (BI.bigSep_exists_pi Finset.univ (fun (p : Dev nD × Option Key) (κ : ℕ) => (cellInv ER (sched V) κ (kcell p) : sProp 𝕄))) $$ HI
  icases HK with ⟨%K, #HI⟩
  have hs : iprop(known V K ∗ bigSep Finset.univ fun c : Dev nD => iprop((bigSep Finset.univ fun o : Option Key => iprop(atPos ER (kcell (c, o)) 0 ∅ 0 ∗ reached ER (kcell (c, o)) 0))
      ∗ bigSep Finset.univ fun l : Fin 3 => pays l.val c)) ⊢ (bigSep Finset.univ (set V) : sProp 𝕄) := by
    refine BIBase.Entails.trans (BIClass.sep_mono (BI.bigSep_of_persistent (Finset.univ : Finset (Dev nD)) (known V K)) .rfl) ?_
    refine BIBase.Entails.trans (Entails.of_eq (pair_eq _ _).symm) ?_
    exact bigSep_mono fun c _ => set_intro V K c
  iapply hs
  isplitr
  · unfold known
    isplitr; · iexact HI
    iexact HR
  iapply (Entails.of_eq (pair_eq _ _).symm)
  isplitl [Ha]; · iexact Ha
  iexact Htok

/-- Every device's semaphores become the rings'. -/
theorem glob : (bigSep Finset.univ fun c => iprop(Pipeline.ownSems0 (Ix := ℕ) (Name := ℕ) (U := UU) (Lvl := ℕ) (Val := Elt F) (τ := τ) osem c ∗ unscopedSems0 c ∗ dealt V c) : sProp 𝕄)
    ⊢ |={Set.univ}=> bigSep Finset.univ (set V) :=
  ((bigSep_mono fun c _ => core_alloc V c).trans (bigSep_fupd _ _)).trans (BI.fupd_mono (regroup V))

/-! ## The credit -/

/-- The credit for a key's wait: a receiving semaphore's comes from the launch, a sending one's from the transfer. -/
def credit (κ : Key) : sProp 𝕄 := if κ.2.1 then cred (tallyAt (kcell (c, some κ)) ℓ (amt κ.1 κ.2.2.1)) else iprop(emp)

def credits : sProp 𝕄 := iprop(cred (tallyAt (bar c) ℓ 2) ∗ bigSep Finset.univ fun κ : Key => credit ℓ c κ)

omit [FloatOps F] in
theorem launch_dues (m d : Bool) (s : Fin 2) : (Pipeline.launchCred (fun e => dues m d s e ℓ 0) c : sProp 𝕄)
    ⊢ bigSep Finset.univ fun i : Fin 15 => cred (tallyAt (kcell (c, some (m, true, d, i, s))) ℓ (amt m d)) := by
  unfold dues
  rw [since_zero, Pipeline.launchCred_sum]
  exact bigSep_mono fun i _ => Pipeline.launchCred_tallyAt (csem (some (m, true, d, i, s))) (nbr d) (nbr (!d)) (nbr_nbr d) (nbr_nbr' d) ℓ (amt m d) c

omit [FloatOps F] in
theorem launch_debt : (Pipeline.launchCred (debt ℓ) c : sProp 𝕄) ⊢ credits ℓ c := by
  have hk : (bigSep Finset.univ fun κ : Key => (credit ℓ c κ : sProp 𝕄)) = quad fun d s => iprop((bigSep Finset.univ fun i : Fin 15 => cred (tallyAt (kcell (c, some (false, true, d, i, s))) ℓ (amt false d)))
      ∗ bigSep Finset.univ fun i : Fin 15 => cred (tallyAt (kcell (c, some (true, true, d, i, s))) ℓ (amt true d))) := by
    rw [keys_eq]
    refine quad_eq fun d s => ?_
    rw [← pair_eq]
    refine bigSep_congr fun i _ => ?_
    unfold credit
    refine same ?_ ?_
    · show iprop(emp ∗ cred (tallyAt (kcell (c, some (false, true, d, i, s))) ℓ (amt false d)) ∗ emp ∗ cred (tallyAt (kcell (c, some (true, true, d, i, s))) ℓ (amt true d))) ⊢ _
      iintro ⟨-, A, -, B⟩
      isplitl [A] <;> iassumption
    · show _ ⊢ iprop(emp ∗ cred (tallyAt (kcell (c, some (false, true, d, i, s))) ℓ (amt false d)) ∗ emp ∗ cred (tallyAt (kcell (c, some (true, true, d, i, s))) ℓ (amt true d)))
      iintro ⟨A, B⟩
      isplitr; · iempintro
      isplitl [A]; · iexact A
      isplitr; · iempintro
      iexact B
  have hb : iprop(cred (tallyAt (bar c) ℓ 1) ∗ cred (tallyAt (bar c) ℓ 1)) ⊢ (cred (tallyAt (bar c) ℓ 2) : sProp 𝕄) :=
    BIBase.Entails.trans (cred_add _ _).2 (Entails.of_eq (congrArg cred (tallyAt_add (bar c) ℓ 1 1)))
  have hn : ∀ d : Bool, (Pipeline.launchCred (fun e => tallyAt (bar (nbr d e)) ℓ 1) c : sProp 𝕄) ⊢ cred (tallyAt (bar c) ℓ 1) := fun d =>
    Pipeline.launchCred_tallyAt (csem none) (nbr d) (nbr (!d)) (nbr_nbr d) (nbr_nbr' d) ℓ 1 c
  unfold debt duesAt credits
  rw [hk, Pipeline.launchCred_add, Pipeline.launchCred_add, Pipeline.launchCred_add, Pipeline.launchCred_add, Pipeline.launchCred_add, Pipeline.launchCred_add,
    Pipeline.launchCred_add, Pipeline.launchCred_add, Pipeline.launchCred_add]
  unfold quad
  iintro ⟨⟨⟨⟨⟨⟨A1, A2⟩, A3⟩, A4⟩, ⟨⟨⟨B1, B2⟩, B3⟩, B4⟩⟩, b1⟩, b2⟩
  isplitl [b1 b2]
  · iapply hb
    isplitl [b1]; · iapply (hn true); iexact b1
    iapply (hn false); iexact b2
  isplitl [A1 B1]
  · isplitl [A1]; · iapply (launch_dues ℓ c false true 0); iexact A1
    iapply (launch_dues ℓ c true true 0); iexact B1
  isplitl [A2 B2]
  · isplitl [A2]; · iapply (launch_dues ℓ c false true 1); iexact A2
    iapply (launch_dues ℓ c true true 1); iexact B2
  isplitl [A3 B3]
  · isplitl [A3]; · iapply (launch_dues ℓ c false false 0); iexact A3
    iapply (launch_dues ℓ c true false 0); iexact B3
  isplitl [A4]; · iapply (launch_dues ℓ c false false 1); iexact A4
  iapply (launch_dues ℓ c true false 1); iexact B4

omit [FloatOps F] in
/-- What a layer uses up is the duties it pays and the credit for its waits. -/
theorem stocks_intro : iprop(pays ℓ c ∗ credits ℓ c) ⊢ (stocks ℓ c : sProp 𝕄) := by
  have h : (iprop((bigSep Finset.univ fun κ : Key => dutyTok ER (kcell (payer κ c, some κ)) ℓ true) ∗ bigSep Finset.univ fun κ : Key => credit ℓ c κ) : sProp 𝕄)
      ⊢ quad fun d s => bigSep Finset.univ fun i => stock ℓ d s c i := by
    rw [← pair_eq, keys_eq]
    refine quad_mono fun d s => bigSep_mono fun i _ => ?_
    unfold stock credit payer
    show iprop((dutyTok ER (kcell (c, some (false, false, d, i, s))) ℓ true ∗ emp) ∗ (dutyTok ER (kcell (nbr d c, some (false, true, d, i, s))) ℓ true ∗ cred (tallyAt (kcell (c, some (false, true, d, i, s))) ℓ (amt false d)))
      ∗ (dutyTok ER (kcell (c, some (true, false, d, i, s))) ℓ true ∗ emp) ∗ (dutyTok ER (kcell (nbr d c, some (true, true, d, i, s))) ℓ true ∗ cred (tallyAt (kcell (c, some (true, true, d, i, s))) ℓ (amt true d)))) ⊢ _
    iintro ⟨⟨A, -⟩, ⟨B, C⟩, ⟨D, -⟩, E, G⟩
    isplitl [A]; · iexact A
    isplitl [B]; · iexact B
    isplitl [C]; · iexact C
    isplitl [D]; · iexact D
    isplitl [E] <;> iassumption
  unfold pays credits stocks
  iintro ⟨⟨A, B, C⟩, D, E⟩
  isplitl [C E]
  · iapply h
    isplitl [C] <;> iassumption
  isplitl [A]; · iexact A
  isplitl [B] <;> iassumption

/-- What a device starts from. -/
def begins (c : Dev nD) : sProp 𝕄 :=
  iprop(∃ K, inv V K ∗ seats 0 c ∗ atPos ER (bar c) 0 ∅ 0 ∗ reached ER (bar (nbr true c)) 0 ∗ reached ER (bar (nbr false c)) 0
    ∗ (stocks 0 c ∗ stocks 1 c ∗ stocks 2 c))

theorem begins_intro : iprop(levAts L lv ∗ Pipeline.launchCred debts c ∗ set V c) ⊢ (begins V c : sProp 𝕄) := by
  have hl : (Pipeline.launchCred debts c : sProp 𝕄) ⊢ iprop((credits 2 c ∗ credits 1 c) ∗ credits 0 c) := by
    unfold debts
    rw [Pipeline.launchCred_add, Pipeline.launchCred_add]
    exact BIClass.sep_mono (BIClass.sep_mono (launch_debt 2 c) (launch_debt 1 c)) (launch_debt 0 c)
  have hp : (bigSep Finset.univ fun l : Fin 3 => (pays l.val c : sProp 𝕄)) ⊢ iprop(pays 0 c ∗ pays 1 c ∗ pays 2 c) :=
    Entails.of_eq (bigSep_univ_eq_bigSepL [0, 1, 2] (by decide) (by decide) _)
  unfold set begins inv
  iintro ⟨Hl, Hc, ⟨%K, HI, Hs, Ha, r1, r2, Hp⟩⟩
  ihave Hc := hl $$ Hc
  ihave Hp := hp $$ Hp
  icases Hc with ⟨⟨c2, c1⟩, c0⟩
  icases Hp with ⟨p0, p1, p2⟩
  iexists K
  isplitl [HI Hl]
  · isplitl [HI] <;> iassumption
  isplitl [Hs]; · iexact Hs
  isplitl [Ha]; · iexact Ha
  isplitl [r1]; · iexact r1
  isplitl [r2]; · iexact r2
  isplitl [c0 p0]
  · iapply (stocks_intro 0 c)
    isplitl [p0] <;> iassumption
  isplitl [c1 p1]
  · iapply (stocks_intro 1 c)
    isplitl [p1] <;> iassumption
  iapply (stocks_intro 2 c)
  isplitl [p2] <;> iassumption

end Cert.KernelIdeal.Ring
-- ==== Proof.KernelIdeal.Main.lean ====
module

public import proofs.«01_k».proof.Proof.KernelIdeal.Start
public import proofs.«01_k».proof.Proof.Gen.KernelIdeal.Frame
public import Idealize.ShloMosaic.Lib.Pipeline.CollectiveSegs

/-!
The whole run: every device's kernel, launched together.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Own

variable {F : FTy → Type} [FloatOps F]

local notation "𝕄" => MT nD τ sig ℕ (Elt F) ℕ UU ℕ

variable (m : (ℓ : Loc nD τ sig) → Buf (Elt F) ℓ) (ρ : Dev nD → PrngReg)

/-- What the devices' argument arrays hold. -/
def vals : Vals F where
  x c := (win0_0.blk (0 : Fin 1)).view.read (Elt F) (m ((c : Thread nD τ).loc main_arg0))
  win ℓ c := match ℓ with
    | 0 => (win0_1.blk (0 : Fin 1)).view.read (Elt F) (m ((c : Thread nD τ).loc main_arg1))
    | 1 => (win0_3.blk (0 : Fin 1)).view.read (Elt F) (m ((c : Thread nD τ).loc main_arg2))
    | _ => (win0_5.blk (0 : Fin 1)).view.read (Elt F) (m ((c : Thread nD τ).loc main_arg3))
  wout ℓ c := match ℓ with
    | 0 => (win0_2.blk (0 : Fin 1)).view.read (Elt F) (m ((c : Thread nD τ).loc main_arg4))
    | 1 => (win0_4.blk (0 : Fin 1)).view.read (Elt F) (m ((c : Thread nD τ).loc main_arg5))
    | _ => (win0_6.blk (0 : Fin 1)).view.read (Elt F) (m ((c : Thread nD τ).loc main_arg6))

def Φ₀ (c : Dev nD) : sProp 𝕄 := iprop(begins (vals m) c ∗ bufs c)
def Φ₁ (c : Dev nD) : sProp 𝕄 := iprop(bufs c ∗ bigSep Finset.univ fun o : Option Key => semVal (kcell (c, o)) 0)

def dats (_ : Fin 1) (c : Dev nD) : Dat τ (Elt F) ℕ ℕ UU ℕ cfg0 c where
  A w := m ((cfg0.win w).arr.view.loc (c : Thread nD τ))
  after w _ := match w with
    | ⟨0, _⟩ => (vals m).x c
    | ⟨1, _⟩ => (vals m).win 0 c
    | ⟨2, _⟩ => (vals m).wout 0 c
    | ⟨3, _⟩ => (vals m).win 1 c
    | ⟨4, _⟩ => (vals m).wout 1 c
    | ⟨5, _⟩ => (vals m).win 2 c
    | ⟨6, _⟩ => (vals m).wout 2 c
    | ⟨7, _⟩ => outV (vals m) c
  Φ t := match t with
    | ⟨0, _⟩ => Φ₀ m c
    | ⟨_ + 1, _⟩ => Φ₁ c
  q _ := fullShare
  owed t := match t with
    | ⟨0, _⟩ => debts c
    | ⟨_ + 1, _⟩ => 0

/-! ## The body's obligation -/

def point : Fin cfg0.N := t0_0

def pre (c : Dev nD) : sProp 𝕄 :=
  iprop(Φ₀ m c ∗ (dats m 0 c).owesAt 0 point.castSucc
    ∗ (∃ d, owns (c : Thread nD τ) B₀.x fullShare ((dats m 0 c).before (0 : Fin 8) point d))
    ∗ (∃ d, owns (c : Thread nD τ) B₀.win0 fullShare ((dats m 0 c).before (1 : Fin 8) point d))
    ∗ (∃ d, owns (c : Thread nD τ) B₀.wout0 fullShare ((dats m 0 c).before (2 : Fin 8) point d))
    ∗ (∃ d, owns (c : Thread nD τ) B₀.win1 fullShare ((dats m 0 c).before (3 : Fin 8) point d))
    ∗ (∃ d, owns (c : Thread nD τ) B₀.wout1 fullShare ((dats m 0 c).before (4 : Fin 8) point d))
    ∗ (∃ d, owns (c : Thread nD τ) B₀.win2 fullShare ((dats m 0 c).before (5 : Fin 8) point d))
    ∗ (∃ d, owns (c : Thread nD τ) B₀.wout2 fullShare ((dats m 0 c).before (6 : Fin 8) point d))
    ∗ (∃ d, owns (c : Thread nD τ) B₀.out fullShare ((dats m 0 c).before (7 : Fin 8) point d)))

def post (c : Dev nD) : sProp 𝕄 :=
  iprop(Φ₁ c ∗ (dats m 0 c).owesAt 0 point.succ
    ∗ owns (c : Thread nD τ) B₀.x fullShare ((vals m).x c)
    ∗ owns (c : Thread nD τ) B₀.win0 fullShare ((vals m).win 0 c)
    ∗ owns (c : Thread nD τ) B₀.wout0 fullShare ((vals m).wout 0 c)
    ∗ owns (c : Thread nD τ) B₀.win1 fullShare ((vals m).win 1 c)
    ∗ owns (c : Thread nD τ) B₀.wout1 fullShare ((vals m).wout 1 c)
    ∗ owns (c : Thread nD τ) B₀.win2 fullShare ((vals m).win 2 c)
    ∗ owns (c : Thread nD τ) B₀.wout2 fullShare ((vals m).wout 2 c)
    ∗ owns (c : Thread nD τ) B₀.out fullShare (outV (vals m) c))

theorem before_x (c : Dev nD) (d) : (dats m 0 c).before (0 : Fin 8) point d = (vals m).x c := by
  unfold Dat.before; rw [if_pos (fetch0_0 _)]; rfl
theorem before_win0 (c : Dev nD) (d) : (dats m 0 c).before (1 : Fin 8) point d = (vals m).win 0 c := by
  unfold Dat.before; rw [if_pos (fetch0_1 _)]; rfl
theorem before_wout0 (c : Dev nD) (d) : (dats m 0 c).before (2 : Fin 8) point d = (vals m).wout 0 c := by
  unfold Dat.before; rw [if_pos (fetch0_2 _)]; rfl
theorem before_win1 (c : Dev nD) (d) : (dats m 0 c).before (3 : Fin 8) point d = (vals m).win 1 c := by
  unfold Dat.before; rw [if_pos (fetch0_3 _)]; rfl
theorem before_wout1 (c : Dev nD) (d) : (dats m 0 c).before (4 : Fin 8) point d = (vals m).wout 1 c := by
  unfold Dat.before; rw [if_pos (fetch0_4 _)]; rfl
theorem before_win2 (c : Dev nD) (d) : (dats m 0 c).before (5 : Fin 8) point d = (vals m).win 2 c := by
  unfold Dat.before; rw [if_pos (fetch0_5 _)]; rfl
theorem before_wout2 (c : Dev nD) (d) : (dats m 0 c).before (6 : Fin 8) point d = (vals m).wout 2 c := by
  unfold Dat.before; rw [if_pos (fetch0_6 _)]; rfl

/-- A program's end, and an update after it. -/
theorem run_update {c : Dev nD} {P : sProp 𝕄} {p : Code F PUnit} {R : PUnit → sProp 𝕄} (h : P ⊢ Ends c p R) {Q : PUnit → sProp 𝕄}
    (hu : ∀ a, R a ⊢ (|={Set.univ}=> Q a : sProp 𝕄)) : P ⊢ Ends c p Q := by
  have e : p = p >>= fun a => pure a := (bind_pure p).symm
  rw [e]
  iintro H
  iapply (run h) $$ H
  iintro %a Ha
  imod (hu a) $$ Ha with Ha
  iapply (ends_pure (a := a) (Q := Q))
  iexact Ha

theorem pre_run (c : Dev nD) : pre m c ⊢ Ends c (body B₀) fun _ => post m c := by
  have hend : ∀ K, iprop(inv (vals m) K ∗ quad (fun d s => room d c s 0) ∗ between 3 c) ⊢ (|={Set.univ}=> Φ₁ c : sProp 𝕄) := fun K => by
    iintro ⟨#HI, Hq, Hb⟩
    ihave H := (between_elim (F := F) 3 c) $$ [Hq Hb]
    · isplitl [Hq] <;> iassumption
    icases H with ⟨Hu, Ha⟩
    imod (close_cells (vals m) K c) $$ [Ha] with Hz
    · isplitr; · iexact HI
      iexact Ha
    imodintro
    unfold Φ₁
    isplitl [Hu] <;> iassumption
  have hrun : ∀ K, iprop(inv (vals m) K ∗ inputs (vals m) c fullShare ∗ any (c : Thread nD τ) B₀.out ∗ quad (fun d s => room d c s 0) ∗ between 0 c ∗ (stocks 0 c ∗ stocks 1 c ∗ stocks 2 c) ∗ Owes c (debts c))
      ⊢ Ends c (body B₀) fun _ => iprop(inputs (vals m) c fullShare ∗ owns (c : Thread nD τ) B₀.out fullShare (outV (vals m) c) ∗ Φ₁ c ∗ Owes c 0) := fun K => by
    refine run_update (R := fun _ => iprop(inv (vals m) K ∗ inputs (vals m) c fullShare ∗ owns (c : Thread nD τ) B₀.out fullShare (outV (vals m) c) ∗ quad (fun d s => room d c s 0) ∗ between 3 c ∗ Owes c 0)) ?_ ?_
    · iintro ⟨#HI, H⟩
      iapply (run_last (body_run (vals m) K c fullShare)) $$ [H]
      · isplitr; · iexact HI
        iexact H
      iintro %_ H
      isplitr; · iexact HI
      iexact H
    intro _
    iintro ⟨#HI, A, B, C, D, E⟩
    imod (hend K) $$ [C D] with G
    · isplitr; · iexact HI
      isplitl [C] <;> iassumption
    imodintro
    isplitl [A]; · iexact A
    isplitl [B]; · iexact B
    isplitl [G] <;> iassumption
  unfold pre Φ₀ begins
  simp only [before_x, before_win0, before_wout0, before_win1, before_wout1, before_win2, before_wout2]
  iintro ⟨⟨⟨%K, #HI, Hs, Ha, r1, r2, Hst⟩, Hu⟩, Ho, ⟨%_, i0⟩, ⟨%_, i1⟩, ⟨%_, i2⟩, ⟨%_, i3⟩, ⟨%_, i4⟩, ⟨%_, i5⟩, ⟨%_, i6⟩, ⟨%_, i7⟩⟩
  ihave Hb := (between_intro (F := F) 0 c) $$ [Hs Ha r1 r2 Hu]
  · isplitl [Hu]; · iexact Hu
    isplitl [Hs]; · iexact Hs
    isplitl [Ha]; · iexact Ha
    isplitl [r1] <;> iassumption
  icases Hb with ⟨Hq, Hb⟩
  unfold Dat.owesAt Pipeline.owesWithin
  icases Ho with ⟨%W, %hW, HO⟩
  iapply (run_last (hrun K)) $$ [i0 i1 i2 i3 i4 i5 i6 i7 Hq Hb Hst HO]
  · isplitr; · iexact HI
    isplitl [i0 i1 i2 i3 i4 i5 i6]
    · unfold inputs given
      isplitl [i0]; · iexact i0
      isplitl [i1 i2]; · isplitl [i1] <;> iassumption
      isplitl [i3 i4]; · isplitl [i3] <;> iassumption
      isplitl [i5] <;> iassumption
    isplitl [i7]; · iapply (any_intro (c : Thread nD τ) B₀.out _); iexact i7
    isplitl [Hq]; · iexact Hq
    isplitl [Hb]; · iexact Hb
    isplitl [Hst]; · iexact Hst
    unfold Owes
    iexists W
    iexact HO
  iintro %_ ⟨A, B, C, D⟩
  unfold post inputs given Dat.owesAt Pipeline.owesWithin Owes
  icases D with ⟨%W', D⟩
  icases A with ⟨i0, ⟨i1, i2⟩, ⟨i3, i4⟩, i5, i6⟩
  isplitl [C]; · iexact C
  isplitl [D]
  · iexists W'
    isplitr; · ipureintro; exact fun _ _ => Or.inl trivial
    iexact D
  isplitl [i0]; · iexact i0
  isplitl [i1]; · iexact i1
  isplitl [i2]; · iexact i2
  isplitl [i3]; · iexact i3
  isplitl [i4]; · iexact i4
  isplitl [i5]; · iexact i5
  isplitl [i6]; · iexact i6
  iexact B

set_option maxRecDepth 100000 in
set_option maxHeartbeats 2000000 in
theorem pre_body (c : Dev nD) : pre m c ⊢ Ends c (bodyAt0 point) fun _ => post m c := by
  have h := pre_run m c
  unfold bodyAt0
  rw [body_eq]
  exact h

set_option maxRecDepth 100000 in
set_option maxHeartbeats 2000000 in
/-- The library's body obligation at a device. -/
theorem body_obligation (c : Dev nD) : BodyObligation (dats m 0 c) (defs₀ (F := F)) 𝒱₀ 0 Set.univ := fun t => by
  rw [fin_N0 t]
  rw [bigSep_W0, bigSep_W0]
  exact pre_body m c

/-! ## The launch -/

theorem lv_stage (c : Dev nD) (q : DmaSem sig) (hq : q.val < 8) (ι : ℕ) : lv ((c : Thread nD τ), .dma q) ι = 0 := by
  have h : dec (.dma q) = none := by
    unfold dec
    rw [dif_neg]
    rintro ⟨κ, h⟩
    rcases κ with _ | κ
    · cases h
    · have h' : dsem κ = q := SemLoc.dma.inj h
      have := dsem_val κ
      rw [h'] at this
      omega
  dsimp only [lv]
  rw [h]

theorem above_debts (c : Dev nD) : Above 0 (debts c) :=
  above_add (above_add (above_mono (Nat.zero_le _) (above_debt 2 c (by decide))) (above_mono (Nat.zero_le _) (above_debt 1 c (by decide))))
    (above_debt 0 c (by decide))

theorem stage_sem : ∀ (w : Fin 8) (s : Fin (win0 w).nbuf), ((win0 w).sem s).val < 8 := by decide

theorem stage_waits (c : Dev nD) : (levAts L lv : sProp 𝕄) ⊢ Pipeline.cellsWaits cfgs (dats m) 0 0 c :=
  Pipeline.cellsWaits_intro cfgs (dats m) 0 0 c fun w s t => by
    have hl := lv_stage c (((cfgs 0).win w).sem s) (stage_sem w s) 0
    rcases t with ⟨_ | _, ht⟩
    · exact mayWait (above_debts c) c _ 0 (by decide) (Nat.le_of_eq hl)
    · exact mayWait (above_zero 0) c _ 0 (by decide) (Nat.le_of_eq hl)

theorem share_eq (c : Dev nD) (w : Fin cfg0.W) : (dats m 0 c).share w = fullShare := by unfold Dat.share; split <;> rfl

theorem ownSemFacts : Pipeline.OwnSemFacts spec0 osem where
  isScoped := by decide
  inj := fun κ κ' h => dsem_injective (SemLoc.dma.inj h)
  disj := fun κ w s h => by
    have h' := SemLoc.dma.inj h
    have h1 := dsem_val κ
    have h2 := stage_sem w s
    rw [h'] at h1
    have h3 : (((spec0 w).sem s).val) = ((win0 w).sem s).val := rfl
    omega

def u₀ : UU :=
  (initOf (Pipeline.cells cfgs cellOf_inj) (Pipeline.launchToks cfgs cellOf_inj), initOf cells duties₀)

theorem begins_launch (c : Dev nD) :
    iprop(Pipeline.unscopedRestP Pipeline.Prefetch.none cfg0.spec c (fun b => m ((c : Thread nD τ).loc b)) ∗ levAts L lv
        ∗ Pipeline.launchCred debts c ∗ prngReg c (ρ c) ∗ set (vals m) c)
      ⊢ |={Set.univ}=> iprop(begins (vals m) c ∗ emp) := by
  iintro ⟨-, Hl, Hc, -, HG⟩
  imodintro
  isplitl
  · iapply (begins_intro (vals m) c)
    isplitl [Hl]; · iexact Hl
    isplitl [Hc] <;> iassumption
  · iempintro

theorem phi_first (c : Dev nD) :
    iprop(begins (vals m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = bufs c from scratch_eq c]
  unfold Φ₀
  iintro ⟨Hs, -, Hr⟩
  isplitl [Hs] <;> iassumption

theorem phi_last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = bufs c from scratch_eq c]
  unfold Φ₁
  iintro ⟨Hr, Hz⟩
  ihave Hz := (Entails.of_eq (sems0_eq (F := F) c).symm) $$ Hz
  icases Hz with ⟨Hb, Hz⟩
  isplitl [Hb]; · iexact Hb
  isplitl [Hz] <;> iassumption

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- Every fair run of the program on the sixteen devices ends; then the arrays hold what the pipeline's account of them says, and
    every semaphore is at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := debts) (howed₀ := fun _ => rfl) (howedN := fun _ => rfl)
    (L := L) (lv := lv) (hL := L_of_ne) (hwaits := stage_waits m)
    (G := dealt (vals m)) (G' := set (vals m)) (u₀ := u₀)
    (hu₀ := by
      unfold u₀
      iintro Hu
      ihave H := (ownU_pair _ _) $$ Hu
      icases H with ⟨HP, HX⟩
      imod (fund_rounds (vals m)) $$ HX with HG
      imodintro
      isplitl [HP] <;> iassumption)
    (hglob := glob (vals m))
    (hA := fun _ _ => rfl) (hpf := fun _ k => k.elim0)
    (X := begins (vals m)) (Y := fun c => unscopedSems0 c) (Z := fun _ => iprop(emp))
    (hX := begins_launch m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What the result holds at the end. -/
def final (c : Dev nD) : Vec F S256x256 .f32 := finalA m c (7 : Fin 8)

/-- The run, as the claims state it. -/
theorem run_all : θ_run defs (onTc (τ := τ) (main (F := F))) ⟨m, fun _ => 0, ρ⟩ (fun r => (∀ c : Dev nD,
      r.2.mem ((c.tc : Thread nD τ).loc main_v1) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨h.1 c 7,
      (h.1 c 0).trans ((dats m 0 c).arrAt_in 0 rfl _),
      (h.1 c 1).trans ((dats m 0 c).arrAt_in 1 rfl _),
      (h.1 c 3).trans ((dats m 0 c).arrAt_in 3 rfl _),
      (h.1 c 5).trans ((dats m 0 c).arrAt_in 5 rfl _),
      (h.1 c 2).trans ((dats m 0 c).arrAt_in 2 rfl _),
      (h.1 c 4).trans ((dats m 0 c).arrAt_in 4 rfl _),
      (h.1 c 6).trans ((dats m 0 c).arrAt_in 6 rfl _)⟩, h.2⟩) (run_main m ρ)

end Cert.KernelIdeal.Ring
-- ==== Proof.Dense.lean ====
module

public import Idealize.ShloMosaic.Lib.MatmulPlain

/-!
One layer of the network on one row, as sums over the extended reals, and the same layer with the hidden units cut
into sixteen equal parts.
-/

@[expose] public section

noncomputable section

namespace Cert.Dense

open Idealize.ShloMosaic Idealize.ShloMosaic.ValueIdx
open scoped BigOperators

/-- One row through a layer of `b` hidden units: a product, nothing below zero, and a product back. -/
def rowOut {b : ℕ} (x : Fin 256 → EReal) (wi : Fin 256 → Fin b → EReal) (wo : Fin b → Fin 256 → EReal) (j : Fin 256) : EReal :=
  ∑ k : Fin b, max (∑ l : Fin 256, x l * wi l k) 0 * wo k j

/-- Hidden unit `k` of part `e`, among all of them. -/
def unit (e : Fin 16) (k : Fin 512) : Fin 8192 := ⟨e.val * 512 + k.val, by omega⟩

/-- Every hidden unit is one unit of one part. -/
def unitEquiv : Fin 16 × Fin 512 ≃ Fin 8192 where
  toFun p := unit p.1 p.2
  invFun n := (⟨n.val / 512, by omega⟩, ⟨n.val % 512, by omega⟩)
  left_inv p := by
    obtain ⟨e, k⟩ := p
    refine Prod.ext (Fin.ext ?_) (Fin.ext ?_)
    · show (e.val * 512 + k.val) / 512 = e.val
      omega
    · show (e.val * 512 + k.val) % 512 = k.val
      omega
  right_inv n := Fin.ext (by
    show n.val / 512 * 512 + n.val % 512 = n.val
    omega)

/-- The whole layer is the sum of the parts' layers. -/
theorem rowOut_parts (x : Fin 256 → EReal) (wi : Fin 256 → Fin 8192 → EReal) (wo : Fin 8192 → Fin 256 → EReal) (j : Fin 256) :
    rowOut x wi wo j = ∑ e : Fin 16, rowOut x (fun l k => wi l (unit e k)) (fun k j => wo (unit e k) j) j := by
  unfold rowOut
  rw [← Equiv.sum_comp unitEquiv, Fintype.sum_prod_type]
  rfl

/-- A layer as the two products of arrays, read at one element. -/
theorem products_apply {a b : ℕ} {φ₁ φ₂ φ₃ φ₄ : FTy} (x : FVec Ideal ⟨2, ![a, 256]⟩ φ₁) (wi : FVec Ideal ⟨2, ![256, b]⟩ φ₂)
    (wo : FVec Ideal ⟨2, ![b, 256]⟩ φ₃) (h : FVec Ideal ⟨2, ![a, b]⟩ φ₄)
    (hh : ∀ (r : Fin a) (k : Fin b), h (ix2 r k) = max (FloatOps.matmul (DotDims.plain a 256 b) none x wi (fun _ => (0 : EReal)) (ix2 r k)) (0 : EReal))
    (r : Fin a) (j : Fin 256) :
    FloatOps.matmul (DotDims.plain a b 256) none h wo (fun _ => (0 : EReal)) (ix2 r j)
      = rowOut (fun l => x (ix2 r l)) (fun l k => wi (ix2 l k)) (fun k j => wo (ix2 k j)) j := by
  rw [Ideal.matmul_plain_apply, zero_add]
  unfold rowOut
  refine Finset.sum_congr rfl fun k _ => ?_
  rw [hh, Ideal.matmul_plain_apply, zero_add]

end Cert.Dense

end
-- ==== Proof.KernelIdeal.Value.lean ====
module

public import proofs.«01_k».proof.Proof.KernelIdeal.Proto
public import proofs.«01_k».proof.Proof.KernelIdeal.Round
public import proofs.«01_k».proof.Proof.Dense
public import Idealize.ShloMosaic.Lib.Pipeline.Value
public import Idealize.ShloMosaic.Lib.ValueIdx
public import Idealize.ShloMosaic.Lib.Layout

/-!
What the kernel computes, over the extended reals: a device's block of rows ends as those rows taken through the
three whole layers.
-/

@[expose] public section

noncomputable section

namespace Cert.KernelIdeal.Ring

open Idealize.ShloMosaic Idealize.ShloMosaic.ValueIdx
open Cert.KernelIdeal.Gen Cert.Dense
open scoped BigOperators

/-! ## The sums around the ring -/

/-- A device's partial sum, after `t` additions, holds the products of the last `t + 1` devices before its owner. -/
theorem psumOf_apply (pr : Dev nD → Dev nD → FVec Ideal S128x256 .f32) (d : Bool) (c : Dev nD) (i : S128x256.Idx) (t : ℕ) (e : Dev nD)
    (h : org d e (t + 1) = c) : psumOf pr d t e i = ∑ s ∈ Finset.range (t + 1), pr (org d e s) c i := by
  induction t generalizing e with
  | zero =>
    subst h
    rw [Finset.sum_range_one]
    rfl
  | succ t ih =>
    show pr e (org d e (t + 2)) i + psumOf pr d t (nbr (!d) e) i = _
    have h' : org d (nbr (!d) e) (t + 1) = c := by rw [org_nbr]; exact h
    rw [ih _ h', Finset.sum_range_succ' _ (t + 1), add_comm, show org d e (t + 2) = c from h]
    refine congrArg₂ (· + ·) ?_ rfl
    exact Finset.sum_congr rfl fun s _ => by rw [org_nbr]

/-- Sixteen steps come back. -/
theorem org_back (d : Bool) (c : Dev nD) : org d c 16 = c := by
  revert d c; decide

/-- The sixteen places visited are all the devices. -/
theorem org_injective (d : Bool) (c : Dev nD) : Function.Injective fun k : Fin 16 => org d c k.val := by
  have h : ∀ (d : Bool) (c : Dev nD) (a b : Fin 16), org d c a.val = org d c b.val → a = b := by decide
  exact fun a b => h d c a b

/-- A finished sum is the sum of every device's product. -/
theorem finOf_apply (pr : Dev nD → Dev nD → FVec Ideal S128x256 .f32) (d : Bool) (c : Dev nD) (i : S128x256.Idx) :
    finOf pr d c i = ∑ e : Dev nD, pr e c i := by
  show pr c c i + psumOf pr d 14 (nbr (!d) c) i = _
  have h : org d (nbr (!d) c) (14 + 1) = c := by rw [org_nbr]; exact org_back d c
  rw [psumOf_apply pr d c i 14 _ h]
  have e : ∑ k : Fin 16, pr (org d c k.val) c i = ∑ e : Dev nD, pr e c i :=
    Function.Bijective.sum_comp (Finite.injective_iff_bijective.mp (org_injective d c)) (fun e : Dev nD => pr e c i)
  rw [← e, Fin.sum_univ_eq_sum_range (fun k => pr (org d c k) c i) 16, Finset.sum_range_succ' _ 15, add_comm]
  refine congrArg₂ (· + ·) ?_ rfl
  exact Finset.sum_congr rfl fun s _ => by rw [org_nbr]

/-! ## A block's product -/

/-- A block as it is read for a product. -/
def unpack (x : Vec Ideal S1x2x64x256 .bf16) : FVec Ideal S128x256 .bf16 :=
  shapeCast S128x256 (shapeCast S2x64x256 x shapeCasts_S1x2x64x256_S2x64x256) shapeCasts_S2x64x256_S128x256

theorem unpack_pack (v : FVec Ideal S128x256 .f32) : unpack (pack v) = v := by
  unfold unpack pack
  rw [shapeCast_shapeCast, shapeCast_shapeCast]
  rfl

theorem mlp_apply (x : Vec Ideal S1x2x64x256 .bf16) (wi : Vec Ideal S256x512 .bf16) (wo : Vec Ideal S512x256 .bf16) (r : Fin 128) (j : Fin 256) :
    mlp x wi wo (ix2 r j) = rowOut (fun l => unpack x (ix2 r l)) (fun l k => wi (ix2 l k)) (fun k j => wo (ix2 k j)) j := by
  have z : ∀ s : Shape, (constant (F := Ideal) s .f32 0x00000000#32 : s.Idx → EReal) = fun _ => 0 := fun s => funext fun i => Ideal.ofBits_zero_f32
  unfold mlp
  rw [z, z]
  exact products_apply (unpack x) wi wo _ (fun r k => congrArg (max _) Ideal.ofBits_zero_f32) r j

theorem roundI_apply (v : Vec Ideal S256x512 .f32) : (roundI v : S256x512.Idx → EReal) = v := by
  unfold roundI
  rw [shapeCast_self, shapeCast_self]
  rfl

theorem roundO_apply (v : Vec Ideal S512x256 .f32) : (roundO v : S512x256.Idx → EReal) = v := by
  unfold roundO
  rw [shapeCast_self, shapeCast_self]
  rfl

/-! ## The layers -/

/-- A coordinate of a whole array's rectangle. -/
theorem whole_coord (n : ℕ) : 0 + 1 * n = n := by omega

section Layers

variable (V : Vals Ideal) (X : FVec Ideal ⟨2, ![4096, 256]⟩ .f32) (WI : ℕ → FVec Ideal ⟨2, ![256, 8192]⟩ .f32) (WO : ℕ → FVec Ideal ⟨2, ![8192, 256]⟩ .f32)

/-- The rows after `ℓ` whole layers. -/
def act : ℕ → Fin 4096 → Fin 256 → EReal
  | 0, r, j => X (ix2 r j)
  | ℓ + 1, r, j => rowOut (act ℓ r) (fun l k => WI ℓ (ix2 l k)) (fun k j => WO ℓ (ix2 k j)) j

/-- Where row `r` of the half of device `c`'s block that goes in direction `d` lies among all the rows. -/
def rowAt (d : Bool) (c : Dev nD) (r : Fin 128) : Fin 4096 :=
  ⟨c.val * 256 + ((if d then 0 else 128) + r.val), by have : c.val < 16 := c.isLt; cases d <;> simp <;> omega⟩

/-- Every device holds its share of the whole arrays. -/
structure Shares : Prop where
  x : ∀ c, V.x c = Layout.block ⟨2, ![256, 256]⟩ ⟨2, ![4096, 256]⟩ 0 16 c X
  wi : ∀ ℓ c, V.win ℓ c = Layout.block ⟨2, ![256, 512]⟩ ⟨2, ![256, 8192]⟩ 1 16 c (WI ℓ)
  wo : ∀ ℓ c, V.wout ℓ c = Layout.block ⟨2, ![512, 256]⟩ ⟨2, ![8192, 256]⟩ 0 16 c (WO ℓ)

variable {V X WI WO} (H : Shares V X WI WO)

include H

theorem wiV_apply (ℓ : ℕ) (c : Dev nD) (l : Fin 256) (k : Fin 512) : (wiV V ℓ c (ix2 l k) : EReal) = WI ℓ (ix2 l (unit c k)) := by
  unfold wiV
  rw [roundI_apply, H.wi]
  refine congrArg (WI ℓ) (funext fun a => ?_)
  match a with
  | ⟨0, _⟩ => exact Fin.ext ((Layout.idx_cols_val _ c _).1.trans (whole_coord l.val))
  | ⟨1, _⟩ => exact Fin.ext ((Layout.idx_cols_val _ c _).2.trans (congrArg (c.val * 512 + ·) (whole_coord k.val)))

theorem woV_apply (ℓ : ℕ) (c : Dev nD) (k : Fin 512) (j : Fin 256) : (woV V ℓ c (ix2 k j) : EReal) = WO ℓ (ix2 (unit c k) j) := by
  unfold woV
  rw [roundO_apply, H.wo]
  refine congrArg (WO ℓ) (funext fun a => ?_)
  match a with
  | ⟨0, _⟩ => exact Fin.ext ((Layout.idx_rows_val _ c _).1.trans (congrArg (c.val * 512 + ·) (whole_coord k.val)))
  | ⟨1, _⟩ => exact Fin.ext ((Layout.idx_rows_val _ c _).2.trans (whole_coord j.val))

/-- If the blocks hold the rows after `ℓ` layers, the finished sums are the rows after one more. -/
theorem fin_of_blk (ℓ : ℕ) (h : ∀ d c r l, unpack (blk V ℓ d c) (ix2 r l) = act X WI WO ℓ (rowAt d c r) l) (d : Bool) (c : Dev nD) (r : Fin 128) (j : Fin 256) :
    fin V ℓ d c (ix2 r j) = act X WI WO (ℓ + 1) (rowAt d c r) j := by
  unfold fin
  rw [finOf_apply]
  show _ = rowOut _ _ _ j
  rw [rowOut_parts]
  refine Finset.sum_congr rfl fun e _ => ?_
  unfold prod
  rw [mlp_apply]
  simp only [h, wiV_apply H, woV_apply H]

/-- The blocks that go around hold the rows after the layers so far. -/
theorem unpack_blk : ∀ (ℓ : ℕ) (d : Bool) (c : Dev nD) (r : Fin 128) (l : Fin 256),
    unpack (blk V ℓ d c) (ix2 r l) = act X WI WO ℓ (rowAt d c r) l
  | 0, d, c, r, l => by
    have e : shapeCast S128x256 (fun i => V.x c ((rowRect d).emb i)) shapeCasts_S128x256_S128x256 = fun i => V.x c ((rowRect d).emb i) := shapeCast_self _ _
    unfold blk
    rw [unpack_pack, e, H.x]
    refine congrArg X (funext fun a => ?_)
    match a with
    | ⟨0, _⟩ =>
      refine Fin.ext ((Layout.idx_rows_val _ c _).1.trans ?_)
      show c.val * 256 + (((rowRect d).emb (ix2 r l)) 0).val = c.val * 256 + ((if d then 0 else 128) + r.val)
      cases d <;> simp [Rect.emb_apply, rowOff]
    | ⟨1, _⟩ =>
      refine Fin.ext ((Layout.idx_rows_val _ c _).2.trans ?_)
      show (((rowRect d).emb (ix2 r l)) 1).val = l.val
      cases d <;> simp [Rect.emb_apply, rowOff]
  | ℓ + 1, d, c, r, l => by
    rw [blk_succ, unpack_pack]
    exact fin_of_blk H ℓ (unpack_blk ℓ) d c r l

/-- A device's result is its block of the rows after the three layers. -/
theorem outV_apply (c : Dev nD) (r : Fin 256) (j : Fin 256) (n : Fin 4096) (hn : n.val = c.val * 256 + r.val) :
    outV V c (ix2 r j) = act X WI WO 3 n j := by
  have e : halfIdx (ix2 r j) = ix2 (⟨r.val % 128, Nat.mod_lt _ (by decide)⟩ : Fin 128) j := eq_ix2 _
  show fin V 2 (decide (r.val < 128)) c (halfIdx (ix2 r j)) = _
  rw [e, fin_of_blk H 2 (unpack_blk H 2)]
  refine congrArg (fun q => act X WI WO 3 q j) (Fin.ext ?_)
  rw [hn]
  show c.val * 256 + ((if decide (r.val < 128) then 0 else 128) + r.val % 128) = _
  by_cases hr : r.val < 128
  · simp [hr, Nat.mod_eq_of_lt hr]
  · have : r.val < 256 := r.isLt
    simp [hr]; omega

end Layers

end Cert.KernelIdeal.Ring

end
-- ==== Proof.Reference.lean ====
module

public import proofs.«01_k».proof.Proof.Gen.ReferenceIdeal.Run
public import proofs.«01_k».proof.Proof.Dense
public import Idealize.ShloMosaic.Lib.ValueIdx

/-!
The reference's run, its result named as three layers, and a layer of it read at one element.
-/

@[expose] public section

noncomputable section

namespace Cert.Dense

open Idealize.ShloMosaic Idealize.ShloMosaic.ValueIdx Idealize.SL.Sem
open Cert.ReferenceIdeal Cert.ReferenceIdeal.Gen

/-- One layer as the reference writes it. -/
def refLayer (x : FVec Ideal S4096x256 .f32) (wi : FVec Ideal S256x8192 .f32) (wo : FVec Ideal S8192x256 .f32) : FVec Ideal S4096x256 .f32 :=
  Host.dotGeneral dot_S4096x8192_S8192x256_S4096x256_1_0_0_1_n_n none
    (maximumf (Host.dotGeneral dot_S4096x256_S256x8192_S4096x8192_1_0_0_1_n_n none x wi)
      (broadcastInDim S4096x8192 ![] bcast_S_S4096x8192 (constant S_ .f32 0x00000000#32))) wo

theorem refLayer_apply (x : FVec Ideal S4096x256 .f32) (wi : FVec Ideal S256x8192 .f32) (wo : FVec Ideal S8192x256 .f32) (r : Fin 4096) (j : Fin 256) :
    refLayer x wi wo (ix2 r j) = rowOut (fun l => x (ix2 r l)) (fun l k => wi (ix2 l k)) (fun k j => wo (ix2 k j)) j :=
  products_apply (φ₁ := .f32) (φ₂ := .f32) (φ₃ := .f32) (φ₄ := .f32) x wi wo _ (fun r k => congrArg (max _) Ideal.ofBits_zero_f32) r j

variable (m : (ℓ : Loc nD τ sig) → Buf (Elt Ideal) ℓ)

/-- The reference's buffer contents at the start. -/
def refArg (b : Ref sig .tc) : Buf (Elt Ideal) (((0 : Dev nD).tc : Thread nD τ).loc b) := m (((0 : Dev nD).tc : Thread nD τ).loc b)

/-- The reference's result. -/
def refOut : FVec Ideal S4096x256 .f32 :=
  refLayer (refLayer (refLayer (refArg m main_arg0) (refArg m main_arg1) (refArg m main_arg4)) (refArg m main_arg2) (refArg m main_arg5)) (refArg m main_arg3) (refArg m main_arg6)

/-- Every run of the reference ends with that result, and its arguments as they were. -/
theorem ref_run (g : Dev nD → PrngReg) :
    θ_run (defs (F := Ideal)) (onTc (τ := τ) (main (F := Ideal))) ⟨m, fun _ => 0, g⟩ (fun r =>
      r.2.mem (((0 : Dev nD).tc : Thread nD τ).loc main_v11) = refOut m
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4)
      ∧ r.2.mem (((0 : Dev nD).tc : Thread nD τ).loc main_arg5) = m (((0 : Dev nD).tc : Thread nD τ).loc main_arg5)
      ∧ r.2.mem (((0 : Dev nD).tc : Thread nD τ).loc main_arg6) = m (((0 : Dev nD).tc : Thread nD τ).loc main_arg6)) :=
  (θ_run defs _ _).mono (fun _ h => h 0) (Cert.ReferenceIdeal.Value.run (F := Ideal) m g)

end Cert.Dense

end
-- ==== Proof.Claims.lean ====
module

public import proofs.«01_k».proof.Defs
public import proofs.«01_k».proof.Proof.Kernel.Main
public import proofs.«01_k».proof.Proof.KernelIdeal.Main
public import proofs.«01_k».proof.Proof.KernelIdeal.Value
public import proofs.«01_k».proof.Proof.Reference

/-!
The claims, from the runs: what each program leaves unchanged, and the kernel's result as the reference's block.
-/

@[expose] public section

noncomputable section

namespace Cert.Proof

open Idealize.ShloMosaic Idealize.ShloMosaic.TcCoe Idealize.ShloMosaic.ValueIdx Idealize.SL.Sem
open Cert.KernelIdeal.Ring Cert.KernelIdeal.Gen Cert.Dense

/-! ## Unchanged arguments, and counters at zero -/

theorem frame_kernel : Cert.quiescent_Kernel := by
  intro m g _
  exact (θ_run Cert.Kernel.defs _ _).mono (fun _ h => ⟨fun c => (h.1 c).2, h.2⟩) (Cert.Kernel.Ring.run_all (F := Bits) m g)

theorem frame_ideal : Cert.quiescent_KernelIdeal := by
  intro m g _
  exact (θ_run Cert.KernelIdeal.defs _ _).mono (fun _ h => ⟨fun c => (h.1 c).2, h.2⟩) (Cert.KernelIdeal.Ring.run_all (F := Ideal) m g)

theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-! ## The whole arrays that the kernel's windows read and write -/

section Ideal

open Cert.KernelIdeal

variable (m : (ℓ : Loc nD τ sig) → Buf (Elt Ideal) ℓ)

theorem read0 (f : main_arg0.ty.Contents (Elt Ideal)) : (win0_0.blk (0 : Fin 1)).view.read (Elt Ideal) f = f :=
  have hz : (fun a => win0_0.index (0 : Fin 1) a * main_arg0.ty.shape.size a) = fun _ => 0 := funext fun a => by fin_cases a <;> decide
  Memref.read_access_unit_zero (Elt Ideal) main_arg0 hz (fun a => by fin_cases a <;> decide) f
theorem read1 (f : main_arg1.ty.Contents (Elt Ideal)) : (win0_1.blk (0 : Fin 1)).view.read (Elt Ideal) f = f :=
  have hz : (fun a => win0_1.index (0 : Fin 1) a * main_arg1.ty.shape.size a) = fun _ => 0 := funext fun a => by fin_cases a <;> decide
  Memref.read_access_unit_zero (Elt Ideal) main_arg1 hz (fun a => by fin_cases a <;> decide) f
theorem read2 (f : main_arg4.ty.Contents (Elt Ideal)) : (win0_2.blk (0 : Fin 1)).view.read (Elt Ideal) f = f :=
  have hz : (fun a => win0_2.index (0 : Fin 1) a * main_arg4.ty.shape.size a) = fun _ => 0 := funext fun a => by fin_cases a <;> decide
  Memref.read_access_unit_zero (Elt Ideal) main_arg4 hz (fun a => by fin_cases a <;> decide) f
theorem read3 (f : main_arg2.ty.Contents (Elt Ideal)) : (win0_3.blk (0 : Fin 1)).view.read (Elt Ideal) f = f :=
  have hz : (fun a => win0_3.index (0 : Fin 1) a * main_arg2.ty.shape.size a) = fun _ => 0 := funext fun a => by fin_cases a <;> decide
  Memref.read_access_unit_zero (Elt Ideal) main_arg2 hz (fun a => by fin_cases a <;> decide) f
theorem read4 (f : main_arg5.ty.Contents (Elt Ideal)) : (win0_4.blk (0 : Fin 1)).view.read (Elt Ideal) f = f :=
  have hz : (fun a => win0_4.index (0 : Fin 1) a * main_arg5.ty.shape.size a) = fun _ => 0 := funext fun a => by fin_cases a <;> decide
  Memref.read_access_unit_zero (Elt Ideal) main_arg5 hz (fun a => by fin_cases a <;> decide) f
theorem read5 (f : main_arg3.ty.Contents (Elt Ideal)) : (win0_5.blk (0 : Fin 1)).view.read (Elt Ideal) f = f :=
  have hz : (fun a => win0_5.index (0 : Fin 1) a * main_arg3.ty.shape.size a) = fun _ => 0 := funext fun a => by fin_cases a <;> decide
  Memref.read_access_unit_zero (Elt Ideal) main_arg3 hz (fun a => by fin_cases a <;> decide) f
theorem read6 (f : main_arg6.ty.Contents (Elt Ideal)) : (win0_6.blk (0 : Fin 1)).view.read (Elt Ideal) f = f :=
  have hz : (fun a => win0_6.index (0 : Fin 1) a * main_arg6.ty.shape.size a) = fun _ => 0 := funext fun a => by fin_cases a <;> decide
  Memref.read_access_unit_zero (Elt Ideal) main_arg6 hz (fun a => by fin_cases a <;> decide) f
theorem read7 (f : main_v1.ty.Contents (Elt Ideal)) : (win0_7.blk (0 : Fin 1)).view.read (Elt Ideal) f = f :=
  have hz : (fun a => win0_7.index (0 : Fin 1) a * main_v1.ty.shape.size a) = fun _ => 0 := funext fun a => by fin_cases a <;> decide
  Memref.read_access_unit_zero (Elt Ideal) main_v1 hz (fun a => by fin_cases a <;> decide) f

theorem vals_x (c : Dev nD) : (vals m).x c = m ((c.tc : Thread nD τ).loc main_arg0) := read0 _
theorem vals_win0 (c : Dev nD) : (vals m).win 0 c = m ((c.tc : Thread nD τ).loc main_arg1) := read1 _
theorem vals_win1 (c : Dev nD) : (vals m).win 1 c = m ((c.tc : Thread nD τ).loc main_arg2) := read3 _
theorem vals_win2 (ℓ : ℕ) (c : Dev nD) : (vals m).win (ℓ + 2) c = m ((c.tc : Thread nD τ).loc main_arg3) := read5 _
theorem vals_wout0 (c : Dev nD) : (vals m).wout 0 c = m ((c.tc : Thread nD τ).loc main_arg4) := read2 _
theorem vals_wout1 (c : Dev nD) : (vals m).wout 1 c = m ((c.tc : Thread nD τ).loc main_arg5) := read4 _
theorem vals_wout2 (ℓ : ℕ) (c : Dev nD) : (vals m).wout (ℓ + 2) c = m ((c.tc : Thread nD τ).loc main_arg6) := read6 _

/-- The result array ends as what the body left in the last window. -/
theorem final_eq (c : Dev nD) : final m c = outV (vals m) c := by
  have h : (win0_7.blk (0 : Fin 1)).view.read (Elt Ideal) (finalA m c (7 : Fin 8)) = outV (vals m) c := by
    unfold finalA
    rw [show cfg0.N = ((0 : Fin 1) : Fin cfg0.N).val + 1 from rfl, (dats m 0 c).arrAt_succ (7 : Fin 8) (0 : Fin 1)]
    rw [show (cfg0.win (7 : Fin 8)).flush (0 : Fin 1) = true from by decide, if_pos rfl]
    exact View.read_write_univ _ _
  rw [← h]
  exact (read7 _).symm

end Ideal

/-! ## The value -/

variable (m' : (ℓ : Loc Cert.ReferenceIdeal.nD Cert.ReferenceIdeal.τ Cert.ReferenceIdeal.sig) → Buf (Elt Ideal) ℓ)

/-- The reference's matrices, by layer. -/
def refIn (ℓ : ℕ) : FVec Ideal ⟨2, ![256, 8192]⟩ .f32 := match ℓ with
  | 0 => refArg m' Cert.ReferenceIdeal.main_arg1
  | 1 => refArg m' Cert.ReferenceIdeal.main_arg2
  | _ => refArg m' Cert.ReferenceIdeal.main_arg3
def refBack (ℓ : ℕ) : FVec Ideal ⟨2, ![8192, 256]⟩ .f32 := match ℓ with
  | 0 => refArg m' Cert.ReferenceIdeal.main_arg4
  | 1 => refArg m' Cert.ReferenceIdeal.main_arg5
  | _ => refArg m' Cert.ReferenceIdeal.main_arg6

/-- The reference's result is its rows after the three layers. -/
theorem refOut_apply (n : Fin 4096) (j : Fin 256) :
    refOut m' (ix2 n j) = act (refArg m' Cert.ReferenceIdeal.main_arg0) (refIn m') (refBack m') 3 n j := by
  unfold refOut
  rw [refLayer_apply]
  simp only [refLayer_apply]
  rfl

theorem algebraic : Cert.algebraic_KernelIdeal_ReferenceIdeal := by
  intro m g m' g' _ hm
  refine ⟨refOut m', ?_, ref_run m' g'⟩
  refine (θ_run Cert.KernelIdeal.defs _ _).mono (fun r h c => ⟨(h.1 c).1.trans ?_, (h.1 c).2⟩) (Cert.KernelIdeal.Ring.run_all (F := Ideal) m g)
  have H : Shares (vals m) (refArg m' Cert.ReferenceIdeal.main_arg0) (refIn m') (refBack m') :=
    { x := fun c => (vals_x m c).trans (hm c).1
      wi := fun ℓ c => match ℓ with
        | 0 => (vals_win0 m c).trans (hm c).2.1
        | 1 => (vals_win1 m c).trans (hm c).2.2.1
        | ℓ + 2 => (vals_win2 m ℓ c).trans (hm c).2.2.2.1
      wo := fun ℓ c => match ℓ with
        | 0 => (vals_wout0 m c).trans (hm c).2.2.2.2.1
        | 1 => (vals_wout1 m c).trans (hm c).2.2.2.2.2.1
        | ℓ + 2 => (vals_wout2 m ℓ c).trans (hm c).2.2.2.2.2.2 }
  rw [final_eq]
  funext i
  obtain ⟨a, b, rfl⟩ : ∃ (a b : Fin 256), i = ix2 a b := ⟨i 0, i 1, eq_ix2 i⟩
  have hn : c.val * 256 + a.val < 4096 := by have : c.val < 16 := c.isLt; have := a.isLt; omega
  rw [outV_apply H c a b ⟨c.val * 256 + a.val, hn⟩ rfl, ← refOut_apply]
  refine congrArg (refOut m') (funext fun q => ?_)
  match q with
  | ⟨0, _⟩ => exact Fin.ext (Layout.idx_rows_val (dS := ![256, 256]) (dT := ![4096, 256]) (k := 16) (by decide) c (ix2 a b)).1.symm
  | ⟨1, _⟩ => exact Fin.ext (Layout.idx_rows_val (dS := ![256, 256]) (dT := ![4096, 256]) (k := 16) (by decide) c (ix2 a b)).2.symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, trivial, algebraic⟩

end Cert.Proof

end
